-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_bounds [hPre_bounds : Cert.Pre_bounds.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_bounds.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_bounds [hPre_bounds : Cert.Pre_bounds.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_bounds.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_bounds [hKernel4Ideal : Cert.Kernel4Ideal.Facts] [hPre_bounds : Cert.Pre_bounds.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_bounds m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_bounds [hReference4Ideal : Cert.Reference4Ideal.Facts] [hPre_bounds : Cert.Pre_bounds.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_bounds m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal_on_latent_rows_pre_finite [hKernelIdeal : Cert.KernelIdeal.Facts] [hReferenceIdeal : Cert.ReferenceIdeal.Facts] [hPre_finite : Cert.Pre_finite.Facts] [hOn_latent_rows : Cert.On_latent_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![17408, 4096]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.KernelIdeal.nD Cert.KernelIdeal.τ).loc Cert.KernelIdeal.main_v22) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![17408, 4096]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.ReferenceIdeal.nD Cert.ReferenceIdeal.τ).loc Cert.ReferenceIdeal.main_v31) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_bounds [hKernel4Ideal : Cert.Kernel4Ideal.Facts] [hReference4Ideal : Cert.Reference4Ideal.Facts] [hPre_bounds : Cert.Pre_bounds.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_bounds m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v131) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v52)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v52) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v64) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v51)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v51) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v54) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v9_0)) (v1 : (c : Dev Cert.Kernel10Ideal.nD) → Buf (Elt Ideal) ((c.tc : Thread Cert.Kernel10Ideal.nD Cert.Kernel10Ideal.τ).loc Cert.Kernel10Ideal.main_v9_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9_0) = v0 c
          ∧ r.2.mem ((c.tc : Thread Cert.Kernel10Ideal.nD Cert.Kernel10Ideal.τ).loc Cert.Kernel10Ideal.main_v9_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v69) = v0 c
          ∧ r.2.mem ((c.tc : Thread Cert.Reference10Ideal.nD Cert.Reference10Ideal.τ).loc Cert.Reference10Ideal.main_v71) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_bounds : Cert.Pre_bounds.Facts) (hOn_latent_rows : Cert.On_latent_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_bounds (hKernel4Ideal := hKernel4Ideal) (hPre_bounds := hPre_bounds)
    ∧ quiescent_Reference4Ideal (hReference4Ideal := hReference4Ideal)
    ∧ quiescent_Reference4Ideal_pre_bounds (hReference4Ideal := hReference4Ideal) (hPre_bounds := hPre_bounds)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_on_latent_rows_pre_finite (hKernelIdeal := hKernelIdeal) (hReferenceIdeal := hReferenceIdeal) (hPre_finite := hPre_finite) (hOn_latent_rows := hOn_latent_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_bounds (hKernel4Ideal := hKernel4Ideal) (hReference4Ideal := hReference4Ideal) (hPre_bounds := hPre_bounds)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== On_latent_rows.lean ====
abbrev S4x4096x32x192 : Shape := ⟨4, ![4, 4096, 32, 192]⟩
abbrev S4x256x32x192 : Shape := ⟨4, ![4, 256, 32, 192]⟩
abbrev S4x4096x32x256 : Shape := ⟨4, ![4, 4096, 32, 256]⟩
abbrev S4x256x32x256 : Shape := ⟨4, ![4, 256, 32, 256]⟩
abbrev S4x4096x64 : Shape := ⟨3, ![4, 4096, 64]⟩
abbrev S4x256x64 : Shape := ⟨3, ![4, 256, 64]⟩
abbrev S17408x4096 : Shape := ⟨2, ![17408, 4096]⟩
abbrev S_ : Shape := ⟨0, ![]⟩

class Facts : Prop where
  bcast_S_S17408x4096 : S_.BroadcastsInDim S17408x4096 (![] : Fin 0 → Fin S17408x4096.rank)

variable [Facts]

def fn {F : FTy → Type} [FloatOps F] (main_arg0 : FVec F S4x4096x32x192 .f32) (main_arg1 : FVec F S4x256x32x192 .f32) (main_arg2 : FVec F S4x4096x32x256 .f32) (main_arg3 : FVec F S4x256x32x256 .f32) (main_arg4 : FVec F S4x4096x64 .f32) (main_arg5 : FVec F S4x256x64 .f32) : IVec S17408x4096 1 :=
  let main_v0 : IVec S17408x4096 32 := iotaInDim S17408x4096 32 0
  let main_c : IVec S_ 32 := constantI S_ 32 16384#32
  let main_v1 : IVec S17408x4096 32 := broadcastInDim S17408x4096 ![] bcast_S_S17408x4096 main_c
  let main_v2 : IVec S17408x4096 1 := cmpi .slt main_v0 main_v1
  main_v2
-- ==== Pre_bounds.lean ====
abbrev S4x4096x4096 : Shape := ⟨3, ![4, 4096, 4096]⟩
abbrev S4x256x4096 : Shape := ⟨3, ![4, 256, 4096]⟩
abbrev S2x4096x20480 : Shape := ⟨3, ![2, 4096, 20480]⟩
abbrev S2x4096 : Shape := ⟨2, ![2, 4096]⟩
abbrev S_ : Shape := ⟨0, ![]⟩

class Facts : Prop where
  bcast_S_S2x4096 : S_.BroadcastsInDim S2x4096 (![] : Fin 0 → Fin S2x4096.rank)
  reducesTo_S2x4096_S_d0_1 : S2x4096.ReducesTo [0, 1] S_
  h_S_ : 0 < S_.numel

variable [Facts]

def fn {F : FTy → Type} [FloatOps F] (main_arg0 : FVec F S4x4096x4096 .f32) (main_arg1 : FVec F S4x256x4096 .f32) (main_arg2 : FVec F S2x4096x20480 .f32) (main_arg3 : FVec F S2x4096 .f32) : IVec S_ 1 :=
  let main_cst : FVec F S_ .f32 := constant S_ .f32 0x00000000#32
  let main_v0 : FVec F S2x4096 .f32 := broadcastInDim S2x4096 ![] bcast_S_S2x4096 main_cst
  let main_v1 : IVec S2x4096 1 := cmpf .oge main_arg3 main_v0
  let main_cst_0 : FVec F S_ .f32 := constant S_ .f32 0x3F800000#32
  let main_v2 : FVec F S2x4096 .f32 := broadcastInDim S2x4096 ![] bcast_S_S2x4096 main_cst_0
  let main_v3 : IVec S2x4096 1 := cmpf .ole main_arg3 main_v2
  let main_v4 : IVec S2x4096 1 := andi main_v1 main_v3
  let main_c : IVec S_ 1 := constantI S_ 1 1#1
  let main_v5 : IVec S_ 1 := (fun x v => Host.reduce IntOp.andi x v reducesTo_S2x4096_S_d0_1 h_S_) main_v4 main_c
  main_v5
-- ==== Pre_finite.lean ====
abbrev S4x4096x32x192 : Shape := ⟨4, ![4, 4096, 32, 192]⟩
abbrev S4x256x32x192 : Shape := ⟨4, ![4, 256, 32, 192]⟩
abbrev S4x4096x32x256 : Shape := ⟨4, ![4, 4096, 32, 256]⟩
abbrev S4x256x32x256 : Shape := ⟨4, ![4, 256, 32, 256]⟩
abbrev S4x4096x64 : Shape := ⟨3, ![4, 4096, 64]⟩
abbrev S4x256x64 : Shape := ⟨3, ![4, 256, 64]⟩
abbrev S_ : Shape := ⟨0, ![]⟩
abbrev S4x4096x32x128 : Shape := ⟨4, ![4, 4096, 32, 128]⟩
abbrev S4x256x32x128 : Shape := ⟨4, ![4, 256, 32, 128]⟩

class Facts : Prop where
  bcast_S_S4x4096x32x192 : S_.BroadcastsInDim S4x4096x32x192 (![] : Fin 0 → Fin S4x4096x32x192.rank)
  reducesTo_S4x4096x32x192_S_d0_1_2_3 : S4x4096x32x192.ReducesTo [0, 1, 2, 3] S_
  h_S_ : 0 < S_.numel
  slices_S4x4096x32x256_S4x4096x32x128_0_0_0_0 : S4x4096x32x256.Slices ![0, 0, 0, 0] S4x4096x32x128
  bcast_S_S4x4096x32x128 : S_.BroadcastsInDim S4x4096x32x128 (![] : Fin 0 → Fin S4x4096x32x128.rank)
  reducesTo_S4x4096x32x128_S_d0_1_2_3 : S4x4096x32x128.ReducesTo [0, 1, 2, 3] S_
  slices_S4x256x32x256_S4x256x32x128_0_0_0_0 : S4x256x32x256.Slices ![0, 0, 0, 0] S4x256x32x128
  bcast_S_S4x256x32x128 : S_.BroadcastsInDim S4x256x32x128 (![] : Fin 0 → Fin S4x256x32x128.rank)
  reducesTo_S4x256x32x128_S_d0_1_2_3 : S4x256x32x128.ReducesTo [0, 1, 2, 3] S_
  bcast_S_S4x4096x64 : S_.BroadcastsInDim S4x4096x64 (![] : Fin 0 → Fin S4x4096x64.rank)
  reducesTo_S4x4096x64_S_d0_1_2 : S4x4096x64.ReducesTo [0, 1, 2] S_
  bcast_S_S4x256x64 : S_.BroadcastsInDim S4x256x64 (![] : Fin 0 → Fin S4x256x64.rank)
  reducesTo_S4x256x64_S_d0_1_2 : S4x256x64.ReducesTo [0, 1, 2] S_

variable [Facts]

def fn_part1 {F : FTy → Type} [FloatOps F] (main_arg5 : FVec F S4x256x64 .f32) (main_v15 : IVec S_ 1) (main_v16 : FVec F S4x4096x64 .f32) (main_cst_4 : FVec F S_ .f32) : IVec S_ 1 :=
  let main_v17 : FVec F S4x4096x64 .f32 := broadcastInDim S4x4096x64 ![] bcast_S_S4x4096x64 main_cst_4
  let main_v18 : IVec S4x4096x64 1 := cmpf .olt main_v16 main_v17
  let main_c_5 : IVec S_ 1 := constantI S_ 1 1#1
  let main_v19 : IVec S_ 1 := (fun x v => Host.reduce IntOp.andi x v reducesTo_S4x4096x64_S_d0_1_2 h_S_) main_v18 main_c_5
  let main_v20 : IVec S_ 1 := andi main_v15 main_v19
  let main_v21 : FVec F S4x256x64 .f32 := Host.absf main_arg5
  let main_cst_6 : FVec F S_ .f32 := constant S_ .f32 0x7F800000#32
  let main_v22 : FVec F S4x256x64 .f32 := broadcastInDim S4x256x64 ![] bcast_S_S4x256x64 main_cst_6
  let main_v23 : IVec S4x256x64 1 := cmpf .olt main_v21 main_v22
  let main_c_7 : IVec S_ 1 := constantI S_ 1 1#1
  let main_v24 : IVec S_ 1 := (fun x v => Host.reduce IntOp.andi x v reducesTo_S4x256x64_S_d0_1_2 h_S_) main_v23 main_c_7
  let main_v25 : IVec S_ 1 := andi main_v20 main_v24
  main_v25

def fn {F : FTy → Type} [FloatOps F] (main_arg0 : FVec F S4x4096x32x192 .f32) (main_arg1 : FVec F S4x256x32x192 .f32) (main_arg2 : FVec F S4x4096x32x256 .f32) (main_arg3 : FVec F S4x256x32x256 .f32) (main_arg4 : FVec F S4x4096x64 .f32) (main_arg5 : FVec F S4x256x64 .f32) : IVec S_ 1 :=
  let main_v0 : FVec F S4x4096x32x192 .f32 := Host.absf main_arg0
  let main_cst : FVec F S_ .f32 := constant S_ .f32 0x7F800000#32
  let main_v1 : FVec F S4x4096x32x192 .f32 := broadcastInDim S4x4096x32x192 ![] bcast_S_S4x4096x32x192 main_cst
  let main_v2 : IVec S4x4096x32x192 1 := cmpf .olt main_v0 main_v1
  let main_c : IVec S_ 1 := constantI S_ 1 1#1
  let main_v3 : IVec S_ 1 := (fun x v => Host.reduce IntOp.andi x v reducesTo_S4x4096x32x192_S_d0_1_2_3 h_S_) main_v2 main_c
  let main_v4 : FVec F S4x4096x32x128 .f32 := (extractStridedSlice S4x4096x32x128 ![0, 0, 0, 0] · slices_S4x4096x32x256_S4x4096x32x128_0_0_0_0) main_arg2
  let main_v5 : FVec F S4x4096x32x128 .f32 := Host.absf main_v4
  let main_cst_0 : FVec F S_ .f32 := constant S_ .f32 0x7F800000#32
  let main_v6 : FVec F S4x4096x32x128 .f32 := broadcastInDim S4x4096x32x128 ![] bcast_S_S4x4096x32x128 main_cst_0
  let main_v7 : IVec S4x4096x32x128 1 := cmpf .olt main_v5 main_v6
  let main_c_1 : IVec S_ 1 := constantI S_ 1 1#1
  let main_v8 : IVec S_ 1 := (fun x v => Host.reduce IntOp.andi x v reducesTo_S4x4096x32x128_S_d0_1_2_3 h_S_) main_v7 main_c_1
  let main_v9 : IVec S_ 1 := andi main_v3 main_v8
  let main_v10 : FVec F S4x256x32x128 .f32 := (extractStridedSlice S4x256x32x128 ![0, 0, 0, 0] · slices_S4x256x32x256_S4x256x32x128_0_0_0_0) main_arg3
  let main_v11 : FVec F S4x256x32x128 .f32 := Host.absf main_v10
  let main_cst_2 : FVec F S_ .f32 := constant S_ .f32 0x7F800000#32
  let main_v12 : FVec F S4x256x32x128 .f32 := broadcastInDim S4x256x32x128 ![] bcast_S_S4x256x32x128 main_cst_2
  let main_v13 : IVec S4x256x32x128 1 := cmpf .olt main_v11 main_v12
  let main_c_3 : IVec S_ 1 := constantI S_ 1 1#1
  let main_v14 : IVec S_ 1 := (fun x v => Host.reduce IntOp.andi x v reducesTo_S4x256x32x128_S_d0_1_2_3 h_S_) main_v13 main_c_3
  let main_v15 : IVec S_ 1 := andi main_v9 main_v14
  let main_v16 : FVec F S4x4096x64 .f32 := Host.absf main_arg4
  let main_cst_4 : FVec F S_ .f32 := constant S_ .f32 0x7F800000#32
  fn_part1 (F := F) main_arg5 main_v15 main_v16 main_cst_4
-- ==== Kernel.lean ====
abbrev S4x4096x32x192 : Shape := ⟨4, ![4, 4096, 32, 192]⟩
abbrev S4x256x32x192 : Shape := ⟨4, ![4, 256, 32, 192]⟩
abbrev S4x4096x32x256 : Shape := ⟨4, ![4, 4096, 32, 256]⟩
abbrev S4x256x32x256 : Shape := ⟨4, ![4, 256, 32, 256]⟩
abbrev S4x4096x64 : Shape := ⟨3, ![4, 4096, 64]⟩
abbrev S4x256x64 : Shape := ⟨3, ![4, 256, 64]⟩
abbrev S_ : Shape := ⟨0, ![]⟩
abbrev S16384x32x192 : Shape := ⟨3, ![16384, 32, 192]⟩
abbrev S1024x32x192 : Shape := ⟨3, ![1024, 32, 192]⟩
abbrev S17408x32x192 : Shape := ⟨3, ![17408, 32, 192]⟩
abbrev S17408x32x256 : Shape := ⟨3, ![17408, 32, 256]⟩
abbrev S17408x8192 : Shape := ⟨2, ![17408, 8192]⟩
abbrev S16384x32x256 : Shape := ⟨3, ![16384, 32, 256]⟩
abbrev S1024x32x256 : Shape := ⟨3, ![1024, 32, 256]⟩
abbrev S16384x64 : Shape := ⟨2, ![16384, 64]⟩
abbrev S1024x64 : Shape := ⟨2, ![1024, 64]⟩
abbrev S17408x64 : Shape := ⟨2, ![17408, 64]⟩
abbrev S17408x128 : Shape := ⟨2, ![17408, 128]⟩
abbrev S17408x4096 : Shape := ⟨2, ![17408, 4096]⟩
abbrev S4096x256 : Shape := ⟨2, ![4096, 256]⟩
abbrev S256x128 : Shape := ⟨2, ![256, 128]⟩
abbrev S4096x128 : Shape := ⟨2, ![4096, 128]⟩
abbrev S4352x256 : Shape := ⟨2, ![4352, 256]⟩
abbrev S4352x128 : Shape := ⟨2, ![4352, 128]⟩
abbrev S256x256 : Shape := ⟨2, ![256, 256]⟩
abbrev S4096 : Shape := ⟨1, ![4096]⟩
abbrev S4096x1 : Shape := ⟨2, ![4096, 1]⟩
abbrev S1024x256 : Shape := ⟨2, ![1024, 256]⟩
abbrev S4096x1024 : Shape := ⟨2, ![4096, 1024]⟩

abbrev nBuf : Space → Nat
  | .hbm => 36
  | .vmem => 18
  | .smem => 0
  | _ => 0

abbrev bufTy : (tb : Table) → Fin (tcTables nBuf tb) → BufTy
  | .hbm, ⟨0, _⟩ => ⟨S4x4096x32x192, .f32⟩
  | .hbm, ⟨1, _⟩ => ⟨S4x256x32x192, .f32⟩
  | .hbm, ⟨2, _⟩ => ⟨S4x4096x32x256, .f32⟩
  | .hbm, ⟨3, _⟩ => ⟨S4x256x32x256, .f32⟩
  | .hbm, ⟨4, _⟩ => ⟨S4x4096x64, .f32⟩
  | .hbm, ⟨5, _⟩ => ⟨S4x256x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384x32x192, .f32⟩
  | .hbm, ⟨14, _⟩ => ⟨S1024x32x192, .f32⟩
  | .hbm, ⟨15, _⟩ => ⟨S17408x32x192, .f32⟩
  | .hbm, ⟨16, _⟩ => ⟨S17408x32x192, .f32⟩
  | .hbm, ⟨17, _⟩ => ⟨S17408x32x192, .f32⟩
  | .hbm, ⟨18, _⟩ => ⟨S_, .i32⟩
  | .hbm, ⟨19, _⟩ => ⟨S_, .f32⟩
  | .hbm, ⟨20, _⟩ => ⟨S17408x32x256, .f32⟩
  | .hbm, ⟨21, _⟩ => ⟨S17408x8192, .f32⟩
  | .hbm, ⟨22, _⟩ => ⟨S17408x8192, .bf16⟩
  | .hbm, ⟨23, _⟩ => ⟨S16384x32x256, .f32⟩
  | .hbm, ⟨24, _⟩ => ⟨S1024x32x256, .f32⟩
  | .hbm, ⟨25, _⟩ => ⟨S17408x32x256, .f32⟩
  | .hbm, ⟨26, _⟩ => ⟨S17408x8192, .f32⟩
  | .hbm, ⟨27, _⟩ => ⟨S17408x8192, .bf16⟩
  | .hbm, ⟨28, _⟩ => ⟨S16384x64, .f32⟩
  | .hbm, ⟨29, _⟩ => ⟨S1024x64, .f32⟩
  | .hbm, ⟨30, _⟩ => ⟨S17408x64, .f32⟩
  | .hbm, ⟨31, _⟩ => ⟨S_, .i32⟩
  | .hbm, ⟨32, _⟩ => ⟨S_, .f32⟩
  | .hbm, ⟨33, _⟩ => ⟨S17408x128, .f32⟩
  | .hbm, ⟨34, _⟩ => ⟨S17408x128, .bf16⟩
  | .hbm, ⟨35, _⟩ => ⟨S17408x4096, .bf16⟩
  | .local _ .vmem, ⟨0, _⟩ => ⟨S4096x256, .bf16⟩
  | .local _ .vmem, ⟨1, _⟩ => ⟨S4096x256, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4352x256, .bf16⟩
  | .local _ .vmem, ⟨17, _⟩ => ⟨S4352x256, .bf16⟩
  | _, _ => ⟨S4x4096x32x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_call1_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c2_i32 : BitVec 32 := 2#32
  let v1 : BitVec 32 := Scalar.muli c2_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c2_i32 : BitVec 32 := 2#32
  let v1 : BitVec 32 := Scalar.muli c2_i32 arg1
  let c1_i32 : BitVec 32 := 1#32
  let v2 : BitVec 32 := Scalar.addi v1 c1_i32
  let c0_i32 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S4x4096x32x192 : Shape := ⟨4, ![4, 4096, 32, 192]⟩
abbrev S4x256x32x192 : Shape := ⟨4, ![4, 256, 32, 192]⟩
abbrev S4x4096x32x256 : Shape := ⟨4, ![4, 4096, 32, 256]⟩
abbrev S4x256x32x256 : Shape := ⟨4, ![4, 256, 32, 256]⟩
abbrev S4x4096x64 : Shape := ⟨3, ![4, 4096, 64]⟩
abbrev S4x256x64 : Shape := ⟨3, ![4, 256, 64]⟩
abbrev S4x4096x32x128 : Shape := ⟨4, ![4, 4096, 32, 128]⟩
abbrev S4x4096x32x64 : Shape := ⟨4, ![4, 4096, 32, 64]⟩
abbrev S4x256x32x128 : Shape := ⟨4, ![4, 256, 32, 128]⟩
abbrev S4x4352x32x128 : Shape := ⟨4, ![4, 4352, 32, 128]⟩
abbrev S4x4352x64 : Shape := ⟨3, ![4, 4352, 64]⟩
abbrev S4x32x4096x4352 : Shape := ⟨4, ![4, 32, 4096, 4352]⟩
abbrev S4x4352x4096x32 : Shape := ⟨4, ![4, 4352, 4096, 32]⟩
abbrev S_ : Shape := ⟨0, ![]⟩
abbrev S4x32x4096 : Shape := ⟨3, ![4, 32, 4096]⟩
abbrev S4x32x4096x1 : Shape := ⟨4, ![4, 32, 4096, 1]⟩
abbrev S4x32x128x4096 : Shape := ⟨4, ![4, 32, 128, 4096]⟩
abbrev S16384x4096 : Shape := ⟨2, ![16384, 4096]⟩
abbrev S17408x4096 : Shape := ⟨2, ![17408, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x32x192, .f32⟩
  | .hbm, ⟨1, _⟩ => ⟨S4x256x32x192, .f32⟩
  | .hbm, ⟨2, _⟩ => ⟨S4x4096x32x256, .f32⟩
  | .hbm, ⟨3, _⟩ => ⟨S4x256x32x256, .f32⟩
  | .hbm, ⟨4, _⟩ => ⟨S4x4096x64, .f32⟩
  | .hbm, ⟨5, _⟩ => ⟨S4x256x64, .f32⟩
  | .hbm, ⟨6, _⟩ => ⟨S4x4096x32x128, .f32⟩
  | .hbm, ⟨7, _⟩ => ⟨S4x4096x32x64, .f32⟩
  | .hbm, ⟨8, _⟩ => ⟨S4x256x32x128, .f32⟩
  | .hbm, ⟨9, _⟩ => ⟨S4x4096x32x128, .f32⟩
  | .hbm, ⟨10, _⟩ => ⟨S4x4352x32x128, .f32⟩
  | .hbm, ⟨11, _⟩ => ⟨S4x4352x64, .f32⟩
  | .hbm, ⟨12, _⟩ => ⟨S4x256x32x128, .f32⟩
  | .hbm, ⟨13, _⟩ => ⟨S4x4096x32x128, .f32⟩
  | .hbm, ⟨14, _⟩ => ⟨S4x4352x32x128, .f32⟩
  | .hbm, ⟨15, _⟩ => ⟨S4x32x4096x4352, .f32⟩
  | .hbm, ⟨16, _⟩ => ⟨S4x4352x4096x32, .f32⟩
  | .hbm, ⟨17, _⟩ => ⟨S4x32x4096x4352, .f32⟩
  | .hbm, ⟨18, _⟩ => ⟨S4x32x4096x4352, .f32⟩
  | .hbm, ⟨19, _⟩ => ⟨S_, .f32⟩
  | .hbm, ⟨20, _⟩ => ⟨S_, .f32⟩
  | .hbm, ⟨21, _⟩ => ⟨S4x32x4096x4352, .f32⟩
  | .hbm, ⟨22, _⟩ => ⟨S4x32x4096x4352, .f32⟩
  | .hbm, ⟨23, _⟩ => ⟨S_, .f32⟩
  | .hbm, ⟨24, _⟩ => ⟨S4x32x4096, .f32⟩
  | .hbm, ⟨25, _⟩ => ⟨S_, .f32⟩
  | .hbm, ⟨26, _⟩ => ⟨S4x32x4096, .f32⟩
  | .hbm, ⟨27, _⟩ => ⟨S4x32x4096, .f32⟩
  | .hbm, ⟨28, _⟩ => ⟨S4x32x4096x1, .f32⟩
  | .hbm, ⟨29, _⟩ => ⟨S4x32x4096x4352, .f32⟩
  | .hbm, ⟨30, _⟩ => ⟨S4x32x4096x4352, .f32⟩
  | .hbm, ⟨31, _⟩ => ⟨S4x32x4096x4352, .f32⟩
  | .hbm, ⟨32, _⟩ => ⟨S_, .f32⟩
  | .hbm, ⟨33, _⟩ => ⟨S4x32x4096, .f32⟩
  | .hbm, ⟨34, _⟩ => ⟨S4x32x4096x1, .f32⟩
  | .hbm, ⟨35, _⟩ => ⟨S4x32x4096x4352, .f32⟩
  | .hbm, ⟨36, _⟩ => ⟨S4x32x4096x4352, .f32⟩
  | .hbm, ⟨37, _⟩ => ⟨S4x32x128x4096, .f32⟩
  | .hbm, ⟨38, _⟩ => ⟨S4x4096x32x128, .f32⟩
  | .hbm, ⟨39, _⟩ => ⟨S16384x4096, .f32⟩
  | .hbm, ⟨40, _⟩ => ⟨S_, .i32⟩
  | .hbm, ⟨41, _⟩ => ⟨S_, .f32⟩
  | .hbm, ⟨42, _⟩ => ⟨S17408x4096, .f32⟩
  | .hbm, ⟨43, _⟩ => ⟨S17408x4096, .bf16⟩
  | _, _ => ⟨S4x4096x32x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel2.lean ====
abbrev S4x4096x4096 : Shape := ⟨3, ![4, 4096, 4096]⟩
abbrev S4x256x4096 : Shape := ⟨3, ![4, 256, 4096]⟩
abbrev S4x4096x16384 : Shape := ⟨3, ![4, 4096, 16384]⟩
abbrev S16384x4096 : Shape := ⟨2, ![16384, 4096]⟩
abbrev S1024x4096 : Shape := ⟨2, ![1024, 4096]⟩
abbrev S17408x4096 : Shape := ⟨2, ![17408, 4096]⟩
abbrev S17408x16384 : Shape := ⟨2, ![17408, 16384]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4x256x4096, .f32⟩
  | .hbm, ⟨2, _⟩ => ⟨S4x4096x16384, .f32⟩
  | .hbm, ⟨3, _⟩ => ⟨S16384x4096, .f32⟩
  | .hbm, ⟨4, _⟩ => ⟨S1024x4096, .f32⟩
  | .hbm, ⟨5, _⟩ => ⟨S17408x4096, .f32⟩
  | .hbm, ⟨6, _⟩ => ⟨S17408x4096, .bf16⟩
  | .hbm, ⟨7, _⟩ => ⟨S4x4096x16384, .bf16⟩
  | .hbm, ⟨8, _⟩ => ⟨S17408x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![17, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4x4096x4096 : Shape := ⟨3, ![4, 4096, 4096]⟩
abbrev S4x256x4096 : Shape := ⟨3, ![4, 256, 4096]⟩
abbrev S4x4096x16384 : Shape := ⟨3, ![4, 4096, 16384]⟩
abbrev S1x4096x16384 : Shape := ⟨3, ![1, 4096, 16384]⟩
abbrev S4096x16384 : Shape := ⟨2, ![4096, 16384]⟩
abbrev S_ : Shape := ⟨0, ![]⟩
abbrev S16384x16384 : Shape := ⟨2, ![16384, 16384]⟩
abbrev S4x256x16384 : Shape := ⟨3, ![4, 256, 16384]⟩
abbrev S1024x16384 : Shape := ⟨2, ![1024, 16384]⟩
abbrev S17408x16384 : Shape := ⟨2, ![17408, 16384]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x256x4096, .f32⟩
  | .hbm, ⟨2, _⟩ => ⟨S4x4096x16384, .f32⟩
  | .hbm, ⟨3, _⟩ => ⟨S1x4096x16384, .f32⟩
  | .hbm, ⟨4, _⟩ => ⟨S4096x16384, .f32⟩
  | .hbm, ⟨5, _⟩ => ⟨S4x4096x16384, .f32⟩
  | .hbm, ⟨6, _⟩ => ⟨S_, .f32⟩
  | .hbm, ⟨7, _⟩ => ⟨S4x4096x16384, .f32⟩
  | .hbm, ⟨8, _⟩ => ⟨S4x4096x16384, .f32⟩
  | .hbm, ⟨9, _⟩ => ⟨S4x4096x16384, .f32⟩
  | .hbm, ⟨10, _⟩ => ⟨S16384x16384, .f32⟩
  | .hbm, ⟨11, _⟩ => ⟨S1x4096x16384, .f32⟩
  | .hbm, ⟨12, _⟩ => ⟨S4096x16384, .f32⟩
  | .hbm, ⟨13, _⟩ => ⟨S4x256x16384, .f32⟩
  | .hbm, ⟨14, _⟩ => ⟨S_, .f32⟩
  | .hbm, ⟨15, _⟩ => ⟨S4x256x16384, .f32⟩
  | .hbm, ⟨16, _⟩ => ⟨S4x256x16384, .f32⟩
  | .hbm, ⟨17, _⟩ => ⟨S4x256x16384, .f32⟩
  | .hbm, ⟨18, _⟩ => ⟨S1024x16384, .f32⟩
  | .hbm, ⟨19, _⟩ => ⟨S17408x16384, .f32⟩
  | .hbm, ⟨20, _⟩ => ⟨S17408x16384, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call1_cst : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Kernel3.lean ====
abbrev S4x4096x16384 : Shape := ⟨3, ![4, 4096, 16384]⟩
abbrev S4x256x16384 : Shape := ⟨3, ![4, 256, 16384]⟩
abbrev S4x16384x4096 : Shape := ⟨3, ![4, 16384, 4096]⟩
abbrev S16384x16384 : Shape := ⟨2, ![16384, 16384]⟩
abbrev S1024x16384 : Shape := ⟨2, ![1024, 16384]⟩
abbrev S17408x16384 : Shape := ⟨2, ![17408, 16384]⟩
abbrev S17408x4096 : Shape := ⟨2, ![17408, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4x4096x16384, .f32⟩
  | .hbm, ⟨1, _⟩ => ⟨S4x256x16384, .f32⟩
  | .hbm, ⟨2, _⟩ => ⟨S4x16384x4096, .f32⟩
  | .hbm, ⟨3, _⟩ => ⟨S16384x16384, .f32⟩
  | .hbm, ⟨4, _⟩ => ⟨S1024x16384, .f32⟩
  | .hbm, ⟨5, _⟩ => ⟨S17408x16384, .f32⟩
  | .hbm, ⟨6, _⟩ => ⟨S17408x16384, .bf16⟩
  | .hbm, ⟨7, _⟩ => ⟨S4x16384x4096, .bf16⟩
  | .hbm, ⟨8, _⟩ => ⟨S17408x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![17, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4x4096x16384 : Shape := ⟨3, ![4, 4096, 16384]⟩
abbrev S4x256x16384 : Shape := ⟨3, ![4, 256, 16384]⟩
abbrev S4x16384x4096 : Shape := ⟨3, ![4, 16384, 4096]⟩
abbrev S1x16384x4096 : Shape := ⟨3, ![1, 16384, 4096]⟩
abbrev S16384x4096 : Shape := ⟨2, ![16384, 4096]⟩
abbrev S4x4096x4096 : Shape := ⟨3, ![4, 4096, 4096]⟩
abbrev S4x256x4096 : Shape := ⟨3, ![4, 256, 4096]⟩
abbrev S1024x4096 : Shape := ⟨2, ![1024, 4096]⟩
abbrev S17408x4096 : Shape := ⟨2, ![17408, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x16384, .f32⟩
  | .hbm, ⟨1, _⟩ => ⟨S4x256x16384, .f32⟩
  | .hbm, ⟨2, _⟩ => ⟨S4x16384x4096, .f32⟩
  | .hbm, ⟨3, _⟩ => ⟨S1x16384x4096, .f32⟩
  | .hbm, ⟨4, _⟩ => ⟨S16384x4096, .f32⟩
  | .hbm, ⟨5, _⟩ => ⟨S4x4096x4096, .f32⟩
  | .hbm, ⟨6, _⟩ => ⟨S16384x4096, .f32⟩
  | .hbm, ⟨7, _⟩ => ⟨S1x16384x4096, .f32⟩
  | .hbm, ⟨8, _⟩ => ⟨S16384x4096, .f32⟩
  | .hbm, ⟨9, _⟩ => ⟨S4x256x4096, .f32⟩
  | .hbm, ⟨10, _⟩ => ⟨S1024x4096, .f32⟩
  | .hbm, ⟨11, _⟩ => ⟨S17408x4096, .f32⟩
  | _, _ => ⟨S4x4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4x4096x4096 : Shape := ⟨3, ![4, 4096, 4096]⟩
abbrev S4x256x4096 : Shape := ⟨3, ![4, 256, 4096]⟩
abbrev S2x4096x20480 : Shape := ⟨3, ![2, 4096, 20480]⟩
abbrev S2x4096 : Shape := ⟨2, ![2, 4096]⟩
abbrev S16384x4096 : Shape := ⟨2, ![16384, 4096]⟩
abbrev S1024x4096 : Shape := ⟨2, ![1024, 4096]⟩
abbrev S17408x4096 : Shape := ⟨2, ![17408, 4096]⟩
abbrev S_ : Shape := ⟨0, ![]⟩
abbrev S1x4096 : Shape := ⟨2, ![1, 4096]⟩
abbrev S5x4096 : Shape := ⟨2, ![5, 4096]⟩
abbrev S5x1x4096 : Shape := ⟨3, ![5, 1, 4096]⟩
abbrev S5x17408x4096 : Shape := ⟨3, ![5, 17408, 4096]⟩
abbrev S1x4096x1024 : Shape := ⟨3, ![1, 4096, 1024]⟩
abbrev S1x1x1024 : Shape := ⟨3, ![1, 1, 1024]⟩
abbrev S1x1024x1024 : Shape := ⟨3, ![1, 1024, 1024]⟩
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 19
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S4x256x4096, .f32⟩
  | .hbm, ⟨2, _⟩ => ⟨S2x4096x20480, .f32⟩
  | .hbm, ⟨3, _⟩ => ⟨S2x4096, .f32⟩
  | .hbm, ⟨4, _⟩ => ⟨S16384x4096, .f32⟩
  | .hbm, ⟨5, _⟩ => ⟨S1024x4096, .f32⟩
  | .hbm, ⟨6, _⟩ => ⟨S17408x4096, .f32⟩
  | .hbm, ⟨7, _⟩ => ⟨S17408x4096, .bf16⟩
  | .hbm, ⟨8, _⟩ => ⟨S2x4096x20480, .bf16⟩
  | .hbm, ⟨9, _⟩ => ⟨S_, .f32⟩
  | .hbm, ⟨10, _⟩ => ⟨S1x4096, .f32⟩
  | .hbm, ⟨11, _⟩ => ⟨S5x4096, .f32⟩
  | .hbm, ⟨12, _⟩ => ⟨S5x1x4096, .f32⟩
  | .hbm, ⟨13, _⟩ => ⟨S_, .f32⟩
  | .hbm, ⟨14, _⟩ => ⟨S2x4096, .f32⟩
  | .hbm, ⟨15, _⟩ => ⟨S2x4096, .f32⟩
  | .hbm, ⟨16, _⟩ => ⟨S5x4096, .f32⟩
  | .hbm, ⟨17, _⟩ => ⟨S5x1x4096, .f32⟩
  | .hbm, ⟨18, _⟩ => ⟨S5x17408x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![17, 20, 1], ![false, false, false]⟩

def k0_cond1 (i : grid0.Coords) : BitVec 1 :=
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_4 : BitVec 32 := 0#32
  let v8 : BitVec 1 := Scalar.cmpi .slt arg1 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi arg1 c4_i32
  let c0_i32_7 : BitVec 32 := 0#32
  let v18 : BitVec 1 := Scalar.cmpi .ne v17 c0_i32_7
  let v19 : BitVec 1 := Scalar.andi v16 v18
  let v5 : BitVec 32 := Scalar.divsi arg1 c4_i32
  let c1_i32 : BitVec 32 := 1#32
  let v20 : BitVec 32 := Scalar.subi v5 c1_i32
  let v21 : BitVec 32 := Scalar.select v19 v20 v5
  let c0_i32_8 : BitVec 32 := 0#32
  let v22 : BitVec 1 := Scalar.cmpi .eq v21 c0_i32_8
  let v23 : BitVec 32 := Scalar.extui v22
  let c0_i32_9 : BitVec 32 := 0#32
  let v24 : BitVec 1 := Scalar.cmpi .ne v23 c0_i32_9
  v24

def k0_cond2 (i : grid0.Coords) : BitVec 1 :=
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_4 : BitVec 32 := 0#32
  let v8 : BitVec 1 := Scalar.cmpi .slt arg1 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi arg1 c4_i32
  let c0_i32_7 : BitVec 32 := 0#32
  let v18 : BitVec 1 := Scalar.cmpi .ne v17 c0_i32_7
  let v19 : BitVec 1 := Scalar.andi v16 v18
  let v5 : BitVec 32 := Scalar.divsi arg1 c4_i32
  let c1_i32 : BitVec 32 := 1#32
  let v20 : BitVec 32 := Scalar.subi v5 c1_i32
  let v21 : BitVec 32 := Scalar.select v19 v20 v5
  let c1_i32_10 : BitVec 32 := 1#32
  let v25 : BitVec 1 := Scalar.cmpi .eq v21 c1_i32_10
  let c4_i32_11 : BitVec 32 := 4#32
  let v26 : BitVec 1 := Scalar.cmpi .eq v21 c4_i32_11
  let v27 : BitVec 1 := Scalar.ori v25 v26
  let v28 : BitVec 32 := Scalar.extui v27
  let c0_i32_12 : BitVec 32 := 0#32
  let v29 : BitVec 1 := Scalar.cmpi .ne v28 c0_i32_12
  v29

def k0_cond3 (i : grid0.Coords) : BitVec 1 :=
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_4 : BitVec 32 := 0#32
  let v8 : BitVec 1 := Scalar.cmpi .slt arg1 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi arg1 c4_i32
  let c0_i32_7 : BitVec 32 := 0#32
  let v18 : BitVec 1 := Scalar.cmpi .ne v17 c0_i32_7
  let v19 : BitVec 1 := Scalar.andi v16 v18
  let v5 : BitVec 32 := Scalar.divsi arg1 c4_i32
  let c1_i32 : BitVec 32 := 1#32
  let v20 : BitVec 32 := Scalar.subi v5 c1_i32
  let v21 : BitVec 32 := Scalar.select v19 v20 v5
  let c2_i32 : BitVec 32 := 2#32
  let v30 : BitVec 1 := Scalar.cmpi .eq v21 c2_i32
  let c3_i32 : BitVec 32 := 3#32
  let v31 : BitVec 1 := Scalar.cmpi .eq v21 c3_i32
  let v32 : BitVec 1 := Scalar.ori v30 v31
  let v33 : BitVec 32 := Scalar.extui v32
  let c0_i32_13 : BitVec 32 := 0#32
  let v34 : BitVec 1 := Scalar.cmpi .ne v33 c0_i32_13
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S4x4096x4096 : Shape := ⟨3, ![4, 4096, 4096]⟩
abbrev S4x256x4096 : Shape := ⟨3, ![4, 256, 4096]⟩
abbrev S2x4096x20480 : Shape := ⟨3, ![2, 4096, 20480]⟩
abbrev S2x4096 : Shape := ⟨2, ![2, 4096]⟩
abbrev S1x4096x20480 : Shape := ⟨3, ![1, 4096, 20480]⟩
abbrev S4096x20480 : Shape := ⟨2, ![4096, 20480]⟩
abbrev S4x4096x20480 : Shape := ⟨3, ![4, 4096, 20480]⟩
abbrev S_ : Shape := ⟨0, ![]⟩
abbrev S1x4096 : Shape := ⟨2, ![1, 4096]⟩
abbrev S4096 : Shape := ⟨1, ![4096]⟩
abbrev S1x1x4096 : Shape := ⟨3, ![1, 1, 4096]⟩
abbrev S16384x4096 : Shape := ⟨2, ![16384, 4096]⟩
abbrev S1x16384x4096 : Shape := ⟨3, ![1, 16384, 4096]⟩
abbrev S5x16384x4096 : Shape := ⟨3, ![5, 16384, 4096]⟩
abbrev S4x256x20480 : Shape := ⟨3, ![4, 256, 20480]⟩
abbrev S1024x4096 : Shape := ⟨2, ![1024, 4096]⟩
abbrev S1x1024x4096 : Shape := ⟨3, ![1, 1024, 4096]⟩
abbrev S5x1024x4096 : Shape := ⟨3, ![5, 1024, 4096]⟩
abbrev S5x17408x4096 : Shape := ⟨3, ![5, 17408, 4096]⟩

abbrev nBuf : Space → Nat
  | .hbm => 212
  | .vmem => 0
  | .smem => 0
  | _ => 0

abbrev hbmTy0_0 (i : Nat) : BufTy := match i % 128 with
  | 0 => ⟨S4x4096x4096, .f32⟩
  | 1 => ⟨S4x256x4096, .f32⟩
  | 2 => ⟨S2x4096x20480, .f32⟩
  | 3 => ⟨S2x4096, .f32⟩
  | 4 => ⟨S2x4096, .f32⟩
  | 5 => ⟨S2x4096, .f32⟩
  | 6 => ⟨S2x4096, .f32⟩
  | 7 => ⟨S1x4096x20480, .f32⟩
  | 8 => ⟨S4096x20480, .f32⟩
  | 9 => ⟨S4x4096x20480, .f32⟩
  | 10 => ⟨S4x4096x4096, .f32⟩
  | 11 => ⟨S4x4096x4096, .f32⟩
  | 12 => ⟨S4x4096x4096, .f32⟩
  | 13 => ⟨S4x4096x4096, .f32⟩
  | 14 => ⟨S4x4096x4096, .f32⟩
  | 15 => ⟨S4x4096x4096, .f32⟩
  | 16 => ⟨S4x4096x4096, .f32⟩
  | 17 => ⟨S_, .f32⟩
  | 18 => ⟨S4x4096x4096, .f32⟩
  | 19 => ⟨S4x4096x4096, .f32⟩
  | 20 => ⟨S_, .f32⟩
  | 21 => ⟨S4x4096x4096, .f32⟩
  | 22 => ⟨S4x4096x4096, .f32⟩
  | 23 => ⟨S4x4096x4096, .f32⟩
  | 24 => ⟨S1x4096, .f32⟩
  | 25 => ⟨S4096, .f32⟩
  | 26 => ⟨S1x4096, .f32⟩
  | 27 => ⟨S4096, .f32⟩
  | 28 => ⟨S4x4096x4096, .f32⟩
  | 29 => ⟨S_, .f32⟩
  | 30 => ⟨S4x4096x4096, .f32⟩
  | 31 => ⟨S4x4096x4096, .f32⟩
  | 32 => ⟨S4x4096x4096, .f32⟩
  | 33 => ⟨S4x4096x4096, .f32⟩
  | 34 => ⟨S4x4096x4096, .i1⟩
  | 35 => ⟨S4x4096x4096, .f32⟩
  | 36 => ⟨S4x4096x4096, .f32⟩
  | 37 => ⟨S4x4096x4096, .f32⟩
  | 38 => ⟨S4x4096x4096, .f32⟩
  | 39 => ⟨S4x4096x4096, .f32⟩
  | 40 => ⟨S4x4096x4096, .f32⟩
  | 41 => ⟨S4x4096x4096, .f32⟩
  | 42 => ⟨S4x4096x4096, .f32⟩
  | 43 => ⟨S4x4096x4096, .f32⟩
  | 44 => ⟨S1x1x4096, .f32⟩
  | 45 => ⟨S4x4096x4096, .f32⟩
  | 46 => ⟨S4x4096x4096, .f32⟩
  | 47 => ⟨S1x1x4096, .f32⟩
  | 48 => ⟨S4x4096x4096, .f32⟩
  | 49 => ⟨S4x4096x4096, .f32⟩
  | 50 => ⟨S4x4096x4096, .f32⟩
  | 51 => ⟨S4x4096x4096, .f32⟩
  | 52 => ⟨S4x4096x4096, .i1⟩
  | 53 => ⟨S4x4096x4096, .f32⟩
  | 54 => ⟨S4x4096x4096, .f32⟩
  | 55 => ⟨S4x4096x4096, .f32⟩
  | 56 => ⟨S4x4096x4096, .f32⟩
  | 57 => ⟨S4x4096x4096, .f32⟩
  | 58 => ⟨S4x4096x4096, .f32⟩
  | 59 => ⟨S4x4096x4096, .f32⟩
  | 60 => ⟨S4x4096x4096, .f32⟩
  | 61 => ⟨S1x4096, .f32⟩
  | 62 => ⟨S4096, .f32⟩
  | 63 => ⟨S1x4096, .f32⟩
  | 64 => ⟨S4096, .f32⟩
  | 65 => ⟨S4x4096x4096, .f32⟩
  | 66 => ⟨S_, .f32⟩
  | 67 => ⟨S4x4096x4096, .f32⟩
  | 68 => ⟨S4x4096x4096, .f32⟩
  | 69 => ⟨S4x4096x4096, .f32⟩
  | 70 => ⟨S4x4096x4096, .f32⟩
  | 71 => ⟨S4x4096x4096, .i1⟩
  | 72 => ⟨S4x4096x4096, .f32⟩
  | 73 => ⟨S4x4096x4096, .f32⟩
  | 74 => ⟨S4x4096x4096, .f32⟩
  | 75 => ⟨S4x4096x4096, .f32⟩
  | 76 => ⟨S4x4096x4096, .f32⟩
  | 77 => ⟨S4x4096x4096, .f32⟩
  | 78 => ⟨S4x4096x4096, .f32⟩
  | 79 => ⟨S4x4096x4096, .f32⟩
  | 80 => ⟨S4x4096x4096, .f32⟩
  | 81 => ⟨S1x1x4096, .f32⟩
  | 82 => ⟨S4x4096x4096, .f32⟩
  | 83 => ⟨S4x4096x4096, .f32⟩
  | 84 => ⟨S1x1x4096, .f32⟩
  | 85 => ⟨S4x4096x4096, .f32⟩
  | 86 => ⟨S4x4096x4096, .f32⟩
  | 87 => ⟨S4x4096x4096, .f32⟩
  | 88 => ⟨S4x4096x4096, .f32⟩
  | 89 => ⟨S4x4096x4096, .i1⟩
  | 90 => ⟨S4x4096x4096, .f32⟩
  | 91 => ⟨S4x4096x4096, .f32⟩
  | 92 => ⟨S4x4096x4096, .f32⟩
  | 93 => ⟨S4x4096x4096, .f32⟩
  | 94 => ⟨S4x4096x4096, .f32⟩
  | 95 => ⟨S4x4096x4096, .f32⟩
  | 96 => ⟨S4x4096x4096, .f32⟩
  | 97 => ⟨S4x4096x4096, .f32⟩
  | 98 => ⟨S16384x4096, .f32⟩
  | 99 => ⟨S16384x4096, .f32⟩
  | 100 => ⟨S16384x4096, .f32⟩
  | 101 => ⟨S16384x4096, .f32⟩
  | 102 => ⟨S16384x4096, .f32⟩
  | 103 => ⟨S1x16384x4096, .f32⟩
  | 104 => ⟨S1x16384x4096, .f32⟩
  | 105 => ⟨S1x16384x4096, .f32⟩
  | 106 => ⟨S1x16384x4096, .f32⟩
  | 107 => ⟨S1x16384x4096, .f32⟩
  | 108 => ⟨S5x16384x4096, .f32⟩
  | 109 => ⟨S1x4096x20480, .f32⟩
  | 110 => ⟨S4096x20480, .f32⟩
  | 111 => ⟨S4x256x20480, .f32⟩
  | 112 => ⟨S4x256x4096, .f32⟩
  | 113 => ⟨S4x256x4096, .f32⟩
  | 114 => ⟨S4x256x4096, .f32⟩
  | 115 => ⟨S4x256x4096, .f32⟩
  | 116 => ⟨S4x256x4096, .f32⟩
  | 117 => ⟨S4x256x4096, .f32⟩
  | 118 => ⟨S4x256x4096, .f32⟩
  | 119 => ⟨S_, .f32⟩
  | 120 => ⟨S4x256x4096, .f32⟩
  | 121 => ⟨S4x256x4096, .f32⟩
  | 122 => ⟨S_, .f32⟩
  | 123 => ⟨S4x256x4096, .f32⟩
  | 124 => ⟨S4x256x4096, .f32⟩
  | 125 => ⟨S4x256x4096, .f32⟩
  | 126 => ⟨S1x4096, .f32⟩
  | 127 => ⟨S4096, .f32⟩
  | _ => ⟨S4x4096x4096, .f32⟩

abbrev hbmTy0_1 (i : Nat) : BufTy := match i % 128 with
  | 0 => ⟨S1x4096, .f32⟩
  | 1 => ⟨S4096, .f32⟩
  | 2 => ⟨S4x256x4096, .f32⟩
  | 3 => ⟨S_, .f32⟩
  | 4 => ⟨S4x256x4096, .f32⟩
  | 5 => ⟨S4x256x4096, .f32⟩
  | 6 => ⟨S4x256x4096, .f32⟩
  | 7 => ⟨S4x256x4096, .f32⟩
  | 8 => ⟨S4x256x4096, .i1⟩
  | 9 => ⟨S4x256x4096, .f32⟩
  | 10 => ⟨S4x256x4096, .f32⟩
  | 11 => ⟨S4x256x4096, .f32⟩
  | 12 => ⟨S4x256x4096, .f32⟩
  | 13 => ⟨S4x256x4096, .f32⟩
  | 14 => ⟨S4x256x4096, .f32⟩
  | 15 => ⟨S4x256x4096, .f32⟩
  | 16 => ⟨S4x256x4096, .f32⟩
  | 17 => ⟨S4x256x4096, .f32⟩
  | 18 => ⟨S1x1x4096, .f32⟩
  | 19 => ⟨S4x256x4096, .f32⟩
  | 20 => ⟨S4x256x4096, .f32⟩
  | 21 => ⟨S1x1x4096, .f32⟩
  | 22 => ⟨S4x256x4096, .f32⟩
  | 23 => ⟨S4x256x4096, .f32⟩
  | 24 => ⟨S4x256x4096, .f32⟩
  | 25 => ⟨S4x256x4096, .f32⟩
  | 26 => ⟨S4x256x4096, .i1⟩
  | 27 => ⟨S4x256x4096, .f32⟩
  | 28 => ⟨S4x256x4096, .f32⟩
  | 29 => ⟨S4x256x4096, .f32⟩
  | 30 => ⟨S4x256x4096, .f32⟩
  | 31 => ⟨S4x256x4096, .f32⟩
  | 32 => ⟨S4x256x4096, .f32⟩
  | 33 => ⟨S4x256x4096, .f32⟩
  | 34 => ⟨S4x256x4096, .f32⟩
  | 35 => ⟨S1x4096, .f32⟩
  | 36 => ⟨S4096, .f32⟩
  | 37 => ⟨S1x4096, .f32⟩
  | 38 => ⟨S4096, .f32⟩
  | 39 => ⟨S4x256x4096, .f32⟩
  | 40 => ⟨S_, .f32⟩
  | 41 => ⟨S4x256x4096, .f32⟩
  | 42 => ⟨S4x256x4096, .f32⟩
  | 43 => ⟨S4x256x4096, .f32⟩
  | 44 => ⟨S4x256x4096, .f32⟩
  | 45 => ⟨S4x256x4096, .i1⟩
  | 46 => ⟨S4x256x4096, .f32⟩
  | 47 => ⟨S4x256x4096, .f32⟩
  | 48 => ⟨S4x256x4096, .f32⟩
  | 49 => ⟨S4x256x4096, .f32⟩
  | 50 => ⟨S4x256x4096, .f32⟩
  | 51 => ⟨S4x256x4096, .f32⟩
  | 52 => ⟨S4x256x4096, .f32⟩
  | 53 => ⟨S4x256x4096, .f32⟩
  | 54 => ⟨S4x256x4096, .f32⟩
  | 55 => ⟨S1x1x4096, .f32⟩
  | 56 => ⟨S4x256x4096, .f32⟩
  | 57 => ⟨S4x256x4096, .f32⟩
  | 58 => ⟨S1x1x4096, .f32⟩
  | 59 => ⟨S4x256x4096, .f32⟩
  | 60 => ⟨S4x256x4096, .f32⟩
  | 61 => ⟨S4x256x4096, .f32⟩
  | 62 => ⟨S4x256x4096, .f32⟩
  | 63 => ⟨S4x256x4096, .i1⟩
  | 64 => ⟨S4x256x4096, .f32⟩
  | 65 => ⟨S4x256x4096, .f32⟩
  | 66 => ⟨S4x256x4096, .f32⟩
  | 67 => ⟨S4x256x4096, .f32⟩
  | 68 => ⟨S4x256x4096, .f32⟩
  | 69 => ⟨S4x256x4096, .f32⟩
  | 70 => ⟨S4x256x4096, .f32⟩
  | 71 => ⟨S4x256x4096, .f32⟩
  | 72 => ⟨S1024x4096, .f32⟩
  | 73 => ⟨S1024x4096, .f32⟩
  | 74 => ⟨S1024x4096, .f32⟩
  | 75 => ⟨S1024x4096, .f32⟩
  | 76 => ⟨S1024x4096, .f32⟩
  | 77 => ⟨S1x1024x4096, .f32⟩
  | 78 => ⟨S1x1024x4096, .f32⟩
  | 79 => ⟨S1x1024x4096, .f32⟩
  | 80 => ⟨S1x1024x4096, .f32⟩
  | 81 => ⟨S1x1024x4096, .f32⟩
  | 82 => ⟨S5x1024x4096, .f32⟩
  | 83 => ⟨S5x17408x4096, .f32⟩
  | _ => ⟨S4x4096x4096, .f32⟩

abbrev hbmTy (i : Nat) : BufTy := match i / 128 with
  | 0 => hbmTy0_0 i
  | 1 => hbmTy0_1 i
  | _ => ⟨S4x4096x4096, .f32⟩

abbrev bufTy : (tb : Table) → Fin (tcTables nBuf tb) → BufTy
  | .hbm, ⟨i, _⟩ => hbmTy i
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_v0 : Ref sig .tc := ⟨.hbm, 28, rfl⟩
abbrev main_call1_call0_cst : Ref sig .tc := ⟨.hbm, 29, rfl⟩
abbrev main_call1_call0_v0 : Ref sig .tc := ⟨.hbm, 30, rfl⟩
abbrev main_call1_call0_v1 : Ref sig .tc := ⟨.hbm, 31, rfl⟩
abbrev main_call1_call0_v2 : Ref sig .tc := ⟨.hbm, 32, rfl⟩
abbrev main_call1_call0_v3 : Ref sig .tc := ⟨.hbm, 33, rfl⟩
abbrev main_call1_call0_v4 : Ref sig .tc := ⟨.hbm, 34, rfl⟩
abbrev main_call1_call0_v5 : Ref sig .tc := ⟨.hbm, 35, rfl⟩
abbrev main_call1_call0_v6 : Ref sig .tc := ⟨.hbm, 36, rfl⟩
abbrev main_call1_call0_v7 : Ref sig .tc := ⟨.hbm, 37, rfl⟩
abbrev main_call1_call0_v8 : Ref sig .tc := ⟨.hbm, 38, rfl⟩
abbrev main_call1_call0_v9 : Ref sig .tc := ⟨.hbm, 39, rfl⟩
abbrev main_call1_call0_v10 : Ref sig .tc := ⟨.hbm, 40, rfl⟩
abbrev main_call1_call0_v11 : Ref sig .tc := ⟨.hbm, 41, rfl⟩
abbrev main_call1_v1 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_call2_v0 : Ref sig .tc := ⟨.hbm, 65, rfl⟩
abbrev main_call2_call0_cst : Ref sig .tc := ⟨.hbm, 66, rfl⟩
abbrev main_call2_call0_v0 : Ref sig .tc := ⟨.hbm, 67, rfl⟩
abbrev main_call2_call0_v1 : Ref sig .tc := ⟨.hbm, 68, rfl⟩
abbrev main_call2_call0_v2 : Ref sig .tc := ⟨.hbm, 69, rfl⟩
abbrev main_call2_call0_v3 : Ref sig .tc := ⟨.hbm, 70, rfl⟩
abbrev main_call2_call0_v4 : Ref sig .tc := ⟨.hbm, 71, rfl⟩
abbrev main_call2_call0_v5 : Ref sig .tc := ⟨.hbm, 72, rfl⟩
abbrev main_call2_call0_v6 : Ref sig .tc := ⟨.hbm, 73, rfl⟩
abbrev main_call2_call0_v7 : Ref sig .tc := ⟨.hbm, 74, rfl⟩
abbrev main_call2_call0_v8 : Ref sig .tc := ⟨.hbm, 75, rfl⟩
abbrev main_call2_call0_v9 : Ref sig .tc := ⟨.hbm, 76, rfl⟩
abbrev main_call2_call0_v10 : Ref sig .tc := ⟨.hbm, 77, rfl⟩
abbrev main_call2_call0_v11 : Ref sig .tc := ⟨.hbm, 78, rfl⟩
abbrev main_call2_v1 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_call3_v0 : Ref sig .tc := ⟨.hbm, 117, rfl⟩
abbrev main_call3_v1 : Ref sig .tc := ⟨.hbm, 118, rfl⟩
abbrev main_call3_cst : Ref sig .tc := ⟨.hbm, 119, rfl⟩
abbrev main_call3_v2 : Ref sig .tc := ⟨.hbm, 120, rfl⟩
abbrev main_call3_v3 : Ref sig .tc := ⟨.hbm, 121, rfl⟩
abbrev main_call3_cst_0 : Ref sig .tc := ⟨.hbm, 122, rfl⟩
abbrev main_call3_v4 : Ref sig .tc := ⟨.hbm, 123, rfl⟩
abbrev main_call3_v5 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_call4_v0 : Ref sig .tc := ⟨.hbm, 130, rfl⟩
abbrev main_call4_call0_cst : Ref sig .tc := ⟨.hbm, 131, rfl⟩
abbrev main_call4_call0_v0 : Ref sig .tc := ⟨.hbm, 132, rfl⟩
abbrev main_call4_call0_v1 : Ref sig .tc := ⟨.hbm, 133, rfl⟩
abbrev main_call4_call0_v2 : Ref sig .tc := ⟨.hbm, 134, rfl⟩
abbrev main_call4_call0_v3 : Ref sig .tc := ⟨.hbm, 135, rfl⟩
abbrev main_call4_call0_v4 : Ref sig .tc := ⟨.hbm, 136, rfl⟩
abbrev main_call4_call0_v5 : Ref sig .tc := ⟨.hbm, 137, rfl⟩
abbrev main_call4_call0_v6 : Ref sig .tc := ⟨.hbm, 138, rfl⟩
abbrev main_call4_call0_v7 : Ref sig .tc := ⟨.hbm, 139, rfl⟩
abbrev main_call4_call0_v8 : Ref sig .tc := ⟨.hbm, 140, rfl⟩
abbrev main_call4_call0_v9 : Ref sig .tc := ⟨.hbm, 141, rfl⟩
abbrev main_call4_call0_v10 : Ref sig .tc := ⟨.hbm, 142, rfl⟩
abbrev main_call4_call0_v11 : Ref sig .tc := ⟨.hbm, 143, rfl⟩
abbrev main_call4_v1 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_call5_v0 : Ref sig .tc := ⟨.hbm, 167, rfl⟩
abbrev main_call5_call0_cst : Ref sig .tc := ⟨.hbm, 168, rfl⟩
abbrev main_call5_call0_v0 : Ref sig .tc := ⟨.hbm, 169, rfl⟩
abbrev main_call5_call0_v1 : Ref sig .tc := ⟨.hbm, 170, rfl⟩
abbrev main_call5_call0_v2 : Ref sig .tc := ⟨.hbm, 171, rfl⟩
abbrev main_call5_call0_v3 : Ref sig .tc := ⟨.hbm, 172, rfl⟩
abbrev main_call5_call0_v4 : Ref sig .tc := ⟨.hbm, 173, rfl⟩
abbrev main_call5_call0_v5 : Ref sig .tc := ⟨.hbm, 174, rfl⟩
abbrev main_call5_call0_v6 : Ref sig .tc := ⟨.hbm, 175, rfl⟩
abbrev main_call5_call0_v7 : Ref sig .tc := ⟨.hbm, 176, rfl⟩
abbrev main_call5_call0_v8 : Ref sig .tc := ⟨.hbm, 177, rfl⟩
abbrev main_call5_call0_v9 : Ref sig .tc := ⟨.hbm, 178, rfl⟩
abbrev main_call5_call0_v10 : Ref sig .tc := ⟨.hbm, 179, rfl⟩
abbrev main_call5_call0_v11 : Ref sig .tc := ⟨.hbm, 180, rfl⟩
abbrev main_call5_v1 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩

abbrev nD : Nat := 1
abbrev τ : Topo := Topo.v7x

variable {F : FTy → Type} [FloatOps F]
-- ==== Kernel5.lean ====
abbrev S4x4096x4096 : Shape := ⟨3, ![4, 4096, 4096]⟩
abbrev S4x256x4096 : Shape := ⟨3, ![4, 256, 4096]⟩
abbrev S2x4096x4096 : Shape := ⟨3, ![2, 4096, 4096]⟩
abbrev S16384x4096 : Shape := ⟨2, ![16384, 4096]⟩
abbrev S1024x4096 : Shape := ⟨2, ![1024, 4096]⟩
abbrev S17408x4096 : Shape := ⟨2, ![17408, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4x256x4096, .f32⟩
  | .hbm, ⟨2, _⟩ => ⟨S2x4096x4096, .f32⟩
  | .hbm, ⟨3, _⟩ => ⟨S16384x4096, .f32⟩
  | .hbm, ⟨4, _⟩ => ⟨S1024x4096, .f32⟩
  | .hbm, ⟨5, _⟩ => ⟨S17408x4096, .f32⟩
  | .hbm, ⟨6, _⟩ => ⟨S17408x4096, .bf16⟩
  | .hbm, ⟨7, _⟩ => ⟨S2x4096x4096, .bf16⟩
  | .hbm, ⟨8, _⟩ => ⟨S17408x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![17, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4x4096x4096 : Shape := ⟨3, ![4, 4096, 4096]⟩
abbrev S4x256x4096 : Shape := ⟨3, ![4, 256, 4096]⟩
abbrev S2x4096x4096 : Shape := ⟨3, ![2, 4096, 4096]⟩
abbrev S1x4096x4096 : Shape := ⟨3, ![1, 4096, 4096]⟩
abbrev S4096x4096 : Shape := ⟨2, ![4096, 4096]⟩
abbrev S16384x4096 : Shape := ⟨2, ![16384, 4096]⟩
abbrev S1024x4096 : Shape := ⟨2, ![1024, 4096]⟩
abbrev S17408x4096 : Shape := ⟨2, ![17408, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x256x4096, .f32⟩
  | .hbm, ⟨2, _⟩ => ⟨S2x4096x4096, .f32⟩
  | .hbm, ⟨3, _⟩ => ⟨S1x4096x4096, .f32⟩
  | .hbm, ⟨4, _⟩ => ⟨S4096x4096, .f32⟩
  | .hbm, ⟨5, _⟩ => ⟨S4x4096x4096, .f32⟩
  | .hbm, ⟨6, _⟩ => ⟨S16384x4096, .f32⟩
  | .hbm, ⟨7, _⟩ => ⟨S1x4096x4096, .f32⟩
  | .hbm, ⟨8, _⟩ => ⟨S4096x4096, .f32⟩
  | .hbm, ⟨9, _⟩ => ⟨S4x256x4096, .f32⟩
  | .hbm, ⟨10, _⟩ => ⟨S1024x4096, .f32⟩
  | .hbm, ⟨11, _⟩ => ⟨S17408x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S4x4096x4096 : Shape := ⟨3, ![4, 4096, 4096]⟩
abbrev S4x256x4096 : Shape := ⟨3, ![4, 256, 4096]⟩
abbrev S2x4096x1600 : Shape := ⟨3, ![2, 4096, 1600]⟩
abbrev S16384x4096 : Shape := ⟨2, ![16384, 4096]⟩
abbrev S1024x4096 : Shape := ⟨2, ![1024, 4096]⟩
abbrev S17408x4096 : Shape := ⟨2, ![17408, 4096]⟩
abbrev S1x4096x1600 : Shape := ⟨3, ![1, 4096, 1600]⟩
abbrev S4096x1600 : Shape := ⟨2, ![4096, 1600]⟩
abbrev S4096x1536 : Shape := ⟨2, ![4096, 1536]⟩
abbrev S17408x1536 : Shape := ⟨2, ![17408, 1536]⟩
abbrev S4096x512 : Shape := ⟨2, ![4096, 512]⟩
abbrev S1024x512 : Shape := ⟨2, ![1024, 512]⟩

abbrev nBuf : Space → Nat
  | .hbm => 12
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4x256x4096, .f32⟩
  | .hbm, ⟨2, _⟩ => ⟨S2x4096x1600, .f32⟩
  | .hbm, ⟨3, _⟩ => ⟨S16384x4096, .f32⟩
  | .hbm, ⟨4, _⟩ => ⟨S1024x4096, .f32⟩
  | .hbm, ⟨5, _⟩ => ⟨S17408x4096, .f32⟩
  | .hbm, ⟨6, _⟩ => ⟨S17408x4096, .bf16⟩
  | .hbm, ⟨7, _⟩ => ⟨S1x4096x1600, .f32⟩
  | .hbm, ⟨8, _⟩ => ⟨S4096x1600, .f32⟩
  | .hbm, ⟨9, _⟩ => ⟨S4096x1536, .f32⟩
  | .hbm, ⟨10, _⟩ => ⟨S4096x1536, .bf16⟩
  | .hbm, ⟨11, _⟩ => ⟨S17408x1536, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![17, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4x4096x4096 : Shape := ⟨3, ![4, 4096, 4096]⟩
abbrev S4x256x4096 : Shape := ⟨3, ![4, 256, 4096]⟩
abbrev S2x4096x1600 : Shape := ⟨3, ![2, 4096, 1600]⟩
abbrev S1x4096x1600 : Shape := ⟨3, ![1, 4096, 1600]⟩
abbrev S4096x1600 : Shape := ⟨2, ![4096, 1600]⟩
abbrev S4x4096x1600 : Shape := ⟨3, ![4, 4096, 1600]⟩
abbrev S4x4096x1536 : Shape := ⟨3, ![4, 4096, 1536]⟩
abbrev S16384x1536 : Shape := ⟨2, ![16384, 1536]⟩
abbrev S4x256x1600 : Shape := ⟨3, ![4, 256, 1600]⟩
abbrev S4x256x1536 : Shape := ⟨3, ![4, 256, 1536]⟩
abbrev S1024x1536 : Shape := ⟨2, ![1024, 1536]⟩
abbrev S17408x1536 : Shape := ⟨2, ![17408, 1536]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x256x4096, .f32⟩
  | .hbm, ⟨2, _⟩ => ⟨S2x4096x1600, .f32⟩
  | .hbm, ⟨3, _⟩ => ⟨S1x4096x1600, .f32⟩
  | .hbm, ⟨4, _⟩ => ⟨S4096x1600, .f32⟩
  | .hbm, ⟨5, _⟩ => ⟨S4x4096x1600, .f32⟩
  | .hbm, ⟨6, _⟩ => ⟨S4x4096x1536, .f32⟩
  | .hbm, ⟨7, _⟩ => ⟨S16384x1536, .f32⟩
  | .hbm, ⟨8, _⟩ => ⟨S1x4096x1600, .f32⟩
  | .hbm, ⟨9, _⟩ => ⟨S4096x1600, .f32⟩
  | .hbm, ⟨10, _⟩ => ⟨S4x256x1600, .f32⟩
  | .hbm, ⟨11, _⟩ => ⟨S4x256x1536, .f32⟩
  | .hbm, ⟨12, _⟩ => ⟨S1024x1536, .f32⟩
  | .hbm, ⟨13, _⟩ => ⟨S17408x1536, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel7.lean ====
abbrev S4x4096x512 : Shape := ⟨3, ![4, 4096, 512]⟩
abbrev S4x256x512 : Shape := ⟨3, ![4, 256, 512]⟩
abbrev S2x512x8192 : Shape := ⟨3, ![2, 512, 8192]⟩
abbrev S16384x512 : Shape := ⟨2, ![16384, 512]⟩
abbrev S1024x512 : Shape := ⟨2, ![1024, 512]⟩
abbrev S17408x512 : Shape := ⟨2, ![17408, 512]⟩
abbrev S1x512x8192 : Shape := ⟨3, ![1, 512, 8192]⟩
abbrev S512x8192 : Shape := ⟨2, ![512, 8192]⟩
abbrev S17408x8192 : Shape := ⟨2, ![17408, 8192]⟩
abbrev S512x1024 : Shape := ⟨2, ![512, 1024]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S4x4096x512, .f32⟩
  | .hbm, ⟨1, _⟩ => ⟨S4x256x512, .f32⟩
  | .hbm, ⟨2, _⟩ => ⟨S2x512x8192, .f32⟩
  | .hbm, ⟨3, _⟩ => ⟨S16384x512, .f32⟩
  | .hbm, ⟨4, _⟩ => ⟨S1024x512, .f32⟩
  | .hbm, ⟨5, _⟩ => ⟨S17408x512, .f32⟩
  | .hbm, ⟨6, _⟩ => ⟨S17408x512, .bf16⟩
  | .hbm, ⟨7, _⟩ => ⟨S1x512x8192, .f32⟩
  | .hbm, ⟨8, _⟩ => ⟨S512x8192, .f32⟩
  | .hbm, ⟨9, _⟩ => ⟨S512x8192, .bf16⟩
  | .hbm, ⟨10, _⟩ => ⟨S17408x8192, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![17, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4x4096x512 : Shape := ⟨3, ![4, 4096, 512]⟩
abbrev S4x256x512 : Shape := ⟨3, ![4, 256, 512]⟩
abbrev S2x512x8192 : Shape := ⟨3, ![2, 512, 8192]⟩
abbrev S1x512x8192 : Shape := ⟨3, ![1, 512, 8192]⟩
abbrev S512x8192 : Shape := ⟨2, ![512, 8192]⟩
abbrev S4x4096x8192 : Shape := ⟨3, ![4, 4096, 8192]⟩
abbrev S16384x8192 : Shape := ⟨2, ![16384, 8192]⟩
abbrev S4x256x8192 : Shape := ⟨3, ![4, 256, 8192]⟩
abbrev S1024x8192 : Shape := ⟨2, ![1024, 8192]⟩
abbrev S17408x8192 : Shape := ⟨2, ![17408, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x256x512, .f32⟩
  | .hbm, ⟨2, _⟩ => ⟨S2x512x8192, .f32⟩
  | .hbm, ⟨3, _⟩ => ⟨S1x512x8192, .f32⟩
  | .hbm, ⟨4, _⟩ => ⟨S512x8192, .f32⟩
  | .hbm, ⟨5, _⟩ => ⟨S4x4096x8192, .f32⟩
  | .hbm, ⟨6, _⟩ => ⟨S16384x8192, .f32⟩
  | .hbm, ⟨7, _⟩ => ⟨S1x512x8192, .f32⟩
  | .hbm, ⟨8, _⟩ => ⟨S512x8192, .f32⟩
  | .hbm, ⟨9, _⟩ => ⟨S4x256x8192, .f32⟩
  | .hbm, ⟨10, _⟩ => ⟨S1024x8192, .f32⟩
  | .hbm, ⟨11, _⟩ => ⟨S17408x8192, .f32⟩
  | .hbm, ⟨12, _⟩ => ⟨S17408x8192, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel8.lean ====
abbrev S4x4096x1024 : Shape := ⟨3, ![4, 4096, 1024]⟩
abbrev S4x256x1024 : Shape := ⟨3, ![4, 256, 1024]⟩
abbrev S2x1024x6144 : Shape := ⟨3, ![2, 1024, 6144]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x128 : Shape := ⟨2, ![4096, 128]⟩
abbrev S1x4096x1x128 : Shape := ⟨4, ![1, 4096, 1, 128]⟩
abbrev S4x4096x1x128 : Shape := ⟨4, ![4, 4096, 1, 128]⟩
abbrev S16384x128 : Shape := ⟨2, ![16384, 128]⟩
abbrev S1024x128 : Shape := ⟨2, ![1024, 128]⟩
abbrev S17408x128 : Shape := ⟨2, ![17408, 128]⟩
abbrev S16384x1024 : Shape := ⟨2, ![16384, 1024]⟩
abbrev S1024x1024 : Shape := ⟨2, ![1024, 1024]⟩
abbrev S17408x1024 : Shape := ⟨2, ![17408, 1024]⟩
abbrev S1x1024x6144 : Shape := ⟨3, ![1, 1024, 6144]⟩
abbrev S1024x6144 : Shape := ⟨2, ![1024, 6144]⟩
abbrev S1024x32x192 : Shape := ⟨3, ![1024, 32, 192]⟩
abbrev S1024x32x256 : Shape := ⟨3, ![1024, 32, 256]⟩
abbrev S1024x8192 : Shape := ⟨2, ![1024, 8192]⟩
abbrev S17408x8192 : Shape := ⟨2, ![17408, 8192]⟩

abbrev nBuf : Space → Nat
  | .hbm => 107
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S2x1024x6144, .f32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S_, .i1⟩
  | .hbm, ⟨39, _⟩ => ⟨S4096, .i1⟩
  | .hbm, ⟨40, _⟩ => ⟨S4096, .i1⟩
  | .hbm, ⟨41, _⟩ => ⟨S4096, .i1⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S4096x1, .f32⟩
  | .hbm, ⟨61, _⟩ => ⟨S1x16, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S4096x1, .f32⟩
  | .hbm, ⟨66, _⟩ => ⟨S1x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S4096x64, .f32⟩
  | .hbm, ⟨71, _⟩ => ⟨S4096x64, .f32⟩
  | .hbm, ⟨72, _⟩ => ⟨S_, .f32⟩
  | .hbm, ⟨73, _⟩ => ⟨S_, .f32⟩
  | .hbm, ⟨74, _⟩ => ⟨S4096x128, .f32⟩
  | .hbm, ⟨75, _⟩ => ⟨S4096x64, .f32⟩
  | .hbm, ⟨76, _⟩ => ⟨S_, .i32⟩
  | .hbm, ⟨77, _⟩ => ⟨S_, .f32⟩
  | .hbm, ⟨78, _⟩ => ⟨S4096x128, .f32⟩
  | .hbm, ⟨79, _⟩ => ⟨S1x4096x1x128, .f32⟩
  | .hbm, ⟨80, _⟩ => ⟨S4x4096x1x128, .f32⟩
  | .hbm, ⟨81, _⟩ => ⟨S16384x128, .f32⟩
  | .hbm, ⟨82, _⟩ => ⟨S_, .f32⟩
  | .hbm, ⟨83, _⟩ => ⟨S1024x128, .f32⟩
  | .hbm, ⟨84, _⟩ => ⟨S17408x128, .f32⟩
  | .hbm, ⟨85, _⟩ => ⟨S1x4096x1x128, .f32⟩
  | .hbm, ⟨86, _⟩ => ⟨S4x4096x1x128, .f32⟩
  | .hbm, ⟨87, _⟩ => ⟨S16384x128, .f32⟩
  | .hbm, ⟨88, _⟩ => ⟨S_, .f32⟩
  | .hbm, ⟨89, _⟩ => ⟨S1024x128, .f32⟩
  | .hbm, ⟨90, _⟩ => ⟨S17408x128, .f32⟩
  | .hbm, ⟨91, _⟩ => ⟨S16384x1024, .f32⟩
  | .hbm, ⟨92, _⟩ => ⟨S1024x1024, .f32⟩
  | .hbm, ⟨93, _⟩ => ⟨S17408x1024, .f32⟩
  | .hbm, ⟨94, _⟩ => ⟨S17408x1024, .bf16⟩
  | .hbm, ⟨95, _⟩ => ⟨S1x1024x6144, .f32⟩
  | .hbm, ⟨96, _⟩ => ⟨S1024x6144, .f32⟩
  | .hbm, ⟨97, _⟩ => ⟨S_, .f32⟩
  | .hbm, ⟨98, _⟩ => ⟨S1024x6144, .f32⟩
  | .hbm, ⟨99, _⟩ => ⟨S1024x6144, .f32⟩
  | .hbm, ⟨100, _⟩ => ⟨S1024x32x192, .f32⟩
  | .hbm, ⟨101, _⟩ => ⟨S_, .i32⟩
  | .hbm, ⟨102, _⟩ => ⟨S_, .f32⟩
  | .hbm, ⟨103, _⟩ => ⟨S1024x32x256, .f32⟩
  | .hbm, ⟨104, _⟩ => ⟨S1024x8192, .f32⟩
  | .hbm, ⟨105, _⟩ => ⟨S1024x8192, .bf16⟩
  | .hbm, ⟨106, _⟩ => ⟨S17408x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_cst : Ref sig .tc := ⟨.hbm, 47, rfl⟩
abbrev main_v6 : Ref sig .tc := ⟨.hbm, 48, rfl⟩
abbrev main_v7 : Ref sig .tc := ⟨.hbm, 49, rfl⟩
abbrev main_cst_1 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_cst_2 : Ref sig .tc := ⟨.hbm, 54, rfl⟩
abbrev main_v11 : Ref sig .tc := ⟨.hbm, 55, rfl⟩
abbrev main_v12 : Ref sig .tc := ⟨.hbm, 56, rfl⟩
abbrev main_cst_3 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_cst_4 : Ref sig .tc := ⟨.hbm, 72, rfl⟩
abbrev main_call2_v0 : Ref sig .tc := ⟨.hbm, 73, rfl⟩
abbrev main_v27 : Ref sig .tc := ⟨.hbm, 74, rfl⟩
abbrev main_v28 : Ref sig .tc := ⟨.hbm, 75, rfl⟩
abbrev main_c_5 : Ref sig .tc := ⟨.hbm, 76, rfl⟩
abbrev main_call3_v0 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst_6 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_cst_7 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_cst_8 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_c_9 : Ref sig .tc := ⟨.hbm, 101, rfl⟩
abbrev main_call4_v0 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![17, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference8Ideal.lean ====
abbrev S4x4096x1024 : Shape := ⟨3, ![4, 4096, 1024]⟩
abbrev S4x256x1024 : Shape := ⟨3, ![4, 256, 1024]⟩
abbrev S2x1024x6144 : Shape := ⟨3, ![2, 1024, 6144]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x1024x6144 : Shape := ⟨3, ![1, 1024, 6144]⟩
abbrev S1024x6144 : Shape := ⟨2, ![1024, 6144]⟩
abbrev S4x4096x6144 : Shape := ⟨3, ![4, 4096, 6144]⟩
abbrev S4x4096x32x192 : Shape := ⟨4, ![4, 4096, 32, 192]⟩
abbrev S4x256x6144 : Shape := ⟨3, ![4, 256, 6144]⟩
abbrev S4x256x32x192 : Shape := ⟨4, ![4, 256, 32, 192]⟩
abbrev S4x4096x32x64 : Shape := ⟨4, ![4, 4096, 32, 64]⟩
abbrev S4096x1x64 : Shape := ⟨3, ![4096, 1, 64]⟩
abbrev S4x4096x32x16 : Shape := ⟨4, ![4, 4096, 32, 16]⟩
abbrev S1x4096x1x64 : Shape := ⟨4, ![1, 4096, 1, 64]⟩
abbrev S4x4096x32x128 : Shape := ⟨4, ![4, 4096, 32, 128]⟩
abbrev S4x4096x32x256 : Shape := ⟨4, ![4, 4096, 32, 256]⟩
abbrev S16384x8192 : Shape := ⟨2, ![16384, 8192]⟩
abbrev S4x256x32x256 : Shape := ⟨4, ![4, 256, 32, 256]⟩
abbrev S1024x8192 : Shape := ⟨2, ![1024, 8192]⟩
abbrev S17408x8192 : Shape := ⟨2, ![17408, 8192]⟩

abbrev nBuf : Space → Nat
  | .hbm => 116
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S2x1024x6144, .f32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S_, .i1⟩
  | .hbm, ⟨39, _⟩ => ⟨S4096, .i1⟩
  | .hbm, ⟨40, _⟩ => ⟨S4096, .i1⟩
  | .hbm, ⟨41, _⟩ => ⟨S4096, .i1⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S4096x1, .f32⟩
  | .hbm, ⟨61, _⟩ => ⟨S1x16, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S4096x1, .f32⟩
  | .hbm, ⟨66, _⟩ => ⟨S1x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S4096x64, .f32⟩
  | .hbm, ⟨71, _⟩ => ⟨S4096x64, .f32⟩
  | .hbm, ⟨72, _⟩ => ⟨S4096x64, .f32⟩
  | .hbm, ⟨73, _⟩ => ⟨S1x1024x6144, .f32⟩
  | .hbm, ⟨74, _⟩ => ⟨S1024x6144, .f32⟩
  | .hbm, ⟨75, _⟩ => ⟨S4x4096x6144, .f32⟩
  | .hbm, ⟨76, _⟩ => ⟨S_, .f32⟩
  | .hbm, ⟨77, _⟩ => ⟨S4x4096x6144, .f32⟩
  | .hbm, ⟨78, _⟩ => ⟨S4x4096x6144, .f32⟩
  | .hbm, ⟨79, _⟩ => ⟨S4x4096x32x192, .f32⟩
  | .hbm, ⟨80, _⟩ => ⟨S1x1024x6144, .f32⟩
  | .hbm, ⟨81, _⟩ => ⟨S1024x6144, .f32⟩
  | .hbm, ⟨82, _⟩ => ⟨S4x256x6144, .f32⟩
  | .hbm, ⟨83, _⟩ => ⟨S_, .f32⟩
  | .hbm, ⟨84, _⟩ => ⟨S4x256x6144, .f32⟩
  | .hbm, ⟨85, _⟩ => ⟨S4x256x6144, .f32⟩
  | .hbm, ⟨86, _⟩ => ⟨S4x256x32x192, .f32⟩
  | .hbm, ⟨87, _⟩ => ⟨S4x4096x32x64, .f32⟩
  | .hbm, ⟨88, _⟩ => ⟨S4096x1x64, .f32⟩
  | .hbm, ⟨89, _⟩ => ⟨S4096x1x64, .f32⟩
  | .hbm, ⟨90, _⟩ => ⟨S4x4096x32x16, .f32⟩
  | .hbm, ⟨91, _⟩ => ⟨S4x4096x32x16, .f32⟩
  | .hbm, ⟨92, _⟩ => ⟨S4x4096x32x16, .f32⟩
  | .hbm, ⟨93, _⟩ => ⟨S4x4096x32x16, .f32⟩
  | .hbm, ⟨94, _⟩ => ⟨S1x4096x1x64, .f32⟩
  | .hbm, ⟨95, _⟩ => ⟨S4x4096x32x64, .f32⟩
  | .hbm, ⟨96, _⟩ => ⟨S4x4096x32x64, .f32⟩
  | .hbm, ⟨97, _⟩ => ⟨S4x4096x32x16, .f32⟩
  | .hbm, ⟨98, _⟩ => ⟨S4x4096x32x16, .f32⟩
  | .hbm, ⟨99, _⟩ => ⟨S4x4096x32x64, .f32⟩
  | .hbm, ⟨100, _⟩ => ⟨S1x4096x1x64, .f32⟩
  | .hbm, ⟨101, _⟩ => ⟨S4x4096x32x64, .f32⟩
  | .hbm, ⟨102, _⟩ => ⟨S4x4096x32x64, .f32⟩
  | .hbm, ⟨103, _⟩ => ⟨S4x4096x32x64, .f32⟩
  | .hbm, ⟨104, _⟩ => ⟨S4x4096x32x128, .f32⟩
  | .hbm, ⟨105, _⟩ => ⟨S4x4096x32x192, .f32⟩
  | .hbm, ⟨106, _⟩ => ⟨S_, .i32⟩
  | .hbm, ⟨107, _⟩ => ⟨S_, .f32⟩
  | .hbm, ⟨108, _⟩ => ⟨S4x4096x32x256, .f32⟩
  | .hbm, ⟨109, _⟩ => ⟨S16384x8192, .f32⟩
  | .hbm, ⟨110, _⟩ => ⟨S_, .i32⟩
  | .hbm, ⟨111, _⟩ => ⟨S_, .f32⟩
  | .hbm, ⟨112, _⟩ => ⟨S4x256x32x256, .f32⟩
  | .hbm, ⟨113, _⟩ => ⟨S1024x8192, .f32⟩
  | .hbm, ⟨114, _⟩ => ⟨S17408x8192, .f32⟩
  | .hbm, ⟨115, _⟩ => ⟨S17408x8192, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_cst : Ref sig .tc := ⟨.hbm, 47, rfl⟩
abbrev main_v6 : Ref sig .tc := ⟨.hbm, 48, rfl⟩
abbrev main_v7 : Ref sig .tc := ⟨.hbm, 49, rfl⟩
abbrev main_cst_1 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_cst_2 : Ref sig .tc := ⟨.hbm, 54, rfl⟩
abbrev main_v11 : Ref sig .tc := ⟨.hbm, 55, rfl⟩
abbrev main_v12 : Ref sig .tc := ⟨.hbm, 56, rfl⟩
abbrev main_cst_3 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_4 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_cst_5 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_c_6 : Ref sig .tc := ⟨.hbm, 106, rfl⟩
abbrev main_call2_v0 : Ref sig .tc := ⟨.hbm, 107, rfl⟩
abbrev main_v59 : Ref sig .tc := ⟨.hbm, 108, rfl⟩
abbrev main_v60 : Ref sig .tc := ⟨.hbm, 109, rfl⟩
abbrev main_c_7 : Ref sig .tc := ⟨.hbm, 110, rfl⟩
abbrev main_call3_v0 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩

abbrev nD : Nat := 1
abbrev τ : Topo := Topo.v7x

variable {F : FTy → Type} [FloatOps F]
-- ==== Kernel9.lean ====
abbrev S4x4096x4096 : Shape := ⟨3, ![4, 4096, 4096]⟩
abbrev S4x256x4096 : Shape := ⟨3, ![4, 256, 4096]⟩
abbrev S2x4096x1600 : Shape := ⟨3, ![2, 4096, 1600]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x128 : Shape := ⟨2, ![4096, 128]⟩
abbrev S1x4096x1x128 : Shape := ⟨4, ![1, 4096, 1, 128]⟩
abbrev S4x4096x1x128 : Shape := ⟨4, ![4, 4096, 1, 128]⟩
abbrev S16384x128 : Shape := ⟨2, ![16384, 128]⟩
abbrev S1024x128 : Shape := ⟨2, ![1024, 128]⟩
abbrev S17408x128 : Shape := ⟨2, ![17408, 128]⟩
abbrev S16384x4096 : Shape := ⟨2, ![16384, 4096]⟩
abbrev S1024x4096 : Shape := ⟨2, ![1024, 4096]⟩
abbrev S17408x4096 : Shape := ⟨2, ![17408, 4096]⟩
abbrev S1x4096x1600 : Shape := ⟨3, ![1, 4096, 1600]⟩
abbrev S4096x1600 : Shape := ⟨2, ![4096, 1600]⟩
abbrev S4096x1x64 : Shape := ⟨3, ![4096, 1, 64]⟩
abbrev S4096x1x128 : Shape := ⟨3, ![4096, 1, 128]⟩

abbrev nBuf : Space → Nat
  | .hbm => 105
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4x256x4096, .f32⟩
  | .hbm, ⟨2, _⟩ => ⟨S2x4096x1600, .f32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S_, .i1⟩
  | .hbm, ⟨39, _⟩ => ⟨S4096, .i1⟩
  | .hbm, ⟨40, _⟩ => ⟨S4096, .i1⟩
  | .hbm, ⟨41, _⟩ => ⟨S4096, .i1⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S4096x1, .f32⟩
  | .hbm, ⟨61, _⟩ => ⟨S1x16, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S4096x1, .f32⟩
  | .hbm, ⟨66, _⟩ => ⟨S1x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S4096x64, .f32⟩
  | .hbm, ⟨71, _⟩ => ⟨S4096x64, .f32⟩
  | .hbm, ⟨72, _⟩ => ⟨S_, .f32⟩
  | .hbm, ⟨73, _⟩ => ⟨S_, .f32⟩
  | .hbm, ⟨74, _⟩ => ⟨S4096x128, .f32⟩
  | .hbm, ⟨75, _⟩ => ⟨S4096x64, .f32⟩
  | .hbm, ⟨76, _⟩ => ⟨S_, .i32⟩
  | .hbm, ⟨77, _⟩ => ⟨S_, .f32⟩
  | .hbm, ⟨78, _⟩ => ⟨S4096x128, .f32⟩
  | .hbm, ⟨79, _⟩ => ⟨S1x4096x1x128, .f32⟩
  | .hbm, ⟨80, _⟩ => ⟨S4x4096x1x128, .f32⟩
  | .hbm, ⟨81, _⟩ => ⟨S16384x128, .f32⟩
  | .hbm, ⟨82, _⟩ => ⟨S_, .f32⟩
  | .hbm, ⟨83, _⟩ => ⟨S1024x128, .f32⟩
  | .hbm, ⟨84, _⟩ => ⟨S17408x128, .f32⟩
  | .hbm, ⟨85, _⟩ => ⟨S1x4096x1x128, .f32⟩
  | .hbm, ⟨86, _⟩ => ⟨S4x4096x1x128, .f32⟩
  | .hbm, ⟨87, _⟩ => ⟨S16384x128, .f32⟩
  | .hbm, ⟨88, _⟩ => ⟨S_, .f32⟩
  | .hbm, ⟨89, _⟩ => ⟨S1024x128, .f32⟩
  | .hbm, ⟨90, _⟩ => ⟨S17408x128, .f32⟩
  | .hbm, ⟨91, _⟩ => ⟨S16384x4096, .f32⟩
  | .hbm, ⟨92, _⟩ => ⟨S1024x4096, .f32⟩
  | .hbm, ⟨93, _⟩ => ⟨S17408x4096, .f32⟩
  | .hbm, ⟨94, _⟩ => ⟨S17408x4096, .bf16⟩
  | .hbm, ⟨95, _⟩ => ⟨S1x4096x1600, .f32⟩
  | .hbm, ⟨96, _⟩ => ⟨S4096x1600, .f32⟩
  | .hbm, ⟨97, _⟩ => ⟨S4096x64, .f32⟩
  | .hbm, ⟨98, _⟩ => ⟨S4096x1x64, .f32⟩
  | .hbm, ⟨99, _⟩ => ⟨S_, .i32⟩
  | .hbm, ⟨100, _⟩ => ⟨S_, .f32⟩
  | .hbm, ⟨101, _⟩ => ⟨S4096x1x128, .f32⟩
  | .hbm, ⟨102, _⟩ => ⟨S4096x128, .f32⟩
  | .hbm, ⟨103, _⟩ => ⟨S4096x128, .bf16⟩
  | .hbm, ⟨104, _⟩ => ⟨S17408x128, .bf16⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .bf16⟩
  | .local _ .vmem, ⟨8, _⟩ => ⟨S1024x128, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_cst : Ref sig .tc := ⟨.hbm, 47, rfl⟩
abbrev main_v6 : Ref sig .tc := ⟨.hbm, 48, rfl⟩
abbrev main_v7 : Ref sig .tc := ⟨.hbm, 49, rfl⟩
abbrev main_cst_1 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_cst_2 : Ref sig .tc := ⟨.hbm, 54, rfl⟩
abbrev main_v11 : Ref sig .tc := ⟨.hbm, 55, rfl⟩
abbrev main_v12 : Ref sig .tc := ⟨.hbm, 56, rfl⟩
abbrev main_cst_3 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_cst_4 : Ref sig .tc := ⟨.hbm, 72, rfl⟩
abbrev main_call2_v0 : Ref sig .tc := ⟨.hbm, 73, rfl⟩
abbrev main_v27 : Ref sig .tc := ⟨.hbm, 74, rfl⟩
abbrev main_v28 : Ref sig .tc := ⟨.hbm, 75, rfl⟩
abbrev main_c_5 : Ref sig .tc := ⟨.hbm, 76, rfl⟩
abbrev main_call3_v0 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst_6 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_cst_7 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_c_8 : Ref sig .tc := ⟨.hbm, 99, rfl⟩
abbrev main_call4_v0 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![17, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference9Ideal.lean ====
abbrev S4x4096x4096 : Shape := ⟨3, ![4, 4096, 4096]⟩
abbrev S4x256x4096 : Shape := ⟨3, ![4, 256, 4096]⟩
abbrev S2x4096x1600 : Shape := ⟨3, ![2, 4096, 1600]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1600 : Shape := ⟨3, ![1, 4096, 1600]⟩
abbrev S4096x1600 : Shape := ⟨2, ![4096, 1600]⟩
abbrev S4x4096x1600 : Shape := ⟨3, ![4, 4096, 1600]⟩
abbrev S4x4096x64 : Shape := ⟨3, ![4, 4096, 64]⟩
abbrev S4x4096x16 : Shape := ⟨3, ![4, 4096, 16]⟩
abbrev S1x4096x64 : Shape := ⟨3, ![1, 4096, 64]⟩
abbrev S4x256x1600 : Shape := ⟨3, ![4, 256, 1600]⟩
abbrev S4x256x64 : Shape := ⟨3, ![4, 256, 64]⟩
abbrev S16384x64 : Shape := ⟨2, ![16384, 64]⟩
abbrev S1024x64 : Shape := ⟨2, ![1024, 64]⟩
abbrev S17408x64 : Shape := ⟨2, ![17408, 64]⟩
abbrev S17408x128 : Shape := ⟨2, ![17408, 128]⟩

abbrev nBuf : Space → Nat
  | .hbm => 102
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x256x4096, .f32⟩
  | .hbm, ⟨2, _⟩ => ⟨S2x4096x1600, .f32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S_, .i1⟩
  | .hbm, ⟨39, _⟩ => ⟨S4096, .i1⟩
  | .hbm, ⟨40, _⟩ => ⟨S4096, .i1⟩
  | .hbm, ⟨41, _⟩ => ⟨S4096, .i1⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S4096x1, .f32⟩
  | .hbm, ⟨61, _⟩ => ⟨S1x16, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S4096x1, .f32⟩
  | .hbm, ⟨66, _⟩ => ⟨S1x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S4096x64, .f32⟩
  | .hbm, ⟨71, _⟩ => ⟨S4096x64, .f32⟩
  | .hbm, ⟨72, _⟩ => ⟨S4096x64, .f32⟩
  | .hbm, ⟨73, _⟩ => ⟨S1x4096x1600, .f32⟩
  | .hbm, ⟨74, _⟩ => ⟨S4096x1600, .f32⟩
  | .hbm, ⟨75, _⟩ => ⟨S4x4096x1600, .f32⟩
  | .hbm, ⟨76, _⟩ => ⟨S4x4096x64, .f32⟩
  | .hbm, ⟨77, _⟩ => ⟨S4x4096x16, .f32⟩
  | .hbm, ⟨78, _⟩ => ⟨S4x4096x16, .f32⟩
  | .hbm, ⟨79, _⟩ => ⟨S4x4096x16, .f32⟩
  | .hbm, ⟨80, _⟩ => ⟨S4x4096x16, .f32⟩
  | .hbm, ⟨81, _⟩ => ⟨S1x4096x64, .f32⟩
  | .hbm, ⟨82, _⟩ => ⟨S4x4096x64, .f32⟩
  | .hbm, ⟨83, _⟩ => ⟨S4x4096x64, .f32⟩
  | .hbm, ⟨84, _⟩ => ⟨S4x4096x16, .f32⟩
  | .hbm, ⟨85, _⟩ => ⟨S4x4096x16, .f32⟩
  | .hbm, ⟨86, _⟩ => ⟨S4x4096x64, .f32⟩
  | .hbm, ⟨87, _⟩ => ⟨S1x4096x64, .f32⟩
  | .hbm, ⟨88, _⟩ => ⟨S4x4096x64, .f32⟩
  | .hbm, ⟨89, _⟩ => ⟨S4x4096x64, .f32⟩
  | .hbm, ⟨90, _⟩ => ⟨S4x4096x64, .f32⟩
  | .hbm, ⟨91, _⟩ => ⟨S1x4096x1600, .f32⟩
  | .hbm, ⟨92, _⟩ => ⟨S4096x1600, .f32⟩
  | .hbm, ⟨93, _⟩ => ⟨S4x256x1600, .f32⟩
  | .hbm, ⟨94, _⟩ => ⟨S4x256x64, .f32⟩
  | .hbm, ⟨95, _⟩ => ⟨S16384x64, .f32⟩
  | .hbm, ⟨96, _⟩ => ⟨S1024x64, .f32⟩
  | .hbm, ⟨97, _⟩ => ⟨S17408x64, .f32⟩
  | .hbm, ⟨98, _⟩ => ⟨S_, .i32⟩
  | .hbm, ⟨99, _⟩ => ⟨S_, .f32⟩
  | .hbm, ⟨100, _⟩ => ⟨S17408x128, .f32⟩
  | .hbm, ⟨101, _⟩ => ⟨S17408x128, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_cst : Ref sig .tc := ⟨.hbm, 47, rfl⟩
abbrev main_v6 : Ref sig .tc := ⟨.hbm, 48, rfl⟩
abbrev main_v7 : Ref sig .tc := ⟨.hbm, 49, rfl⟩
abbrev main_cst_1 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_cst_2 : Ref sig .tc := ⟨.hbm, 54, rfl⟩
abbrev main_v11 : Ref sig .tc := ⟨.hbm, 55, rfl⟩
abbrev main_v12 : Ref sig .tc := ⟨.hbm, 56, rfl⟩
abbrev main_cst_3 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_c_4 : Ref sig .tc := ⟨.hbm, 98, rfl⟩
abbrev main_call2_v0 : Ref sig .tc := ⟨.hbm, 99, rfl⟩
abbrev main_v53 : Ref sig .tc := ⟨.hbm, 100, rfl⟩
abbrev main_v54 : Ref sig .tc := ⟨.hbm, 101, rfl⟩

abbrev nD : Nat := 1
abbrev τ : Topo := Topo.v7x

variable {F : FTy → Type} [FloatOps F]
-- ==== Kernel10.lean ====
abbrev S4x4096x1536 : Shape := ⟨3, ![4, 4096, 1536]⟩
abbrev S4x256x1536 : Shape := ⟨3, ![4, 256, 1536]⟩
abbrev S2x1024 : Shape := ⟨2, ![2, 1024]⟩
abbrev S2x512 : Shape := ⟨2, ![2, 512]⟩
abbrev S16384x1536 : Shape := ⟨2, ![16384, 1536]⟩
abbrev S1024x1536 : Shape := ⟨2, ![1024, 1536]⟩
abbrev S17408x1536 : Shape := ⟨2, ![17408, 1536]⟩
abbrev S1x1024 : Shape := ⟨2, ![1, 1024]⟩
abbrev S1024 : Shape := ⟨1, ![1024]⟩
abbrev S1x512 : Shape := ⟨2, ![1, 512]⟩
abbrev S512 : Shape := ⟨1, ![512]⟩
abbrev S17408x1024 : Shape := ⟨2, ![17408, 1024]⟩
abbrev S17408x512 : Shape := ⟨2, ![17408, 512]⟩
abbrev S512x1536 : Shape := ⟨2, ![512, 1536]⟩
abbrev S512x1024 : Shape := ⟨2, ![512, 1024]⟩
abbrev S512x512 : Shape := ⟨2, ![512, 512]⟩
abbrev S512x1 : Shape := ⟨2, ![512, 1]⟩

abbrev nBuf : Space → Nat
  | .hbm => 15
  | .vmem => 8
  | .smem => 0
  | _ => 0

abbrev bufTy : (tb : Table) → Fin (tcTables nBuf tb) → BufTy
  | .hbm, ⟨0, _⟩ => ⟨S4x4096x1536, .f32⟩
  | .hbm, ⟨1, _⟩ => ⟨S4x256x1536, .f32⟩
  | .hbm, ⟨2, _⟩ => ⟨S2x1024, .f32⟩
  | .hbm, ⟨3, _⟩ => ⟨S2x512, .f32⟩
  | .hbm, ⟨4, _⟩ => ⟨S16384x1536, .f32⟩
  | .hbm, ⟨5, _⟩ => ⟨S1024x1536, .f32⟩
  | .hbm, ⟨6, _⟩ => ⟨S17408x1536, .f32⟩
  | .hbm, ⟨7, _⟩ => ⟨S1x1024, .f32⟩
  | .hbm, ⟨8, _⟩ => ⟨S1024, .f32⟩
  | .hbm, ⟨9, _⟩ => ⟨S1x512, .f32⟩
  | .hbm, ⟨10, _⟩ => ⟨S512, .f32⟩
  | .hbm, ⟨11, _⟩ => ⟨S1x1024, .f32⟩
  | .hbm, ⟨12, _⟩ => ⟨S1x512, .f32⟩
  | .hbm, ⟨13, _⟩ => ⟨S17408x1024, .bf16⟩
  | .hbm, ⟨14, _⟩ => ⟨S17408x512, .bf16⟩
  | .local _ .vmem, ⟨0, _⟩ => ⟨S512x1536, .f32⟩
  | .local _ .vmem, ⟨1, _⟩ => ⟨S512x1536, .f32⟩
  | .local _ .vmem, ⟨2, _⟩ => ⟨S1x1024, .f32⟩
  | .local _ .vmem, ⟨3, _⟩ => ⟨S1x512, .f32⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | _, _ => ⟨S4x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S4x4096x1536 : Shape := ⟨3, ![4, 4096, 1536]⟩
abbrev S4x256x1536 : Shape := ⟨3, ![4, 256, 1536]⟩
abbrev S2x1024 : Shape := ⟨2, ![2, 1024]⟩
abbrev S2x512 : Shape := ⟨2, ![2, 512]⟩
abbrev S4x4096x1024 : Shape := ⟨3, ![4, 4096, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x512 : Shape := ⟨3, ![4, 4096, 512]⟩
abbrev S1x512 : Shape := ⟨2, ![1, 512]⟩
abbrev S512 : Shape := ⟨1, ![512]⟩
abbrev S1x1x512 : Shape := ⟨3, ![1, 1, 512]⟩
abbrev S16384x1024 : Shape := ⟨2, ![16384, 1024]⟩
abbrev S16384x512 : Shape := ⟨2, ![16384, 512]⟩
abbrev S4x256x1024 : Shape := ⟨3, ![4, 256, 1024]⟩
abbrev S4x256 : Shape := ⟨2, ![4, 256]⟩
abbrev S4x256x1 : Shape := ⟨3, ![4, 256, 1]⟩
abbrev S4x256x512 : Shape := ⟨3, ![4, 256, 512]⟩
abbrev S1024x1024 : Shape := ⟨2, ![1024, 1024]⟩
abbrev S1024x512 : Shape := ⟨2, ![1024, 512]⟩
abbrev S17408x1024 : Shape := ⟨2, ![17408, 1024]⟩
abbrev S17408x512 : Shape := ⟨2, ![17408, 512]⟩

abbrev nBuf : Space → Nat
  | .hbm => 88
  | .vmem => 0
  | .smem => 0
  | _ => 0

abbrev bufTy : (tb : Table) → Fin (tcTables nBuf tb) → BufTy
  | .hbm, ⟨0, _⟩ => ⟨S4x4096x1536, .f32⟩
  | .hbm, ⟨1, _⟩ => ⟨S4x256x1536, .f32⟩
  | .hbm, ⟨2, _⟩ => ⟨S2x1024, .f32⟩
  | .hbm, ⟨3, _⟩ => ⟨S2x512, .f32⟩
  | .hbm, ⟨4, _⟩ => ⟨S4x4096x1024, .f32⟩
  | .hbm, ⟨5, _⟩ => ⟨S1x1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x512, .f32⟩
  | .hbm, ⟨24, _⟩ => ⟨S1x512, .f32⟩
  | .hbm, ⟨25, _⟩ => ⟨S512, .f32⟩
  | .hbm, ⟨26, _⟩ => ⟨S4x4096x512, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x1, .f32⟩
  | .hbm, ⟨37, _⟩ => ⟨S4x4096x512, .f32⟩
  | .hbm, ⟨38, _⟩ => ⟨S4x4096x512, .f32⟩
  | .hbm, ⟨39, _⟩ => ⟨S1x1x512, .f32⟩
  | .hbm, ⟨40, _⟩ => ⟨S4x4096x512, .f32⟩
  | .hbm, ⟨41, _⟩ => ⟨S4x4096x512, .f32⟩
  | .hbm, ⟨42, _⟩ => ⟨S16384x1024, .f32⟩
  | .hbm, ⟨43, _⟩ => ⟨S16384x512, .f32⟩
  | .hbm, ⟨44, _⟩ => ⟨S4x256x1024, .f32⟩
  | .hbm, ⟨45, _⟩ => ⟨S1x1024, .f32⟩
  | .hbm, ⟨46, _⟩ => ⟨S1024, .f32⟩
  | .hbm, ⟨47, _⟩ => ⟨S4x256x1024, .f32⟩
  | .hbm, ⟨48, _⟩ => ⟨S_, .f32⟩
  | .hbm, ⟨49, _⟩ => ⟨S4x256, .f32⟩
  | .hbm, ⟨50, _⟩ => ⟨S4x256x1, .f32⟩
  | .hbm, ⟨51, _⟩ => ⟨S_, .f32⟩
  | .hbm, ⟨52, _⟩ => ⟨S4x256x1, .f32⟩
  | .hbm, ⟨53, _⟩ => ⟨S4x256x1, .f32⟩
  | .hbm, ⟨54, _⟩ => ⟨S_, .f32⟩
  | .hbm, ⟨55, _⟩ => ⟨S4x256x1, .f32⟩
  | .hbm, ⟨56, _⟩ => ⟨S4x256x1, .f32⟩
  | .hbm, ⟨57, _⟩ => ⟨S4x256x1, .f32⟩
  | .hbm, ⟨58, _⟩ => ⟨S4x256x1024, .f32⟩
  | .hbm, ⟨59, _⟩ => ⟨S4x256x1024, .f32⟩
  | .hbm, ⟨60, _⟩ => ⟨S1x1x1024, .f32⟩
  | .hbm, ⟨61, _⟩ => ⟨S4x256x1024, .f32⟩
  | .hbm, ⟨62, _⟩ => ⟨S4x256x1024, .f32⟩
  | .hbm, ⟨63, _⟩ => ⟨S4x256x512, .f32⟩
  | .hbm, ⟨64, _⟩ => ⟨S1x512, .f32⟩
  | .hbm, ⟨65, _⟩ => ⟨S512, .f32⟩
  | .hbm, ⟨66, _⟩ => ⟨S4x256x512, .f32⟩
  | .hbm, ⟨67, _⟩ => ⟨S_, .f32⟩
  | .hbm, ⟨68, _⟩ => ⟨S4x256, .f32⟩
  | .hbm, ⟨69, _⟩ => ⟨S4x256x1, .f32⟩
  | .hbm, ⟨70, _⟩ => ⟨S_, .f32⟩
  | .hbm, ⟨71, _⟩ => ⟨S4x256x1, .f32⟩
  | .hbm, ⟨72, _⟩ => ⟨S4x256x1, .f32⟩
  | .hbm, ⟨73, _⟩ => ⟨S_, .f32⟩
  | .hbm, ⟨74, _⟩ => ⟨S4x256x1, .f32⟩
  | .hbm, ⟨75, _⟩ => ⟨S4x256x1, .f32⟩
  | .hbm, ⟨76, _⟩ => ⟨S4x256x1, .f32⟩
  | .hbm, ⟨77, _⟩ => ⟨S4x256x512, .f32⟩
  | .hbm, ⟨78, _⟩ => ⟨S4x256x512, .f32⟩
  | .hbm, ⟨79, _⟩ => ⟨S1x1x512, .f32⟩
  | .hbm, ⟨80, _⟩ => ⟨S4x256x512, .f32⟩
  | .hbm, ⟨81, _⟩ => ⟨S4x256x512, .f32⟩
  | .hbm, ⟨82, _⟩ => ⟨S1024x1024, .f32⟩
  | .hbm, ⟨83, _⟩ => ⟨S1024x512, .f32⟩
  | .hbm, ⟨84, _⟩ => ⟨S17408x1024, .f32⟩
  | .hbm, ⟨85, _⟩ => ⟨S17408x1024, .bf16⟩
  | .hbm, ⟨86, _⟩ => ⟨S17408x512, .f32⟩
  | .hbm, ⟨87, _⟩ => ⟨S17408x512, .bf16⟩
  | _, _ => ⟨S4x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩

abbrev nD : Nat := 1
abbrev τ : Topo := Topo.v7x

variable {F : FTy → Type} [FloatOps F]
-- ==== Proof.Softmax.lean ====
/- The softmax of real scores over the extended reals, and the online form of it that takes the keys in spans.
   Nothing here mentions a program. -/
module

public import Idealize.ShloMosaic.PureOps.Ideal
public import Mathlib.Analysis.SpecialFunctions.Pow.Real

@[expose] public section

noncomputable section

namespace Cert.Softmax

open Idealize.ShloMosaic

/-- A nonnegative real factor distributes over a finite sum of extended reals. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A finite sum of reals, in the extended reals. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The largest of finitely many reals, at least one, is a real. -/
theorem fold_max_real (n : ℕ) (f : Fin (n + 1) → EReal) (h : ∀ k, ∃ r : ℝ, f k = (r : EReal)) :
    ∃ M : ℝ, Finset.univ.fold max (⊥ : EReal) f = (M : EReal) := by
  have key : ∀ s : Finset (Fin (n + 1)), s.Nonempty → ∃ M : ℝ, s.fold max (⊥ : EReal) f = (M : EReal) := by
    intro s hs
    induction hs using Finset.Nonempty.cons_induction with
    | singleton a =>
      obtain ⟨r, hr⟩ := h a
      exact ⟨r, by rw [Finset.fold_singleton, hr]; exact max_eq_left bot_le⟩
    | cons a s ha hs ih =>
      obtain ⟨r, hr⟩ := h a
      obtain ⟨M, hM⟩ := ih
      exact ⟨max r M, by rw [Finset.fold_cons, hM, hr]; exact (EReal.coe_strictMono.monotone.map_max (a := r) (b := M)).symm⟩
  exact key _ Finset.univ_nonempty

/-- The weighted sum of the values `v` of the first `n` keys, key `j` weighted by two to the power of its
    score minus `m`. -/
def wsum (s : ℕ → ℝ) (v : ℕ → EReal) (m : ℝ) (n : ℕ) : EReal :=
  ∑ j ∈ Finset.range n, ((Real.rpow 2 (s j - m) : ℝ) : EReal) * v j

/-- Changing the shift multiplies the weighted sum by two to the power of the difference. -/
theorem wsum_shift (s : ℕ → ℝ) (v : ℕ → EReal) (m m' : ℝ) (n : ℕ) :
    ((Real.rpow 2 (m - m') : ℝ) : EReal) * wsum s v m n = wsum s v m' n := by
  have h0 : 0 ≤ Real.rpow 2 (m - m') := Real.rpow_nonneg (by norm_num) _
  unfold wsum
  rw [coe_mul_sum _ _ h0]
  refine Finset.sum_congr rfl fun j _ => ?_
  rw [← mul_assoc, ← EReal.coe_mul]
  congr 2
  show (2 : ℝ) ^ (m - m') * 2 ^ (s j - m) = 2 ^ (s j - m')
  rw [← Real.rpow_add (by norm_num)]
  congr 1; ring

/-- The first span of keys: their weighted sum. -/
theorem first_span (s : ℕ → ℝ) (v : ℕ → EReal) (K : ℕ) (S : Fin K → EReal) (W : Fin K → EReal) (M : EReal) (m : ℝ)
    (hM : M = (m : EReal)) (hS : ∀ j : Fin K, S j = ((s j.val : ℝ) : EReal)) (hW : ∀ j : Fin K, W j = v j.val) :
    ∑ j, Ideal.exp2 (S j - M) * W j = wsum s v m K := by
  unfold wsum
  rw [Finset.sum_range]
  refine Finset.sum_congr rfl fun j _ => ?_
  rw [hS, hM, hW, ← EReal.coe_sub, Ideal.exp2_coe]

/-- One further span of keys: the accumulator brought to the new shift, plus the span's weighted sum. -/
theorem next_span (s : ℕ → ℝ) (v : ℕ → EReal) (n K : ℕ) (S : Fin K → EReal) (W : Fin K → EReal) (M M' A : EReal) (m m' : ℝ)
    (hM : M = (m : EReal)) (hM' : M' = (m' : EReal)) (hA : A = wsum s v m n)
    (hS : ∀ j : Fin K, S j = ((s (n + j.val) : ℝ) : EReal)) (hW : ∀ j : Fin K, W j = v (n + j.val)) :
    Ideal.exp2 (M - M') * A + ∑ j, Ideal.exp2 (S j - M') * W j = wsum s v m' (n + K) := by
  rw [hM, hM', hA, ← EReal.coe_sub, Ideal.exp2_coe, wsum_shift]
  unfold wsum
  rw [Finset.sum_range_add, Finset.sum_range (n := K)]
  congr 1
  refine Finset.sum_congr rfl fun j _ => ?_
  rw [hS, hW, ← EReal.coe_sub, Ideal.exp2_coe]

/-- The softmax of the first `n` real scores `t`, applied to the values `v`. -/
def attn (t : ℕ → ℝ) (v : ℕ → EReal) (n : ℕ) : EReal :=
  ∑ j ∈ Finset.range n, ((Real.exp (t j) / ∑ i ∈ Finset.range n, Real.exp (t i) : ℝ) : EReal) * v j

/-- Two to the power of `x / log 2` is the exponential of `x`. -/
theorem two_rpow_div_log (x : ℝ) : Real.rpow 2 (x / Real.log 2) = Real.exp x := by
  show (2 : ℝ) ^ (x / Real.log 2) = Real.exp x
  rw [Real.rpow_def_of_pos (by norm_num)]
  congr 1
  have : Real.log 2 ≠ 0 := (Real.log_pos (by norm_num)).ne'
  field_simp

/-- The ratio of the weighted sums of the values and of ones, the scores divided by `log 2`, is the softmax. -/
theorem ratio_eq_attn (t : ℕ → ℝ) (v : ℕ → EReal) (m : ℝ) (n : ℕ) :
    Ideal.div (wsum (fun j => t j / Real.log 2) v m (n + 1)) (wsum (fun j => t j / Real.log 2) (fun _ => 1) m (n + 1))
      = attn t v (n + 1) := by
  have hl : Real.log 2 ≠ 0 := (Real.log_pos (by norm_num)).ne'
  have hw : ∀ j, Real.rpow 2 (t j / Real.log 2 - m) = Real.exp (t j) * Real.exp (-(m * Real.log 2)) := by
    intro j
    rw [← Real.exp_add, ← two_rpow_div_log]
    congr 1
    field_simp
    ring
  set E := Real.exp (-(m * Real.log 2)) with hE
  have hEpos : 0 < E := Real.exp_pos _
  set Z := ∑ i ∈ Finset.range (n + 1), Real.exp (t i) with hZ
  have hZpos : 0 < Z := Finset.sum_pos (fun i _ => Real.exp_pos _) ⟨0, by simp⟩
  have hden : wsum (fun j => t j / Real.log 2) (fun _ => 1) m (n + 1) = ((Z * E : ℝ) : EReal) := by
    unfold wsum
    simp only [mul_one]
    rw [coe_sum]
    congr 1
    rw [hZ, Finset.sum_mul]
    exact Finset.sum_congr rfl fun j _ => hw j
  rw [hden, Ideal.div_coe (mul_pos hZpos hEpos).ne', mul_comm]
  unfold wsum attn
  rw [coe_mul_sum _ _ (by positivity)]
  refine Finset.sum_congr rfl fun j _ => ?_
  rw [← mul_assoc, ← EReal.coe_mul, hw j]
  congr 2
  rw [← hZ]
  field_simp

/-- The softmax as it is plainly written: scores minus any real shift, the exponentials divided by their sum. -/
theorem plain_eq_attn (t : ℕ → ℝ) (v : ℕ → EReal) (n : ℕ) (S : Fin (n + 1) → EReal) (W : Fin (n + 1) → EReal)
    (M : EReal) (m : ℝ) (hM : M = (m : EReal)) (hS : ∀ j, S j = ((t j.val : ℝ) : EReal)) (hW : ∀ j, W j = v j.val) :
    ∑ j, W j * Ideal.div (Ideal.exp (S j - M)) (0 + ∑ i, Ideal.exp (S i - M)) = attn t v (n + 1) := by
  have he : ∀ j : Fin (n + 1), Ideal.exp (S j - M) = ((Real.exp (t j.val) * Real.exp (-m) : ℝ) : EReal) := by
    intro j
    rw [hS, hM, ← EReal.coe_sub, Ideal.exp_coe, ← Real.exp_add, sub_eq_add_neg]
  set E := Real.exp (-m) with hE
  have hEpos : 0 < E := Real.exp_pos _
  set Z := ∑ i ∈ Finset.range (n + 1), Real.exp (t i) with hZ
  have hZpos : 0 < Z := Finset.sum_pos (fun i _ => Real.exp_pos _) ⟨0, by simp⟩
  have hden : (0 : EReal) + ∑ i, Ideal.exp (S i - M) = ((Z * E : ℝ) : EReal) := by
    rw [zero_add, Finset.sum_congr rfl fun i _ => he i, coe_sum]
    congr 1
    rw [hZ, Finset.sum_mul, Finset.sum_range]
  rw [hden]
  unfold attn
  rw [Finset.sum_range]
  refine Finset.sum_congr rfl fun j _ => ?_
  rw [he j, Ideal.div_coe (mul_pos hZpos hEpos).ne', ← EReal.coe_mul, hW, mul_comm, ← hZ]
  congr 2
  field_simp

end Cert.Softmax

end
-- ==== Proof.Block.lean ====
/- What the body of the latent attention kernel computes in one grid point, read at an index: the scores of a
   span of keys, the running maximum, the accumulator after each span, and the quotient it stores. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Block

open Idealize.ShloMosaic Idealize.SL.Sem Cert.KernelIdeal Cert.KernelIdeal.Gen Cert.Softmax

variable (q : FVec Ideal S4096x256 .bf16) (k0 w0 : FVec Ideal S256x256 .bf16)
variable (k1 k2 k3 k4 w1 w2 w3 w4 : FVec Ideal S1024x256 .bf16)

/-- The scores of the first span of keys. -/
theorem pay11_at (r : Fin 4096) (j : Fin 256) :
    k0_pay11 (F := Ideal) q k0 (ix2 r j) = ∑ c : Fin 256, q (ix2 r c) * k0 (ix2 j c) := by
  pointwise [k0_pay11, k0_pay10]

/-- The scores of the second span of keys. -/
theorem pay13_at (r : Fin 4096) (j : Fin 1024) :
    k0_pay13 (F := Ideal) q k1 (ix2 r j) = ∑ c : Fin 256, q (ix2 r c) * k1 (ix2 j c) := by
  pointwise [k0_pay13, k0_pay10]

/-- The scores of the third span of keys. -/
theorem pay16_at (r : Fin 4096) (j : Fin 1024) :
    k0_pay16 (F := Ideal) q k2 (ix2 r j) = ∑ c : Fin 256, q (ix2 r c) * k2 (ix2 j c) := by
  pointwise [k0_pay16, k0_pay10]

/-- The scores of the fourth span of keys. -/
theorem pay19_at (r : Fin 4096) (j : Fin 1024) :
    k0_pay19 (F := Ideal) (k0_pay10 (F := Ideal) q) k3 (ix2 r j) = ∑ c : Fin 256, q (ix2 r c) * k3 (ix2 j c) := by
  pointwise [k0_pay19, k0_pay10]

/-- The scores of the fifth span of keys. -/
theorem pay22_at (r : Fin 4096) (j : Fin 1024) :
    k0_pay22 (F := Ideal) (k0_pay10 (F := Ideal) q) k4 (ix2 r j) = ∑ c : Fin 256, q (ix2 r c) * k4 (ix2 j c) := by
  pointwise [k0_pay22, k0_pay10]

/-- The pattern of minus infinity denotes the least extended real. -/
theorem ofBits_neg_inf : Ideal.ofBits .f32 0xFF800000#32 = ⊥ := by
  simp [Ideal.ofBits, Ideal.ieee]

/-- The maximum after the first span. -/
theorem pay12_at (r : Fin 4096) :
    k0_pay12 (F := Ideal) q k0 (ix2 r 0) = Finset.univ.fold max ⊥ fun j : Fin 256 => k0_pay11 (F := Ideal) q k0 (ix2 r j) := by
  pointwise [k0_pay12, ofBits_neg_inf]

/-- The maximum after the second span. -/
theorem pay14_at (r : Fin 4096) :
    k0_pay14 (F := Ideal) q k0 k1 (ix2 r 0) = max (k0_pay12 (F := Ideal) q k0 (ix2 r 0))
      (Finset.univ.fold max ⊥ fun j : Fin 1024 => k0_pay13 (F := Ideal) q k1 (ix2 r j)) := by
  pointwise [k0_pay14, ofBits_neg_inf]

/-- The maximum after the third span. -/
theorem pay18_at (v19 : FVec Ideal S4096x1 .f32) (r : Fin 4096) :
    k0_pay18 (F := Ideal) v19 (k0_pay17 (F := Ideal) q k2) (ix2 r 0) = max (v19 (ix2 r 0))
      (Finset.univ.fold max ⊥ fun j : Fin 1024 => k0_pay16 (F := Ideal) q k2 (ix2 r j)) := by
  pointwise [k0_pay18, k0_pay17, ofBits_neg_inf]

/-- The maximum after the fourth span. -/
theorem pay20_at (v4 : FVec Ideal S4096x256 .bf16) (v19 : FVec Ideal S4096x1 .f32) (v33 : FVec Ideal S4096 .f32) (r : Fin 4096) :
    k0_pay20 (F := Ideal) v4 v19 v33 k3 (ix2 r 0) = max (k0_pay18 (F := Ideal) v19 v33 (ix2 r 0))
      (Finset.univ.fold max ⊥ fun j : Fin 1024 => k0_pay19 (F := Ideal) v4 k3 (ix2 r j)) := by
  pointwise [k0_pay20, ofBits_neg_inf]

/-- The maximum after the fifth span. -/
theorem pay23_at (v4 : FVec Ideal S4096x256 .bf16) (v19 : FVec Ideal S4096x1 .f32) (v33 : FVec Ideal S4096 .f32) (r : Fin 4096) :
    k0_pay23 (F := Ideal) v4 v19 v33 k3 k4 (ix2 r 0) = max (k0_pay20 (F := Ideal) v4 v19 v33 k3 (ix2 r 0))
      (Finset.univ.fold max ⊥ fun j : Fin 1024 => k0_pay22 (F := Ideal) v4 k4 (ix2 r j)) := by
  pointwise [k0_pay23, ofBits_neg_inf]

/-- The exponential to base two of a value at an index. -/
theorem exp2_at (x : EReal) : FloatOps.exp2 (F := Ideal) (φ := .f32) x = Ideal.exp2 x := rfl

/-- The accumulator after the second span. -/
theorem pay15_at (r : Fin 4096) (x : Fin 256) :
    k0_pay15 (F := Ideal) q k0 w0 k1 w1 (ix2 r x)
      = Ideal.exp2 (k0_pay12 (F := Ideal) q k0 (ix2 r 0) - k0_pay14 (F := Ideal) q k0 k1 (ix2 r 0))
          * (∑ j : Fin 256, Ideal.exp2 (k0_pay11 (F := Ideal) q k0 (ix2 r j) - k0_pay12 (F := Ideal) q k0 (ix2 r 0)) * w0 (ix2 j x))
        + ∑ j : Fin 1024, Ideal.exp2 (k0_pay13 (F := Ideal) q k1 (ix2 r j) - k0_pay14 (F := Ideal) q k0 k1 (ix2 r 0)) * w1 (ix2 j x) := by
  pointwise [k0_pay15, exp2_at]
  all_goals rfl

/-- The accumulator after the fourth span. -/
theorem pay21_at (v4 : FVec Ideal S4096x256 .bf16) (v19 : FVec Ideal S4096x1 .f32) (v30 : FVec Ideal S4096x256 .f32)
    (v32 : FVec Ideal S4096x1024 .f32) (v33 : FVec Ideal S4096 .f32) (r : Fin 4096) (x : Fin 256) :
    k0_pay21 (F := Ideal) v4 v19 v30 v32 v33 w2 k3 w3 (ix2 r x)
      = Ideal.exp2 (k0_pay18 (F := Ideal) v19 v33 (ix2 r 0) - k0_pay20 (F := Ideal) v4 v19 v33 k3 (ix2 r 0))
          * (Ideal.exp2 (v19 (ix2 r 0) - k0_pay18 (F := Ideal) v19 v33 (ix2 r 0)) * v30 (ix2 r x)
            + ∑ j : Fin 1024, Ideal.exp2 (v32 (ix2 r j) - k0_pay18 (F := Ideal) v19 v33 (ix2 r 0)) * w2 (ix2 j x))
        + ∑ j : Fin 1024, Ideal.exp2 (k0_pay19 (F := Ideal) v4 k3 (ix2 r j) - k0_pay20 (F := Ideal) v4 v19 v33 k3 (ix2 r 0)) * w3 (ix2 j x) := by
  pointwise [k0_pay21, exp2_at]
  all_goals rfl

/-- The weighted sum of the fifth span. -/
theorem pay24_at (v4 : FVec Ideal S4096x256 .bf16) (v19 : FVec Ideal S4096x1 .f32) (v33 : FVec Ideal S4096 .f32) (r : Fin 4096) (x : Fin 256) :
    k0_pay24 (F := Ideal) v4 v19 v33 k3 k4 w4 (ix2 r x)
      = ∑ j : Fin 1024, Ideal.exp2 (k0_pay22 (F := Ideal) v4 k4 (ix2 r j) - k0_pay23 (F := Ideal) v4 v19 v33 k3 k4 (ix2 r 0)) * w4 (ix2 j x) := by
  pointwise [k0_pay24, exp2_at]
  all_goals rfl

/-- The factor that brings the accumulator to the last maximum. -/
theorem pay25_at (v4 : FVec Ideal S4096x256 .bf16) (v19 : FVec Ideal S4096x1 .f32) (v33 : FVec Ideal S4096 .f32) (r : Fin 4096) (x : Fin 256) :
    k0_pay25 (F := Ideal) v4 v19 v33 k3 k4 (ix2 r x)
      = Ideal.exp2 (k0_pay20 (F := Ideal) v4 v19 v33 k3 (ix2 r 0) - k0_pay23 (F := Ideal) v4 v19 v33 k3 k4 (ix2 r 0)) := by
  pointwise [k0_pay25, exp2_at]
  all_goals rfl

/-- What is stored: the accumulator's lower half over its lane 128. -/
theorem pay1_at (v62 v73 v76 : FVec Ideal S4096x256 .f32) (r : Fin 4096) (x : Fin 128) :
    k0_pay1 (F := Ideal) v62 v73 v76 (ix2 r x)
      = Ideal.div (v76 (ix2 r ⟨x.val, by omega⟩) * v62 (ix2 r ⟨x.val, by omega⟩) + v73 (ix2 r ⟨x.val, by omega⟩))
          (v76 (ix2 r 128) * v62 (ix2 r 128) + v73 (ix2 r 128)) := by
  pointwise [k0_pay1]

/-- The largest of a real and of the reals of a span is a real. -/
theorem max_real (n : ℕ) (A : EReal) (f : Fin (n + 1) → EReal) (hA : ∃ r : ℝ, A = (r : EReal)) (hf : ∀ k, ∃ r : ℝ, f k = (r : EReal)) :
    ∃ M : ℝ, max A (Finset.univ.fold max (⊥ : EReal) f) = (M : EReal) := by
  obtain ⟨a, rfl⟩ := hA
  obtain ⟨M, hM⟩ := fold_max_real n f hf
  exact ⟨max a M, by rw [hM]; exact (EReal.coe_strictMono.monotone.map_max (a := a) (b := M)).symm⟩

/-- The accumulator after the last span, in every lane: the weighted sum over all 4352 keys, at one real shift. -/
theorem acc_at (r : Fin 4096) (s : ℕ → ℝ)
    (h0 : ∀ j : Fin 256, ∑ c : Fin 256, q (ix2 r c) * k0 (ix2 j c) = ((s j.val : ℝ) : EReal))
    (h1 : ∀ j : Fin 1024, ∑ c : Fin 256, q (ix2 r c) * k1 (ix2 j c) = ((s (256 + j.val) : ℝ) : EReal))
    (h2 : ∀ j : Fin 1024, ∑ c : Fin 256, q (ix2 r c) * k2 (ix2 j c) = ((s (1280 + j.val) : ℝ) : EReal))
    (h3 : ∀ j : Fin 1024, ∑ c : Fin 256, q (ix2 r c) * k3 (ix2 j c) = ((s (2304 + j.val) : ℝ) : EReal))
    (h4 : ∀ j : Fin 1024, ∑ c : Fin 256, q (ix2 r c) * k4 (ix2 j c) = ((s (3328 + j.val) : ℝ) : EReal)) :
    ∃ m : ℝ, ∀ (x : Fin 256) (v : ℕ → EReal),
      (∀ j : Fin 256, w0 (ix2 j x) = v j.val) → (∀ j : Fin 1024, w1 (ix2 j x) = v (256 + j.val)) →
      (∀ j : Fin 1024, w2 (ix2 j x) = v (1280 + j.val)) → (∀ j : Fin 1024, w3 (ix2 j x) = v (2304 + j.val)) →
      (∀ j : Fin 1024, w4 (ix2 j x) = v (3328 + j.val)) →
      k0_pay25 (F := Ideal) (k0_pay10 (F := Ideal) q) (k0_pay14 (F := Ideal) q k0 k1) (k0_pay17 (F := Ideal) q k2) k3 k4 (ix2 r x)
          * k0_pay21 (F := Ideal) (k0_pay10 (F := Ideal) q) (k0_pay14 (F := Ideal) q k0 k1) (k0_pay15 (F := Ideal) q k0 w0 k1 w1)
              (k0_pay16 (F := Ideal) q k2) (k0_pay17 (F := Ideal) q k2) w2 k3 w3 (ix2 r x)
        + k0_pay24 (F := Ideal) (k0_pay10 (F := Ideal) q) (k0_pay14 (F := Ideal) q k0 k1) (k0_pay17 (F := Ideal) q k2) k3 k4 w4 (ix2 r x)
      = wsum s v m 4352 := by
  have e0 : ∀ j : Fin 256, k0_pay11 (F := Ideal) q k0 (ix2 r j) = ((s j.val : ℝ) : EReal) := fun j => (pay11_at q k0 r j).trans (h0 j)
  have e1 : ∀ j : Fin 1024, k0_pay13 (F := Ideal) q k1 (ix2 r j) = ((s (256 + j.val) : ℝ) : EReal) := fun j => (pay13_at q k1 r j).trans (h1 j)
  have e2 : ∀ j : Fin 1024, k0_pay16 (F := Ideal) q k2 (ix2 r j) = ((s (1280 + j.val) : ℝ) : EReal) := fun j => (pay16_at q k2 r j).trans (h2 j)
  have e3 : ∀ j : Fin 1024, k0_pay19 (F := Ideal) (k0_pay10 (F := Ideal) q) k3 (ix2 r j) = ((s (2304 + j.val) : ℝ) : EReal) :=
    fun j => (pay19_at q k3 r j).trans (h3 j)
  have e4 : ∀ j : Fin 1024, k0_pay22 (F := Ideal) (k0_pay10 (F := Ideal) q) k4 (ix2 r j) = ((s (3328 + j.val) : ℝ) : EReal) :=
    fun j => (pay22_at q k4 r j).trans (h4 j)
  obtain ⟨m0, M0⟩ : ∃ m : ℝ, k0_pay12 (F := Ideal) q k0 (ix2 r 0) = (m : EReal) := by
    rw [pay12_at]; exact fold_max_real 255 _ fun j => ⟨_, e0 j⟩
  obtain ⟨m1, M1⟩ : ∃ m : ℝ, k0_pay14 (F := Ideal) q k0 k1 (ix2 r 0) = (m : EReal) := by
    rw [pay14_at]; exact max_real 1023 _ _ ⟨_, M0⟩ fun j => ⟨_, e1 j⟩
  obtain ⟨m2, M2⟩ : ∃ m : ℝ, k0_pay18 (F := Ideal) (k0_pay14 (F := Ideal) q k0 k1) (k0_pay17 (F := Ideal) q k2) (ix2 r 0) = (m : EReal) := by
    rw [pay18_at]; exact max_real 1023 _ _ ⟨_, M1⟩ fun j => ⟨_, e2 j⟩
  obtain ⟨m3, M3⟩ : ∃ m : ℝ, k0_pay20 (F := Ideal) (k0_pay10 (F := Ideal) q) (k0_pay14 (F := Ideal) q k0 k1) (k0_pay17 (F := Ideal) q k2) k3
      (ix2 r 0) = (m : EReal) := by
    rw [pay20_at]; exact max_real 1023 _ _ ⟨_, M2⟩ fun j => ⟨_, e3 j⟩
  obtain ⟨m4, M4⟩ : ∃ m : ℝ, k0_pay23 (F := Ideal) (k0_pay10 (F := Ideal) q) (k0_pay14 (F := Ideal) q k0 k1) (k0_pay17 (F := Ideal) q k2) k3 k4
      (ix2 r 0) = (m : EReal) := by
    rw [pay23_at]; exact max_real 1023 _ _ ⟨_, M3⟩ fun j => ⟨_, e4 j⟩
  refine ⟨m4, fun x v v0 v1 v2 v3 v4 => ?_⟩
  rw [pay25_at, pay24_at, pay21_at, pay15_at]
  refine next_span s v 3328 1024 _ _ _ _ _ m3 m4 M3 M4 ?_ e4 v4
  refine next_span s v 2304 1024 _ _ _ _ _ m2 m3 M2 M3 ?_ e3 v3
  refine next_span s v 1280 1024 _ _ _ _ _ m1 m2 M1 M2 ?_ e2 v2
  refine next_span s v 256 1024 _ _ _ _ _ m0 m1 M0 M1 ?_ e1 v1
  exact first_span s v 256 _ _ _ m0 M0 e0 v0

end Cert.KernelIdeal.Block

end
-- ==== Proof.Loads.lean ====
/- The two scratch buffers of the latent attention kernel: what the loads of the keys and of the values read back
   from the pieces stored before. -/
module

public import proofs.«01_k».proof.Proof.Gen.KernelIdeal.Skeleton
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Block

open Idealize.ShloMosaic Idealize.ShloMosaic.TcCoe Idealize.SL.Sem Cert.KernelIdeal Cert.KernelIdeal.Gen

/-- The keys of one head, context rows first, the lanes without a position before the rotary ones. -/
def kcat (x1 x2 : FVec Ideal S256x128 .bf16) (x4 x5 : FVec Ideal S4096x128 .bf16) (j c : ℕ) : EReal :=
  if hj : j < 256 then
    (if hc : c < 128 then x1 (ix2 ⟨j, hj⟩ ⟨c, hc⟩) else if hc : c < 256 then x2 (ix2 ⟨j, hj⟩ ⟨c - 128, by omega⟩) else 0)
  else if hj' : j < 4352 then
    (if hc : c < 128 then x4 (ix2 ⟨j - 256, by omega⟩ ⟨c, hc⟩) else if hc : c < 256 then x5 (ix2 ⟨j - 256, by omega⟩ ⟨c - 128, by omega⟩) else 0)
  else 0

/-- The values of one head, context rows first, and in lane 128 ones. -/
def vaug (x3 : FVec Ideal S256x128 .bf16) (x6 : FVec Ideal S4096x128 .bf16) (j c : ℕ) : EReal :=
  if hc : c < 128 then
    (if hj : j < 256 then x3 (ix2 ⟨j, hj⟩ ⟨c, hc⟩) else if hj' : j < 4352 then x6 (ix2 ⟨j - 256, by omega⟩ ⟨c, hc⟩) else 0)
  else if c = 128 then 1 else 0

theorem pay2_at (x : FVec Ideal S256x128 .bf16) (a : Fin 256) (b : Fin 128) : k0_pay2 (F := Ideal) x (ix2 a b) = x (ix2 a b) := by
  pointwise [k0_pay2]
theorem pay3_at (x : FVec Ideal S256x128 .bf16) (a : Fin 256) (b : Fin 128) : k0_pay3 (F := Ideal) x (ix2 a b) = x (ix2 a b) := by
  pointwise [k0_pay3]
theorem pay4_at (x : FVec Ideal S4096x128 .bf16) (a : Fin 4096) (b : Fin 128) : k0_pay4 (F := Ideal) x (ix2 a b) = x (ix2 a b) := by
  pointwise [k0_pay4]
theorem pay5_at (x : FVec Ideal S4096x128 .bf16) (a : Fin 4096) (b : Fin 128) : k0_pay5 (F := Ideal) x (ix2 a b) = x (ix2 a b) := by
  pointwise [k0_pay5]
theorem pay9_at (x : FVec Ideal S4096x128 .bf16) (a : Fin 4096) (b : Fin 128) : k0_pay9 (F := Ideal) x (ix2 a b) = x (ix2 a b) := by
  pointwise [k0_pay9]
theorem pay87_at (x : FVec Ideal S256x128 .bf16) (a : Fin 256) (b : Fin 128) :
    k0_pay8 (F := Ideal) (k0_pay7 (F := Ideal) x) (ix2 a b) = x (ix2 a b) := by
  pointwise [k0_pay8, k0_pay7]
/-- The upper half of the values' scratch: ones in its first lane, zeros elsewhere. -/
theorem pay6_at (a : Fin 4352) (b : Fin 128) : k0_pay6 (F := Ideal) (ix2 a b) = if b.val = 0 then 1 else 0 := by
  pointwise [k0_pay6]
  by_cases h : b.val = 0
  · rw [if_pos h, h]; rfl
  · rw [if_neg h]
    have hne : ¬(BitVec.ofNat 32 b.val = 0#32) := by
      intro e
      have := congrArg BitVec.toNat e
      simp only [BitVec.toNat_ofNat] at this
      omega
    have hb : (BitVec.ofNat 32 b.val == 0#32) = false := by simpa using hne
    simp [Scalar.select, IntOp.cmpi, hb]

section kcatAt

variable (x1 x2 : FVec Ideal S256x128 .bf16) (x4 x5 : FVec Ideal S4096x128 .bf16)

theorem kcat_11 (j c : ℕ) (a : Fin 256) (b : Fin 128) (hj : j = a.val) (hc : c = b.val) : kcat x1 x2 x4 x5 j c = x1 (ix2 a b) := by
  subst hj; subst hc
  unfold kcat
  rw [dif_pos a.isLt, dif_pos b.isLt]
theorem kcat_12 (j c : ℕ) (a : Fin 256) (b : Fin 128) (hj : j = a.val) (hc : c = 128 + b.val) : kcat x1 x2 x4 x5 j c = x2 (ix2 a b) := by
  subst hj; subst hc
  unfold kcat
  rw [dif_pos a.isLt, dif_neg (by omega), dif_pos (by omega)]
  congr 1; refine (ix2_inj ..).2 ⟨rfl, Fin.ext ?_⟩
  show 128 + b.val - 128 = b.val
  omega
theorem kcat_21 (j c : ℕ) (a : Fin 4096) (b : Fin 128) (hj : j = 256 + a.val) (hc : c = b.val) : kcat x1 x2 x4 x5 j c = x4 (ix2 a b) := by
  subst hj; subst hc
  unfold kcat
  rw [dif_neg (by omega), dif_pos (by omega), dif_pos b.isLt]
  congr 1; refine (ix2_inj ..).2 ⟨Fin.ext ?_, rfl⟩
  show 256 + a.val - 256 = a.val
  omega
theorem kcat_22 (j c : ℕ) (a : Fin 4096) (b : Fin 128) (hj : j = 256 + a.val) (hc : c = 128 + b.val) : kcat x1 x2 x4 x5 j c = x5 (ix2 a b) := by
  subst hj; subst hc
  unfold kcat
  rw [dif_neg (by omega), dif_pos (by omega), dif_neg (by omega), dif_pos (by omega)]
  congr 1; refine (ix2_inj ..).2 ⟨Fin.ext ?_, Fin.ext ?_⟩
  · show 256 + a.val - 256 = a.val
    omega
  · show 128 + b.val - 128 = b.val
    omega

end kcatAt

section vaugAt

variable (x3 : FVec Ideal S256x128 .bf16) (x6 : FVec Ideal S4096x128 .bf16)

theorem vaug_1 (j c : ℕ) (a : Fin 256) (b : Fin 128) (hj : j = a.val) (hc : c = b.val) : vaug x3 x6 j c = x3 (ix2 a b) := by
  subst hj; subst hc
  unfold vaug
  rw [dif_pos b.isLt, dif_pos a.isLt]
theorem vaug_2 (j c : ℕ) (a : Fin 4096) (b : Fin 128) (hj : j = 256 + a.val) (hc : c = b.val) : vaug x3 x6 j c = x6 (ix2 a b) := by
  subst hj; subst hc
  unfold vaug
  rw [dif_pos b.isLt, dif_neg (by omega), dif_pos (by omega)]
  congr 1; refine (ix2_inj ..).2 ⟨Fin.ext ?_, rfl⟩
  show 256 + a.val - 256 = a.val
  omega
theorem vaug_3 (j c : ℕ) (b : Fin 128) (hc : c = 128 + b.val) : vaug x3 x6 j c = if b.val = 0 then 1 else 0 := by
  subst hc
  unfold vaug
  rw [dif_neg (by omega)]
  by_cases h : b.val = 0
  · rw [if_pos h, if_pos (by omega)]
  · rw [if_neg h, if_neg (by omega)]

end vaugAt

variable {sp : Space}

/-- Membership in a rectangle of unit stride of the scratch, from the coordinates. -/
theorem mem_unit2 (o0 o1 s0 s1 : ℕ) (inb) (y : S4352x256.Idx)
    (h0 : o0 ≤ (y 0 : ℕ) ∧ (y 0 : ℕ) < o0 + s0) (h1 : o1 ≤ (y 1 : ℕ) ∧ (y 1 : ℕ) < o1 + s1) :
    y ∈ (Rect.unit (s := S4352x256) ![o0, o1] ![s0, s1] inb).set :=
  Rect.mem_set_unit.mpr fun a => match a with
    | ⟨0, _⟩ => h0
    | ⟨1, _⟩ => h1
    | ⟨_ + 2, h⟩ => absurd h (by show ¬ _ + 2 < 2; omega)

/-- A load of `K` whole rows of the keys' scratch, once the four stores are done, reads the joined keys. -/
theorem kload (o K : ℕ) (hK : o + K ≤ 4352) (v : View sig .tc sp S4352x256 .bf16) (x1 x2 : FVec Ideal S256x128 .bf16)
    (x4 x5 : FVec Ideal S4096x128 .bf16) (i1 i2 i3 i4 i5) (j : Fin K) (c : Fin 256) :
    v.readCov (Val := Elt Ideal)
      [⟨Rect.unit (s := S4352x256) ![256, 128] ![4096, 128] i1, k0_pay5 (F := Ideal) x5⟩,
       ⟨Rect.unit (s := S4352x256) ![256, 0] ![4096, 128] i2, k0_pay4 (F := Ideal) x4⟩,
       ⟨Rect.unit (s := S4352x256) ![0, 128] ![256, 128] i3, k0_pay3 (F := Ideal) x2⟩,
       ⟨Rect.unit (s := S4352x256) ![0, 0] ![256, 128] i4, k0_pay2 (F := Ideal) x1⟩]
      (Rect.unit (s := S4352x256) ![o, 0] ![K, 256] i5).toLoadRect (ix2 j c : (⟨2, ![K, 256]⟩ : Shape).Idx) = kcat x1 x2 x4 x5 (o + j.val) c.val := by
  rw [View.readCov_eq_canon']
  refine View.canon_eq_of_allAt _ _ _ ?_ (View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _)))))
  · have e0 : (((Rect.unit (s := S4352x256) ![o, 0] ![K, 256] i5).idx (ix2 j c) 0 : Fin _) : ℕ) = o + 1 * j.val := rfl
    have e1 : (((Rect.unit (s := S4352x256) ![o, 0] ![K, 256] i5).idx (ix2 j c) 1 : Fin _) : ℕ) = 0 + 1 * c.val := rfl
    have hj := j.isLt
    by_cases hc : c.val < 128
    · by_cases hr : o + j.val < 256
      · exact ⟨_, List.mem_cons_of_mem _ (List.mem_cons_of_mem _ (List.mem_cons_of_mem _ List.mem_cons_self)), mem_unit2 0 0 256 128 i4 _ (by rw [e0]; omega) (by rw [e1]; omega)⟩
      · exact ⟨_, List.mem_cons_of_mem _ List.mem_cons_self, mem_unit2 256 0 4096 128 i2 _ (by rw [e0]; omega) (by rw [e1]; omega)⟩
    · by_cases hr : o + j.val < 256
      · exact ⟨_, List.mem_cons_of_mem _ (List.mem_cons_of_mem _ List.mem_cons_self), mem_unit2 0 128 256 128 i3 _ (by rw [e0]; omega) (by rw [e1]; omega)⟩
      · exact ⟨_, List.mem_cons_self, mem_unit2 256 128 4096 128 i1 _ (by rw [e0]; omega) (by rw [e1]; omega)⟩
  · obtain ⟨a, b, rfl⟩ : ∃ (a : Fin 4096) (b : Fin 128), x = ix2 a b := ⟨x 0, x 1, eq_ix2 x⟩
    have h0 : o + 1 * j.val = 256 + a.val := hx 0
    have h1 : 0 + 1 * c.val = 128 + b.val := hx 1
    exact (pay5_at x5 a b).trans (kcat_22 x1 x2 x4 x5 _ _ a b (by omega) (by omega)).symm
  · obtain ⟨a, b, rfl⟩ : ∃ (a : Fin 4096) (b : Fin 128), x = ix2 a b := ⟨x 0, x 1, eq_ix2 x⟩
    have h0 : o + 1 * j.val = 256 + a.val := hx 0
    have h1 : 0 + 1 * c.val = 0 + b.val := hx 1
    exact (pay4_at x4 a b).trans (kcat_21 x1 x2 x4 x5 _ _ a b (by omega) (by omega)).symm
  · obtain ⟨a, b, rfl⟩ : ∃ (a : Fin 256) (b : Fin 128), x = ix2 a b := ⟨x 0, x 1, eq_ix2 x⟩
    have h0 : o + 1 * j.val = 0 + a.val := hx 0
    have h1 : 0 + 1 * c.val = 128 + b.val := hx 1
    exact (pay3_at x2 a b).trans (kcat_12 x1 x2 x4 x5 _ _ a b (by omega) (by omega)).symm
  · obtain ⟨a, b, rfl⟩ : ∃ (a : Fin 256) (b : Fin 128), x = ix2 a b := ⟨x 0, x 1, eq_ix2 x⟩
    have h0 : o + 1 * j.val = 0 + a.val := hx 0
    have h1 : 0 + 1 * c.val = 0 + b.val := hx 1
    exact (pay2_at x1 a b).trans (kcat_11 x1 x2 x4 x5 _ _ a b (by omega) (by omega)).symm

/-- A load of `K` whole rows of the values' scratch, once the three stores are done, reads the joined values and the ones beside them. -/
theorem vload (o K : ℕ) (v : View sig .tc sp S4352x256 .bf16) (x3 : FVec Ideal S256x128 .bf16)
    (x6 : FVec Ideal S4096x128 .bf16) (i1 i2 i3 i5) (hK : o + K ≤ 4352) (j : Fin K) (c : Fin 256) :
    v.readCov (Val := Elt Ideal)
      [⟨Rect.unit (s := S4352x256) ![256, 0] ![4096, 128] i1, k0_pay9 (F := Ideal) x6⟩,
       ⟨Rect.unit (s := S4352x256) ![0, 0] ![256, 128] i2, k0_pay8 (F := Ideal) (k0_pay7 (F := Ideal) x3)⟩,
       ⟨Rect.unit (s := S4352x256) ![0, 128] ![4352, 128] i3, k0_pay6 (F := Ideal)⟩]
      (Rect.unit (s := S4352x256) ![o, 0] ![K, 256] i5).toLoadRect (ix2 j c : (⟨2, ![K, 256]⟩ : Shape).Idx) = vaug x3 x6 (o + j.val) c.val := by
  rw [View.readCov_eq_canon']
  refine View.canon_eq_of_allAt _ _ _ ?_ (View.allAt_cons_unit _ _ _ _ _ (fun x hx => ?_) (View.allAt_cons_unit _ _ _ _ _ (fun x hx => ?_)
    (View.allAt_cons_unit _ _ _ _ _ (fun x hx => ?_) (View.allAt_nil _ _))))
  · have e0 : (((Rect.unit (s := S4352x256) ![o, 0] ![K, 256] i5).idx (ix2 j c) 0 : Fin _) : ℕ) = o + 1 * j.val := rfl
    have e1 : (((Rect.unit (s := S4352x256) ![o, 0] ![K, 256] i5).idx (ix2 j c) 1 : Fin _) : ℕ) = 0 + 1 * c.val := rfl
    have hj := j.isLt
    by_cases hc : c.val < 128
    · by_cases hr : o + j.val < 256
      · exact ⟨_, List.mem_cons_of_mem _ List.mem_cons_self, mem_unit2 0 0 256 128 i2 _ (by rw [e0]; omega) (by rw [e1]; omega)⟩
      · exact ⟨_, List.mem_cons_self, mem_unit2 256 0 4096 128 i1 _ (by rw [e0]; omega) (by rw [e1]; omega)⟩
    · exact ⟨_, List.mem_cons_of_mem _ (List.mem_cons_of_mem _ List.mem_cons_self), mem_unit2 0 128 4352 128 i3 _ (by rw [e0]; omega) (by rw [e1]; omega)⟩
  · obtain ⟨a, b, rfl⟩ : ∃ (a : Fin 4096) (b : Fin 128), x = ix2 a b := ⟨x 0, x 1, eq_ix2 x⟩
    have h0 : o + 1 * j.val = 256 + a.val := hx 0
    have h1 : 0 + 1 * c.val = 0 + b.val := hx 1
    exact (pay9_at x6 a b).trans (vaug_2 x3 x6 _ _ a b (by omega) (by omega)).symm
  · obtain ⟨a, b, rfl⟩ : ∃ (a : Fin 256) (b : Fin 128), x = ix2 a b := ⟨x 0, x 1, eq_ix2 x⟩
    have h0 : o + 1 * j.val = 0 + a.val := hx 0
    have h1 : 0 + 1 * c.val = 0 + b.val := hx 1
    exact (pay87_at x3 a b).trans (vaug_1 x3 x6 _ _ a b (by omega) (by omega)).symm
  · obtain ⟨a, b, rfl⟩ : ∃ (a : Fin 4352) (b : Fin 128), x = ix2 a b := ⟨x 0, x 1, eq_ix2 x⟩
    have h1 : 0 + 1 * c.val = 128 + b.val := hx 1
    exact (pay6_at a b).trans (vaug_3 x3 x6 _ _ b (by omega)).symm

end Cert.KernelIdeal.Block

end
-- ==== Proof.Output.lean ====
/- What one run of the latent attention kernel stores in its output window: the attention of its queries over the
   joined context and latent rows. -/
module

public import proofs.«01_k».proof.Proof.Block
public import proofs.«01_k».proof.Proof.Loads
public import proofs.«01_k».proof.Proof.Gen.KernelIdeal.Value

@[expose] public section

set_option maxRecDepth 16384

noncomputable section

namespace Cert.KernelIdeal.Block

open Idealize.ShloMosaic Idealize.ShloMosaic.TcCoe Idealize.SL.Sem Cert.KernelIdeal Cert.KernelIdeal.Gen Cert.Softmax

/-- The stored block from the five loads of keys and of values: entry `(r, d)` is the attention of query `r` with
    the scores `t`, whose quotients by `log 2` are the products of the query with the keys. -/
theorem out_val (q : FVec Ideal S4096x256 .bf16) (k0 w0 : FVec Ideal S256x256 .bf16) (k1 k2 k3 k4 w1 w2 w3 w4 : FVec Ideal S1024x256 .bf16)
    (K V : ℕ → ℕ → EReal) (r : Fin 4096) (d : Fin 128) (t : ℕ → ℝ)
    (hk0 : ∀ j c, k0 (ix2 j c) = K (0 + j.val) c.val) (hw0 : ∀ j c, w0 (ix2 j c) = V (0 + j.val) c.val)
    (hk1 : ∀ j c, k1 (ix2 j c) = K (256 + j.val) c.val) (hw1 : ∀ j c, w1 (ix2 j c) = V (256 + j.val) c.val)
    (hk2 : ∀ j c, k2 (ix2 j c) = K (1280 + j.val) c.val) (hw2 : ∀ j c, w2 (ix2 j c) = V (1280 + j.val) c.val)
    (hk3 : ∀ j c, k3 (ix2 j c) = K (2304 + j.val) c.val) (hw3 : ∀ j c, w3 (ix2 j c) = V (2304 + j.val) c.val)
    (hk4 : ∀ j c, k4 (ix2 j c) = K (3328 + j.val) c.val) (hw4 : ∀ j c, w4 (ix2 j c) = V (3328 + j.val) c.val)
    (h1 : ∀ j, V j 128 = 1) (ht : ∀ j, j < 4352 → ∑ c : Fin 256, q (ix2 r c) * K j c.val = ((t j / Real.log 2 : ℝ) : EReal)) :
    k0_pay1 (F := Ideal) (k0_pay21 (F := Ideal) (k0_pay10 (F := Ideal) q) (k0_pay14 (F := Ideal) q k0 k1) (k0_pay15 (F := Ideal) q k0 w0 k1 w1)
        (k0_pay16 (F := Ideal) q k2) (k0_pay17 (F := Ideal) q k2) w2 k3 w3)
      (k0_pay24 (F := Ideal) (k0_pay10 (F := Ideal) q) (k0_pay14 (F := Ideal) q k0 k1) (k0_pay17 (F := Ideal) q k2) k3 k4 w4)
      (k0_pay25 (F := Ideal) (k0_pay10 (F := Ideal) q) (k0_pay14 (F := Ideal) q k0 k1) (k0_pay17 (F := Ideal) q k2) k3 k4) (ix2 r d)
    = attn t (fun j => V j d.val) 4352 := by
  rw [pay1_at]
  obtain ⟨m, hm⟩ := acc_at q k0 w0 k1 k2 k3 k4 w1 w2 w3 w4 r (fun j => t j / Real.log 2)
    (fun j => by simp only [hk0, Nat.zero_add]; exact ht _ (by omega))
    (fun j => by simp only [hk1]; exact ht _ (by omega))
    (fun j => by simp only [hk2]; exact ht _ (by omega))
    (fun j => by simp only [hk3]; exact ht _ (by omega))
    (fun j => by simp only [hk4]; exact ht _ (by omega))
  rw [hm ⟨d.val, by omega⟩ (fun j => V j d.val) (fun j => by rw [hw0, Nat.zero_add]) (fun j => hw1 _ _) (fun j => hw2 _ _) (fun j => hw3 _ _) (fun j => hw4 _ _),
    hm 128 (fun _ => 1) (fun j => (hw0 _ _).trans (h1 _)) (fun j => (hw1 _ _).trans (h1 _)) (fun j => (hw2 _ _).trans (h1 _))
      (fun j => (hw3 _ _).trans (h1 _)) (fun j => (hw4 _ _).trans (h1 _))]
  exact ratio_eq_attn t _ m 4351

/-- The output block of one run, at the entry `(r, d)`. -/
theorem out_at (c : Dev nD) (i : grid0.Coords) (arg3 : Memref sig .tc .vmem S4096x256 .bf16) (harg3 : arg3.IsWhole)
    (arg4 : Memref sig .tc .vmem S256x128 .bf16) (harg4 : arg4.IsWhole) (arg5 : Memref sig .tc .vmem S256x128 .bf16) (harg5 : arg5.IsWhole)
    (arg6 : Memref sig .tc .vmem S256x128 .bf16) (harg6 : arg6.IsWhole) (arg7 : Memref sig .tc .vmem S4096x128 .bf16) (harg7 : arg7.IsWhole)
    (arg8 : Memref sig .tc .vmem S4096x128 .bf16) (harg8 : arg8.IsWhole) (arg9 : Memref sig .tc .vmem S4096x128 .bf16) (harg9 : arg9.IsWhole)
    (arg10 : Memref sig .tc .vmem S4096x128 .bf16) (harg10 : arg10.IsWhole) (arg11 : Memref sig .tc .vmem S4352x256 .bf16) (harg11 : arg11.IsWhole)
    (arg12 : Memref sig .tc .vmem S4352x256 .bf16) (harg12 : arg12.IsWhole) (hc0 : cond0_0 i)
    (x0 : Vec Ideal S4096x256 .bf16) (x1 : Vec Ideal S256x128 .bf16) (x2 : Vec Ideal S256x128 .bf16) (x3 : Vec Ideal S256x128 .bf16)
    (x4 : Vec Ideal S4096x128 .bf16) (x5 : Vec Ideal S4096x128 .bf16) (x6 : Vec Ideal S4096x128 .bf16) (r : Fin 4096) (d : Fin 128) (t : ℕ → ℝ)
    (ht : ∀ j, j < 4352 → ∑ c : Fin 256, x0 (ix2 r c) * kcat x1 x2 x4 x5 j c.val = ((t j / Real.log 2 : ℝ) : EReal)) :
    out0_A_7 (F := Ideal) c i arg3 harg3 arg4 harg4 arg5 harg5 arg6 harg6 arg7 harg7 arg8 harg8 arg9 harg9 arg10 harg10 arg11 harg11 arg12 harg12
      hc0 x0 x1 x2 x3 x4 x5 x6 (ix2 r d) = attn t (fun j => vaug x3 x6 j d.val) 4352 := by
  frame_open
  frame_out
  exact out_val x0 _ _ _ _ _ _ _ _ _ _ (kcat x1 x2 x4 x5) (vaug x3 x6) r d t
    (fun j c => kload 0 256 (by omega) _ _ _ _ _ _ _ _ _ _ j c) (fun j c => vload 0 256 _ _ _ _ _ _ _ (by omega) j c)
    (fun j c => kload 256 1024 (by omega) _ _ _ _ _ _ _ _ _ _ j c) (fun j c => vload 256 1024 _ _ _ _ _ _ _ (by omega) j c)
    (fun j c => kload 1280 1024 (by omega) _ _ _ _ _ _ _ _ _ _ j c) (fun j c => vload 1280 1024 _ _ _ _ _ _ _ (by omega) j c)
    (fun j c => kload 2304 1024 (by omega) _ _ _ _ _ _ _ _ _ _ j c) (fun j c => vload 2304 1024 _ _ _ _ _ _ _ (by omega) j c)
    (fun j c => kload 3328 1024 (by omega) _ _ _ _ _ _ _ _ _ _ j c) (fun j c => vload 3328 1024 _ _ _ _ _ _ _ (by omega) j c)
    (fun j => by unfold vaug; simp) ht

end Cert.KernelIdeal.Block

end
-- ==== Proof.Spec.lean ====
/- The attention over arrays: scores and values of one query row, read from the six arguments, and the two ways in which
   a score is computed. -/
module

public import proofs.«01_k».proof.Proof.Softmax
public import Idealize.ShloMosaic.Lib.Pointwise

@[expose] public section

noncomputable section

namespace Cert.Spec

open Idealize.ShloMosaic Cert.Softmax

section rows

variable (A0 : FVec Ideal (⟨4, ![4, 4096, 32, 192]⟩ : Shape) .f32) (A2 : FVec Ideal (⟨4, ![4, 4096, 32, 256]⟩ : Shape) .f32)
  (A3 : FVec Ideal (⟨4, ![4, 256, 32, 256]⟩ : Shape) .f32) (A4 : FVec Ideal (⟨3, ![4, 4096, 64]⟩ : Shape) .f32)
  (A5 : FVec Ideal (⟨3, ![4, 256, 64]⟩ : Shape) .f32)

/-- Lane `c` of the query of latent row `r` of batch `b` in head `h`. -/
def qrow (b : Fin 4) (r : Fin 4096) (h : Fin 32) (c : ℕ) : EReal := if hc : c < 192 then A0 (ix4 b r h ⟨c, hc⟩) else 0

/-- Lane `d` of key and value row `j` of batch `b` in head `h`: the 256 context rows, then the latent rows. Lanes 0 to
    127 are the key without a position, lanes 128 to 255 the value. -/
def kvrow (b : Fin 4) (h : Fin 32) (j d : ℕ) : EReal :=
  if hd : d < 256 then
    (if hj : j < 256 then A3 (ix4 b ⟨j, hj⟩ h ⟨d, hd⟩) else if hj' : j < 4352 then A2 (ix4 b ⟨j - 256, by omega⟩ h ⟨d, hd⟩) else 0)
  else 0

/-- Lane `e` of rotary key row `j` of batch `b`, shared by the heads: context rows, then latent rows. -/
def krow (b : Fin 4) (j e : ℕ) : EReal :=
  if he : e < 64 then
    (if hj : j < 256 then A5 (ix3 b ⟨j, hj⟩ ⟨e, he⟩) else if hj' : j < 4352 then A4 (ix3 b ⟨j - 256, by omega⟩ ⟨e, he⟩) else 0)
  else 0

/-- The scaled score of a query against key row `j`, a real number. -/
def score (b : Fin 4) (r : Fin 4096) (h : Fin 32) (j : ℕ) : ℝ :=
  (∑ d ∈ Finset.range 128, (qrow A0 b r h d).toReal * (kvrow A2 A3 b h j d).toReal
    + ∑ e ∈ Finset.range 64, (qrow A0 b r h (128 + e)).toReal * (krow A4 A5 b j e).toReal) / √192

/-- The attention's result at lane `d`. -/
def spec (b : Fin 4) (r : Fin 4096) (h : Fin 32) (d : ℕ) : EReal :=
  attn (score A0 A2 A3 A4 A5 b r h) (fun j => kvrow A2 A3 b h j (128 + d)) 4352

end rows

theorem ofBits_192 : Ideal.ofBits .f32 0x43400000#32 = ((192 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem sqrt_192 : Ideal.sqrt (Ideal.ofBits .f32 0x43400000#32) = ((√192 : ℝ) : EReal) := by
  rw [ofBits_192, Ideal.sqrt_coe, if_neg (by norm_num)]

theorem sqrt_192_pos : (0 : ℝ) < √192 := Real.sqrt_pos.mpr (by norm_num)

theorem log_two_pos : (0 : ℝ) < Real.log 2 := Real.log_pos (by norm_num)

/-- The factor on the queries: the reciprocal of the root of 192 times the natural logarithm of 2. -/
theorem scale_eq : Ideal.div 1 (Ideal.sqrt (Ideal.ofBits .f32 0x43400000#32) * Ideal.log (Ideal.ofBits .f32 0x40000000#32))
    = ((1 / (√192 * Real.log 2) : ℝ) : EReal) := by
  have h : √192 * Real.log 2 ≠ 0 := (mul_pos sqrt_192_pos log_two_pos).ne'
  rw [sqrt_192, ofBits_two, Ideal.log_coe, if_neg (by norm_num), ← EReal.coe_mul, Ideal.div_coe h, one_mul]

/-- A product of a query and a key over 256 lanes: 128 lanes without a position, 64 rotary ones and 64 of padding, the
    query scaled before. -/
theorem padded_score (q k r : ℕ → ℝ) (x y : Fin 256 → EReal) (κ : ℝ)
    (hx : ∀ c, x c = if c.val < 192 then ((q c.val * κ : ℝ) : EReal) else 0)
    (hy : ∀ c, y c = if c.val < 128 then ((k c.val : ℝ) : EReal) else if c.val < 192 then ((r (c.val - 128) : ℝ) : EReal) else 0) :
    ∑ c, x c * y c
      = (((∑ d ∈ Finset.range 128, q d * k d + ∑ e ∈ Finset.range 64, q (128 + e) * r e) * κ : ℝ) : EReal) := by
  have e : ∀ c : Fin 256, x c * y c
      = (((if c.val < 128 then q c.val * k c.val * κ else if c.val < 192 then q c.val * r (c.val - 128) * κ else 0 : ℝ)) : EReal) := by
    intro c
    rw [hx, hy]
    by_cases h1 : c.val < 128
    · rw [if_pos (by omega), if_pos h1, if_pos h1, ← EReal.coe_mul]; congr 1; ring
    · by_cases h2 : c.val < 192
      · rw [if_pos h2, if_neg h1, if_neg h1, if_pos h2, if_pos h2, ← EReal.coe_mul]; congr 1; ring
      · rw [if_neg h2, if_neg h1, if_neg h2, if_neg h1, if_neg h2, mul_zero]; rfl
  rw [Finset.sum_congr rfl fun c _ => e c, coe_sum]
  congr 1
  rw [Fin.sum_univ_eq_sum_range (fun c => (if c < 128 then q c * k c * κ else if c < 192 then q c * r (c - 128) * κ else 0 : ℝ)) 256,
    show (256 : ℕ) = 128 + (64 + 64) from rfl, Finset.sum_range_add, Finset.sum_range_add, add_mul, Finset.sum_mul, Finset.sum_mul]
  refine congrArg₂ (· + ·) ?_ ?_
  · exact Finset.sum_congr rfl fun d hd => by rw [if_pos (Finset.mem_range.mp hd)]
  · rw [Finset.sum_eq_zero (s := Finset.range 64) (f := fun i => if 128 + (64 + i) < 128 then _ else _) (fun i _ => by
      rw [if_neg (by omega), if_neg (by omega)]), add_zero]
    refine Finset.sum_congr rfl fun d hd => ?_
    have := Finset.mem_range.mp hd
    rw [if_neg (by omega), if_pos (by omega), Nat.add_sub_cancel_left]

/-- A score as two products, over 128 and 64 lanes, added and divided. -/
theorem split_score (q k r : ℕ → ℝ) (x y : Fin 128 → EReal) (u w : Fin 64 → EReal)
    (hx : ∀ d, x d = (q d.val : ℝ)) (hy : ∀ d, y d = (k d.val : ℝ)) (hu : ∀ e, u e = (r e.val : ℝ)) (hw : ∀ e, w e = (q (128 + e.val) : ℝ)) :
    Ideal.div (∑ d, x d * y d + ∑ e, u e * w e) (Ideal.sqrt (Ideal.ofBits .f32 0x43400000#32))
      = (((∑ d ∈ Finset.range 128, q d * k d + ∑ e ∈ Finset.range 64, q (128 + e) * r e) / √192 : ℝ) : EReal) := by
  rw [sqrt_192, Ideal.div_coe sqrt_192_pos.ne',
    Finset.sum_congr rfl fun d _ => show x d * y d = ((q d.val * k d.val : ℝ) : EReal) by rw [hx, hy, ← EReal.coe_mul],
    Finset.sum_congr rfl fun e _ => show u e * w e = ((q (128 + e.val) * r e.val : ℝ) : EReal) by
      rw [hu, hw, ← EReal.coe_mul, mul_comm],
    coe_sum, coe_sum, Fin.sum_univ_eq_sum_range (fun d => q d * k d) 128, Fin.sum_univ_eq_sum_range (fun e => q (128 + e) * r e) 64,
    ← EReal.coe_add, ← EReal.coe_mul, mul_one_div]

theorem attn_congr (t : ℕ → ℝ) (v w : ℕ → EReal) (n : ℕ) (h : ∀ j, j < n → v j = w j) : attn t v n = attn t w n :=
  Finset.sum_congr rfl fun j hj => by rw [h j (Finset.mem_range.mp hj)]

theorem coe_toReal_of {a : EReal} (h : ∃ x : ℝ, a = x) : a = (a.toReal : EReal) := by
  obtain ⟨x, rfl⟩ := h
  rw [EReal.toReal_coe]

end Cert.Spec

end
-- ==== Proof.Arrays.lean ====
/- The arrays the latent attention kernel reads, from the six arguments, and the array it leaves. -/
module

public import proofs.«01_k».proof.Proof.Output
public import proofs.«01_k».proof.Proof.Spec
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Block

open Idealize.ShloMosaic Idealize.ShloMosaic.TcCoe Idealize.SL.Sem Cert.KernelIdeal Cert.KernelIdeal.Gen Cert.Softmax Cert.Spec

variable (m : (ℓ : Loc nD τ sig) → Buf (Elt Ideal) ℓ) (c : Dev nD)

/-- The six arguments, and the three arrays of the region's inputs. -/
abbrev arg0 : FVec Ideal S4x4096x32x192 .f32 := m ((c : Thread nD τ).loc main_arg0)
abbrev arg1 : FVec Ideal S4x256x32x192 .f32 := m ((c : Thread nD τ).loc main_arg1)
abbrev arg2 : FVec Ideal S4x4096x32x256 .f32 := m ((c : Thread nD τ).loc main_arg2)
abbrev arg3 : FVec Ideal S4x256x32x256 .f32 := m ((c : Thread nD τ).loc main_arg3)
abbrev arg4 : FVec Ideal S4x4096x64 .f32 := m ((c : Thread nD τ).loc main_arg4)
abbrev arg5 : FVec Ideal S4x256x64 .f32 := m ((c : Thread nD τ).loc main_arg5)
abbrev arrQ : FVec Ideal S17408x8192 .bf16 := V m c main_v11
abbrev arrKV : FVec Ideal S17408x8192 .bf16 := V m c main_v16
abbrev arrR : FVec Ideal S17408x128 .bf16 := V m c main_v21

/-- The queries' array at any entry. -/
theorem arrQ_raw (r : Fin 17408) (l : Fin 8192) : arrQ m c (ix2 r l) =
    if h : l.val / 256 < 32 ∧ l.val % 256 < 192 then
      (if h_1 : r.val < 16384 then arg0 m c (ix4 ⟨r.val / 4096, by omega⟩ ⟨r.val % 4096, by omega⟩ ⟨l.val / 256, h.1⟩ ⟨l.val % 256, h.2⟩)
        else arg1 m c (ix4 ⟨(r.val - 16384) / 256, by omega⟩ ⟨(r.val - 16384) % 256, by omega⟩ ⟨l.val / 256, h.1⟩ ⟨l.val % 256, h.2⟩))
      * Ideal.div 1 (Ideal.sqrt (Ideal.ofBits .f32 0x43400000#32) * Ideal.log (Ideal.ofBits .f32 0x40000000#32))
    else 0 := by
  unfold arrQ V
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  pointwise
  after_results_simp
  pointwise
  have z : (FloatOps.sitofp (F := Ideal) .f32 0#32 : EReal) = 0 := by show ((((0#32 : BitVec 32).toInt : ℝ)) : EReal) = 0; simp
  split
  · rfl
  · exact z

/-- The same with the factor as a real number. -/
theorem arrQ_at (r : Fin 17408) (l : Fin 8192) : arrQ m c (ix2 r l) =
    if h : l.val / 256 < 32 ∧ l.val % 256 < 192 then
      (if h_1 : r.val < 16384 then arg0 m c (ix4 ⟨r.val / 4096, by omega⟩ ⟨r.val % 4096, by omega⟩ ⟨l.val / 256, h.1⟩ ⟨l.val % 256, h.2⟩)
        else arg1 m c (ix4 ⟨(r.val - 16384) / 256, by omega⟩ ⟨(r.val - 16384) % 256, by omega⟩ ⟨l.val / 256, h.1⟩ ⟨l.val % 256, h.2⟩))
      * ((1 / (√192 * Real.log 2) : ℝ) : EReal)
    else 0 :=
  (arrQ_raw m c r l).trans (scale_eq ▸ rfl)

/-- The keys' and values' array at any entry. -/
theorem arrKV_at (r : Fin 17408) (l : Fin 8192) : arrKV m c (ix2 r l) =
    if h_1 : r.val < 16384 then
      arg2 m c (ix4 ⟨r.val / 4096, by omega⟩ ⟨r.val % 4096, by omega⟩ ⟨l.val / 256, by omega⟩ ⟨l.val % 256, by omega⟩)
    else arg3 m c (ix4 ⟨(r.val - 16384) / 256, by omega⟩ ⟨(r.val - 16384) % 256, by omega⟩ ⟨l.val / 256, by omega⟩ ⟨l.val % 256, by omega⟩) := by
  unfold arrKV V
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  pointwise
  after_results_simp
  pointwise

/-- The rotary keys' array at any entry. -/
theorem arrR_at (r : Fin 17408) (l : Fin 128) : arrR m c (ix2 r l) =
    if h : l.val < 64 then
      (if h_1 : r.val < 16384 then arg4 m c (ix3 ⟨r.val / 4096, by omega⟩ ⟨r.val % 4096, by omega⟩ ⟨l.val, h⟩)
        else arg5 m c (ix3 ⟨(r.val - 16384) / 256, by omega⟩ ⟨(r.val - 16384) % 256, by omega⟩ ⟨l.val, h⟩))
    else 0 := by
  unfold arrR V
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  pointwise
  after_results_simp
  pointwise
  have z : (FloatOps.sitofp (F := Ideal) .f32 0#32 : EReal) = 0 := by show ((((0#32 : BitVec 32).toInt : ℝ)) : EReal) = 0; simp
  rw [z]

/-- The block of every window at every grid point. -/
theorem idx : ∀ t : Fin cfg0.N, win0_0.index t = ![t.val / 32, t.val % 32]
    ∧ win0_1.index t = ![64 + t.val / 32, 2 * (t.val % 32)] ∧ win0_2.index t = ![64 + t.val / 32, 0]
    ∧ win0_3.index t = ![64 + t.val / 32, 2 * (t.val % 32) + 1] ∧ win0_4.index t = ![t.val / 32, 2 * (t.val % 32)]
    ∧ win0_5.index t = ![t.val / 32, 0] ∧ win0_6.index t = ![t.val / 32, 2 * (t.val % 32) + 1]
    ∧ win0_7.index t = ![t.val / 32, t.val % 32] :=
  (by decide +kernel : ∀ t : Fin grid0.N, win0_0.index t = ![t.val / 32, t.val % 32]
    ∧ win0_1.index t = ![64 + t.val / 32, 2 * (t.val % 32)] ∧ win0_2.index t = ![64 + t.val / 32, 0]
    ∧ win0_3.index t = ![64 + t.val / 32, 2 * (t.val % 32) + 1] ∧ win0_4.index t = ![t.val / 32, 2 * (t.val % 32)]
    ∧ win0_5.index t = ![t.val / 32, 0] ∧ win0_6.index t = ![t.val / 32, 2 * (t.val % 32) + 1]
    ∧ win0_7.index t = ![t.val / 32, t.val % 32])

theorem blk0_at (t : Fin cfg0.N) (r : Fin 4096) (l : Fin 256) (R : Fin 17408) (L : Fin 8192) (hR : R.val = t.val / 32 * 4096 + r.val)
    (hL : L.val = t.val % 32 * 256 + l.val) : (X0_0 m c t : FVec Ideal S4096x256 .bf16) (ix2 r l) = arrQ m c (ix2 R L) := by
  unfold X0_0 Pipeline.Window.fill
  rw [dif_pos (moved0_0 t _)]
  blk_ext [iblk, idx t]
theorem blk1_at (t : Fin cfg0.N) (j : Fin 256) (l : Fin 128) (R : Fin 17408) (L : Fin 8192) (hR : R.val = 16384 + t.val / 32 * 256 + j.val)
    (hL : L.val = t.val % 32 * 256 + l.val) : (iblk m c 1 t : FVec Ideal S256x128 .bf16) (ix2 j l) = arrKV m c (ix2 R L) := by
  blk_ext [iblk, idx t]
theorem blk2_at (t : Fin cfg0.N) (j : Fin 256) (l : Fin 128) (R : Fin 17408) (hR : R.val = 16384 + t.val / 32 * 256 + j.val) :
    (iblk m c 2 t : FVec Ideal S256x128 .bf16) (ix2 j l) = arrR m c (ix2 R l) := by
  blk_ext [iblk, idx t]
theorem blk3_at (t : Fin cfg0.N) (j : Fin 256) (l : Fin 128) (R : Fin 17408) (L : Fin 8192) (hR : R.val = 16384 + t.val / 32 * 256 + j.val)
    (hL : L.val = t.val % 32 * 256 + 128 + l.val) : (iblk m c 3 t : FVec Ideal S256x128 .bf16) (ix2 j l) = arrKV m c (ix2 R L) := by
  blk_ext [iblk, idx t]
theorem blk4_at (t : Fin cfg0.N) (r : Fin 4096) (l : Fin 128) (R : Fin 17408) (L : Fin 8192) (hR : R.val = t.val / 32 * 4096 + r.val)
    (hL : L.val = t.val % 32 * 256 + l.val) : (X0_4 m c t : FVec Ideal S4096x128 .bf16) (ix2 r l) = arrKV m c (ix2 R L) := by
  unfold X0_4 Pipeline.Window.fill
  rw [dif_pos (moved0_4 t _)]
  blk_ext [iblk, idx t]
theorem blk5_at (t : Fin cfg0.N) (r : Fin 4096) (l : Fin 128) (R : Fin 17408) (hR : R.val = t.val / 32 * 4096 + r.val) :
    (X0_5 m c t : FVec Ideal S4096x128 .bf16) (ix2 r l) = arrR m c (ix2 R l) := by
  unfold X0_5 Pipeline.Window.fill
  rw [dif_pos (moved0_5 t _)]
  blk_ext [iblk, idx t]
theorem blk6_at (t : Fin cfg0.N) (r : Fin 4096) (l : Fin 128) (R : Fin 17408) (L : Fin 8192) (hR : R.val = t.val / 32 * 4096 + r.val)
    (hL : L.val = t.val % 32 * 256 + 128 + l.val) : (X0_6 m c t : FVec Ideal S4096x128 .bf16) (ix2 r l) = arrKV m c (ix2 R L) := by
  unfold X0_6 Pipeline.Window.fill
  rw [dif_pos (moved0_6 t _)]
  blk_ext [iblk, idx t]

/-- Batch and head of a grid point. -/
abbrev batchOf (t : Fin cfg0.N) : Fin 4 := ⟨t.val / 32, by have := t.isLt; have e : cfg0.N = 128 := N_0; omega⟩
abbrev headOf (t : Fin cfg0.N) : Fin 32 := ⟨t.val % 32, by omega⟩

/-- The staged queries. -/
theorem q_at (t : Fin cfg0.N) (r : Fin 4096) (l : Fin 256) : (X0_0 m c t : FVec Ideal S4096x256 .bf16) (ix2 r l)
    = if l.val < 192 then qrow (arg0 m c) (batchOf t) r (headOf t) l.val * ((1 / (√192 * Real.log 2) : ℝ) : EReal) else 0 := by
  have ht : t.val / 32 < 4 := (batchOf t).isLt
  rw [blk0_at m c t r l ⟨t.val / 32 * 4096 + r.val, by omega⟩ ⟨t.val % 32 * 256 + l.val, by omega⟩ rfl rfl, arrQ_at]
  by_cases h : l.val < 192
  · rw [dif_pos ⟨by dsimp only; omega, by dsimp only; omega⟩, dif_pos (by dsimp only; omega), if_pos h, qrow, dif_pos h]
    congr 1
    blk_ext []
  · rw [dif_neg (by dsimp only; omega), if_neg h]

/-- The staged keys. -/
theorem k_at (t : Fin cfg0.N) (j l : ℕ) (hj : j < 4352) :
    kcat (iblk m c 1 t) (iblk m c 2 t) (X0_4 m c t) (X0_5 m c t) j l
    = if l < 128 then kvrow (arg2 m c) (arg3 m c) (batchOf t) (headOf t) j l
      else if l < 192 then krow (arg4 m c) (arg5 m c) (batchOf t) j (l - 128) else 0 := by
  have ht : t.val / 32 < 4 := (batchOf t).isLt
  unfold kcat kvrow krow
  by_cases h1 : j < 256
  · rw [dif_pos h1]
    by_cases h2 : l < 128
    · rw [dif_pos h2, if_pos h2, dif_pos (by omega), dif_pos h1,
        blk1_at m c t ⟨j, h1⟩ ⟨l, h2⟩ ⟨16384 + t.val / 32 * 256 + j, by omega⟩ ⟨t.val % 32 * 256 + l, by omega⟩ rfl rfl, arrKV_at,
        dif_neg (by dsimp only; omega)]
      blk_ext []
    · rw [dif_neg h2, if_neg h2]
      by_cases h3 : l < 256
      · rw [dif_pos h3, blk2_at m c t ⟨j, h1⟩ ⟨l - 128, by omega⟩ ⟨16384 + t.val / 32 * 256 + j, by omega⟩ rfl, arrR_at]
        by_cases h4 : l < 192
        · rw [dif_pos (by dsimp only; omega), dif_neg (by dsimp only; omega), if_pos h4, dif_pos (by omega), dif_pos h1]
          blk_ext []
        · rw [dif_neg (by dsimp only; omega), if_neg h4]
      · rw [dif_neg h3, if_neg (by omega)]
  · rw [dif_neg h1, dif_pos hj]
    by_cases h2 : l < 128
    · rw [dif_pos h2, if_pos h2, dif_pos (by omega), dif_neg h1, dif_pos hj,
        blk4_at m c t ⟨j - 256, by omega⟩ ⟨l, h2⟩ ⟨t.val / 32 * 4096 + (j - 256), by omega⟩ ⟨t.val % 32 * 256 + l, by omega⟩ rfl rfl, arrKV_at,
        dif_pos (by dsimp only; omega)]
      blk_ext []
    · rw [dif_neg h2, if_neg h2]
      by_cases h3 : l < 256
      · rw [dif_pos h3, blk5_at m c t ⟨j - 256, by omega⟩ ⟨l - 128, by omega⟩ ⟨t.val / 32 * 4096 + (j - 256), by omega⟩ rfl, arrR_at]
        by_cases h4 : l < 192
        · rw [dif_pos (by dsimp only; omega), dif_pos (by dsimp only; omega), if_pos h4, dif_pos (by omega), dif_neg h1, dif_pos hj]
          blk_ext []
        · rw [dif_neg (by dsimp only; omega), if_neg h4]
      · rw [dif_neg h3, if_neg (by omega)]

/-- The staged values. -/
theorem v_at (t : Fin cfg0.N) (j l : ℕ) (hj : j < 4352) (hl : l < 128) :
    vaug (iblk m c 3 t) (X0_6 m c t) j l = kvrow (arg2 m c) (arg3 m c) (batchOf t) (headOf t) j (128 + l) := by
  have ht : t.val / 32 < 4 := (batchOf t).isLt
  unfold vaug kvrow
  rw [dif_pos hl, dif_pos (show 128 + l < 256 by omega)]
  by_cases h1 : j < 256
  · rw [dif_pos h1, dif_pos h1,
      blk3_at m c t ⟨j, h1⟩ ⟨l, hl⟩ ⟨16384 + t.val / 32 * 256 + j, by omega⟩ ⟨t.val % 32 * 256 + 128 + l, by omega⟩ rfl rfl, arrKV_at,
      dif_neg (by dsimp only; omega)]
    blk_ext []
  · rw [dif_neg h1, dif_pos hj, dif_neg h1, dif_pos hj,
      blk6_at m c t ⟨j - 256, by omega⟩ ⟨l, hl⟩ ⟨t.val / 32 * 4096 + (j - 256), by omega⟩ ⟨t.val % 32 * 256 + 128 + l, by omega⟩ rfl rfl, arrKV_at,
      dif_pos (by dsimp only; omega)]
    blk_ext []

/-- Every grid point writes its block back. -/
theorem flush7 : ∀ t : Fin cfg0.N, (cfg0.win 7).flush t = true :=
  (by decide +kernel : ∀ t : Fin grid0.N, win0_7.flush t = true)

/-- Finite entries of the arguments that the scores read. -/
def FiniteArgs : Prop :=
  (∀ i, ∃ x : ℝ, arg0 m c i = x) ∧ (∀ b j h (d : Fin 256), d.val < 128 → ∃ x : ℝ, arg2 m c (ix4 b j h d) = x)
  ∧ (∀ b j h (d : Fin 256), d.val < 128 → ∃ x : ℝ, arg3 m c (ix4 b j h d) = x) ∧ (∀ i, ∃ x : ℝ, arg4 m c i = x) ∧ (∀ i, ∃ x : ℝ, arg5 m c i = x)

variable {m c}

theorem FiniteArgs.q (hf : FiniteArgs m c) (b r h l) : qrow (arg0 m c) b r h l = ((qrow (arg0 m c) b r h l).toReal : EReal) := by
  refine coe_toReal_of ?_
  unfold qrow
  split
  · exact hf.1 _
  · exact ⟨0, rfl⟩

theorem FiniteArgs.kv (hf : FiniteArgs m c) (b h j l) (hl : l < 128) :
    kvrow (arg2 m c) (arg3 m c) b h j l = ((kvrow (arg2 m c) (arg3 m c) b h j l).toReal : EReal) := by
  refine coe_toReal_of ?_
  unfold kvrow
  rw [dif_pos (by omega)]
  split
  · exact hf.2.2.1 _ _ _ _ hl
  · split
    · exact hf.2.1 _ _ _ _ hl
    · exact ⟨0, rfl⟩

theorem FiniteArgs.k (hf : FiniteArgs m c) (b j l) : krow (arg4 m c) (arg5 m c) b j l = ((krow (arg4 m c) (arg5 m c) b j l).toReal : EReal) := by
  refine coe_toReal_of ?_
  unfold krow
  split
  · split
    · exact hf.2.2.2.2 _
    · split
      · exact hf.2.2.2.1 _
      · exact ⟨0, rfl⟩
  · exact ⟨0, rfl⟩

/-- What grid point `t` leaves in its output block, at the entry `(r, d)`. -/
theorem out_spec (hf : FiniteArgs m c) (t : Fin cfg0.N) (r : Fin 4096) (d : Fin 128) :
    (outsAt0 m c t : FVec Ideal S4096x128 .bf16) (ix2 r d)
      = spec (arg0 m c) (arg2 m c) (arg3 m c) (arg4 m c) (arg5 m c) (batchOf t) r (headOf t) d.val := by
  unfold outsAt0
  refine (out_at c _ _ _ _ _ _ _ _ _ _ _ _ _ _ _ _ _ _ _ _ _ _ (X0_0 m c t) (iblk m c 1 t) (iblk m c 2 t) (iblk m c 3 t) (X0_4 m c t) (X0_5 m c t)
    (X0_6 m c t) r d (score (arg0 m c) (arg2 m c) (arg3 m c) (arg4 m c) (arg5 m c) (batchOf t) r (headOf t)) ?_).trans ?_
  · intro j hj
    rw [padded_score (fun l => (qrow (arg0 m c) (batchOf t) r (headOf t) l).toReal) (fun l => (kvrow (arg2 m c) (arg3 m c) (batchOf t) (headOf t) j l).toReal)
      (fun l => (krow (arg4 m c) (arg5 m c) (batchOf t) j l).toReal) _ _ (1 / (√192 * Real.log 2))]
    · unfold score
      congr 1
      rw [mul_one_div, div_div]
    · intro l
      rw [q_at, EReal.coe_mul, ← hf.q]
    · intro l
      rw [k_at m c t j l.val hj]
      by_cases h1 : l.val < 128
      · rw [if_pos h1, if_pos h1, ← hf.kv _ _ _ _ h1]
      · rw [if_neg h1, if_neg h1, ← hf.k]
  · unfold spec
    exact attn_congr _ _ _ 4352 fun j hj => v_at m c t j d.val hj d.isLt

end Cert.KernelIdeal.Block

end
-- ==== Proof.Final.lean ====
/- The array the latent attention kernel leaves. -/
module

public import proofs.«01_k».proof.Proof.Arrays
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Block

open Idealize.ShloMosaic Idealize.ShloMosaic.TcCoe Idealize.SL.Sem Cert.KernelIdeal Cert.KernelIdeal.Gen Cert.Softmax Cert.Spec

variable {m : (ℓ : Loc nD τ sig) → Buf (Elt Ideal) ℓ} {c : Dev nD}

/-- The array the call leaves, where a block is written: the entry at row `r` of batch `b` and lane `d` of head `h`. -/
def result (m : (ℓ : Loc nD τ sig) → Buf (Elt Ideal) ℓ) (c : Dev nD) : FVec Ideal S17408x4096 .bf16 := fun i =>
  spec (arg0 m c) (arg2 m c) (arg3 m c) (arg4 m c) (arg5 m c) ⟨(i 0 : ℕ) / 4096 % 4, by omega⟩ ⟨(i 0 : ℕ) % 4096, by omega⟩
    ⟨(i 1 : ℕ) / 128 % 32, by omega⟩ ((i 1 : ℕ) % 128)

theorem point (hf : FiniteArgs m c) (t : Fin cfg0.N) (r : Fin 4096) (d : Fin 128) (i : S17408x4096.Idx)
    (h0 : (i 0 : ℕ) = t.val / 32 * 4096 + r.val) (h1 : (i 1 : ℕ) = t.val % 32 * 128 + d.val) :
    (outsAt0 m c t : FVec Ideal S4096x128 .bf16) (ix2 r d) = result m c i := by
  have ht : t.val / 32 < 4 := (batchOf t).isLt
  rw [out_spec hf t r d]
  unfold result
  congr 1
  · refine Fin.ext ?_; dsimp only; omega
  · refine Fin.ext ?_; dsimp only; omega
  · refine Fin.ext ?_; dsimp only; omega
  · omega

/-- The block a grid point writes back, at any index inside the array. -/
theorem point_at (hf : FiniteArgs m c) (t : Fin cfg0.N) (y : ((cfg0.win 7).xblock (cfg0.grid.coords t)).Idx) (i : S17408x4096.Idx)
    (h0 : (i 0 : ℕ) = t.val / 32 * 4096 + (y (0 : Fin 2)).val) (h1 : (i 1 : ℕ) = t.val % 32 * 128 + (y (1 : Fin 2)).val) :
    (outsAt0 m c t : FVec Ideal S4096x128 .bf16) ((cfg0.win 7).xinj (cfg0.grid.coords t) y) = result m c i := by
  have key : ∀ (z : S4096x128.Idx), (z 0).val = (y (0 : Fin 2)).val → (z 1).val = (y (1 : Fin 2)).val →
      (outsAt0 m c t : FVec Ideal S4096x128 .bf16) z = result m c i := by
    intro z hz0 hz1
    have e : z = ix2 (z 0) (z 1) := by
      funext a
      match a with
      | ⟨0, _⟩ => rfl
      | ⟨1, _⟩ => rfl
    rw [e]
    exact point hf t (z 0) (z 1) i (by rw [hz0]; exact h0) (by rw [hz1]; exact h1)
  exact key _ rfl rfl

/-- The array the call leaves: the attention on the latent rows, and what the array held on the others. -/
theorem final (hf : FiniteArgs m c) : (dats m 0 c).arrAt 7 cfg0.N
    = fun i : S17408x4096.Idx => if (i 0 : ℕ) < 16384 then result m c i else (dats m 0 c).A 7 i := by
  refine (dats m 0 c).arrAt_eq_of_coversWhere 7 _ (fun β => β (0 : Fin 2) < 4) (by decide +kernel) (fun t hfl y => ?_) (fun j => ?_)
  · rw [after0_7]
    refine Eq.trans (cast_eq rfl _) ?_
    refine point_at hf t y _ ?_ ?_
    · blk_simp [idx t]
    · blk_simp [idx t]
  · blk_simp [Pipeline.Window.cell_apply]
    omega

end Cert.KernelIdeal.Block

end
-- ==== Proof.Reference.lean ====
/- The plain reference, read at an entry of a latent row. -/
module

public import proofs.«01_k».proof.Proof.Spec
public import proofs.«01_k».proof.Proof.Gen.ReferenceIdeal.Run
public import Idealize.ShloMosaic.Lib.Claim
public import Idealize.ShloMosaic.Lib.Pointwise

@[expose] public section

set_option maxRecDepth 16384

noncomputable section

namespace Cert.ReferenceIdeal.Rows

open Idealize.ShloMosaic Idealize.ShloMosaic.TcCoe Idealize.SL.Sem Cert.ReferenceIdeal Cert.ReferenceIdeal.Gen Cert.Softmax Cert.Spec

/-- The exponential of a difference, at an entry. -/
theorem exp_sub_at (s t : FVec Ideal S4x32x4096x4352 .f32) (i : S4x32x4096x4352.Idx) : Host.exp (subf s t) i = Ideal.exp (s i - t i) := rfl

/-- A quotient by the sum of a row. -/
theorem normed_at (s : FVec Ideal S4x32x4096x4352 .f32) (b : Fin 4) (h : Fin 32) (r : Fin 4096) (j : Fin 4352) :
    Host.divf s (broadcastInDim S4x32x4096x4352 ![0, 1, 2, 3] bcast_S4x32x4096x1_S4x32x4096x4352_0_1_2_3 (broadcastInDim S4x32x4096x1 ![0, 1, 2]
      bcast_S4x32x4096_S4x32x4096x1_0_1_2 (Host.reduceAdd s (constant S_ .f32 0x00000000#32) reducesTo_S4x32x4096x4352_S4x32x4096_d3 h_S_)))
      (ix4 b h r j) = Ideal.div (s (ix4 b h r j)) (∑ x, s (ix4 b h r x)) := by
  pointwise

/-- The fold of a row's maximum. -/
theorem max_at (s : FVec Ideal S4x32x4096x4352 .f32) (b : Fin 4) (h : Fin 32) (r : Fin 4096) :
    (Host.reduce FloatOps.maximumf s (constant S_ .f32 0xFF800000#32) reducesTo_S4x32x4096x4352_S4x32x4096_d3 h_S_ : FVec Ideal S4x32x4096 .f32) (ix3 b h r)
      = Finset.fold max (Ideal.ofBits .f32 0xFF800000#32) (fun x => s (ix4 b h r x)) Finset.univ :=
  (Host.reduce_eq_fold _ _ _ _ _ _).trans ((Shape.ReducesTo.fold_fiber_r4_a3 _ _ _ _ _).trans rfl)

/-- A row's value placed at every entry of the row. -/
theorem spread_at (w : FVec Ideal S4x32x4096 .f32) (b : Fin 4) (h : Fin 32) (r : Fin 4096) (j : Fin 4352) :
    (broadcastInDim S4x32x4096x4352 ![0, 1, 2, 3] bcast_S4x32x4096x1_S4x32x4096x4352_0_1_2_3 (broadcastInDim S4x32x4096x1 ![0, 1, 2]
      bcast_S4x32x4096_S4x32x4096x1_0_1_2 w)) (ix4 b h r j) = w (ix3 b h r) := by
  pointwise

/-- The larger of two, at an entry. -/
theorem larger_at (v w : FVec Ideal S4x32x4096 .f32) (i : S4x32x4096.Idx) : maximumf v w i = max (v i) (w i) := rfl

/-- The array of minus infinity, at an entry. -/
theorem lowest_at (i : S4x32x4096.Idx) :
    (broadcastInDim S4x32x4096 ![] bcast_S_S4x32x4096 (constant S_ .f32 0xFF800000#32) : FVec Ideal S4x32x4096 .f32) i = Ideal.ofBits .f32 0xFF800000#32 := rfl

/-- The largest entry of a row, from minus infinity. -/
theorem top_at (s : FVec Ideal S4x32x4096x4352 .f32) (b : Fin 4) (h : Fin 32) (r : Fin 4096) (j : Fin 4352) :
    broadcastInDim S4x32x4096x4352 ![0, 1, 2, 3] bcast_S4x32x4096x1_S4x32x4096x4352_0_1_2_3 (broadcastInDim S4x32x4096x1 ![0, 1, 2]
      bcast_S4x32x4096_S4x32x4096x1_0_1_2 (maximumf (broadcastInDim S4x32x4096 ![] bcast_S_S4x32x4096 (constant S_ .f32 0xFF800000#32))
      (Host.reduce FloatOps.maximumf s (constant S_ .f32 0xFF800000#32) reducesTo_S4x32x4096x4352_S4x32x4096_d3 h_S_))) (ix4 b h r j)
      = max (Ideal.ofBits .f32 0xFF800000#32) (Finset.fold max (Ideal.ofBits .f32 0xFF800000#32) (fun x => s (ix4 b h r x)) Finset.univ) := by
  rw [spread_at, larger_at, max_at, lowest_at]

/-- The array of the result, from values and weights, at an entry of a latent row. -/
theorem laid_at (v : FVec Ideal S4x4352x32x128 .f32) (w : FVec Ideal S4x32x4096x4352 .f32) (R : Fin 17408) (C : Fin 4096) (hR : R.val < 16384) :
    (truncf .bf16 (pad S17408x4096 ![0, 0] ![1024, 0] ![0, 0] (shapeCast _ (transpose S4x4096x32x128 [0, 3, 1, 2] (Host.dotGeneral
      dot_S4x4352x32x128_S4x32x4096x4352_S4x32x128x4096_1_3_3_2_02_01 none v w) transposes_S4x32x128x4096_S4x4096x32x128_0_3_1_2)
      shapeCasts_S4x4096x32x128_S16384x4096) (sitofp .f32 (constantI S_ 32 0#32)) pads_S16384x4096_S17408x4096_010240_000 h_S_) bitsLt_bf16_f32)
      (ix2 R C) = ∑ x : Fin 4352, v (ix4 ⟨R.val / 4096, by omega⟩ x ⟨C.val / 128, by omega⟩ ⟨C.val % 128, by omega⟩)
        * w (ix4 ⟨R.val / 4096, by omega⟩ ⟨C.val / 128, by omega⟩ ⟨R.val % 4096, by omega⟩ x) := by
  pointwise
  rw [dif_pos hR]

/-- The scores from queries, keys and rotary keys. -/
def scored (q : FVec Ideal S4x4096x32x192 .f32) (k : FVec Ideal S4x4352x32x128 .f32) (e : FVec Ideal S4x4352x64 .f32) : FVec Ideal S4x32x4096x4352 .f32 :=
  Host.divf (addf (Host.dotGeneral dot_S4x4096x32x128_S4x4352x32x128_S4x32x4096x4352_3_3_1_1_02_02 none (extractStridedSlice S4x4096x32x128 ![0, 0, 0, 0] q slices_S4x4096x32x192_S4x4096x32x128_0_0_0_0) k) (transpose S4x32x4096x4352 [0, 3, 2, 1] (Host.dotGeneral dot_S4x4352x64_S4x4096x32x64_S4x4352x4096x32_2_3_1_12_0_0 none e (extractStridedSlice S4x4096x32x64 ![0, 0, 0, 128] q slices_S4x4096x32x192_S4x4096x32x64_0_0_0_128)) transposes_S4x4352x4096x32_S4x32x4096x4352_0_3_2_1)) (broadcastInDim S4x32x4096x4352 ![] bcast_S_S4x32x4096x4352 (Host.sqrt (constant S_ .f32 0x43400000#32)))

/-- The scores from the two products, at an entry. -/
theorem scored_at (q : FVec Ideal S4x4096x32x192 .f32) (k : FVec Ideal S4x4352x32x128 .f32) (e : FVec Ideal S4x4352x64 .f32)
    (b : Fin 4) (h : Fin 32) (r : Fin 4096) (j : Fin 4352) :
    scored q k e (ix4 b h r j) = Ideal.div (∑ d : Fin 128, q (ix4 b r h ⟨d.val, by omega⟩) * k (ix4 b j h d)
      + ∑ l : Fin 64, e (ix3 b j l) * q (ix4 b r h ⟨128 + l.val, by omega⟩)) (Ideal.sqrt (Ideal.ofBits .f32 0x43400000#32)) := by
  unfold scored
  pointwise

variable (m : (ℓ : Loc nD τ sig) → Buf (Elt Ideal) ℓ) (c : Dev nD)

/-- The keys without a position, context rows first. -/
def keys : FVec Ideal S4x4352x32x128 .f32 :=
  concatenate S4x4352x32x128 1 [⟨S4x256x32x128, (extractStridedSlice S4x256x32x128 ![0, 0, 0, 0] (m ((c.tc : Thread nD τ).loc main_arg3)) slices_S4x256x32x256_S4x256x32x128_0_0_0_0)⟩, ⟨S4x4096x32x128, (extractStridedSlice S4x4096x32x128 ![0, 0, 0, 0] (m ((c.tc : Thread nD τ).loc main_arg2)) slices_S4x4096x32x256_S4x4096x32x128_0_0_0_0)⟩] concatenates_S4x256x32x128_S4x4096x32x128_S4x4352x32x128_d1
/-- The rotary keys, context rows first. -/
def rotaries : FVec Ideal S4x4352x64 .f32 :=
  concatenate S4x4352x64 1 [⟨S4x256x64, (m ((c.tc : Thread nD τ).loc main_arg5))⟩, ⟨S4x4096x64, (m ((c.tc : Thread nD τ).loc main_arg4))⟩] concatenates_S4x256x64_S4x4096x64_S4x4352x64_d1
/-- The values, context rows first. -/
def values : FVec Ideal S4x4352x32x128 .f32 :=
  concatenate S4x4352x32x128 1 [⟨S4x256x32x128, (extractStridedSlice S4x256x32x128 ![0, 0, 0, 128] (m ((c.tc : Thread nD τ).loc main_arg3)) slices_S4x256x32x256_S4x256x32x128_0_0_0_128)⟩, ⟨S4x4096x32x128, (extractStridedSlice S4x4096x32x128 ![0, 0, 0, 128] (m ((c.tc : Thread nD τ).loc main_arg2)) slices_S4x4096x32x256_S4x4096x32x128_0_0_0_128)⟩] concatenates_S4x256x32x128_S4x4096x32x128_S4x4352x32x128_d1
/-- The scaled scores. -/
def scores : FVec Ideal S4x32x4096x4352 .f32 :=
  scored (m ((c.tc : Thread nD τ).loc main_arg0)) (keys m c) (rotaries m c)
/-- The largest score of a row, at every entry of the row. -/
def tops : FVec Ideal S4x32x4096x4352 .f32 :=
  broadcastInDim S4x32x4096x4352 ![0, 1, 2, 3] bcast_S4x32x4096x1_S4x32x4096x4352_0_1_2_3 (broadcastInDim S4x32x4096x1 ![0, 1, 2] bcast_S4x32x4096_S4x32x4096x1_0_1_2 (maximumf (broadcastInDim S4x32x4096 ![] bcast_S_S4x32x4096 (constant S_ .f32 0xFF800000#32)) (Host.reduce FloatOps.maximumf (scores m c) (constant S_ .f32 0xFF800000#32) reducesTo_S4x32x4096x4352_S4x32x4096_d3 h_S_)))
/-- The exponentials. -/
def exps : FVec Ideal S4x32x4096x4352 .f32 :=
  Host.exp (subf (scores m c) (tops m c))
/-- The weights of the softmax. -/
def weights : FVec Ideal S4x32x4096x4352 .f32 :=
  Host.divf (exps m c) (broadcastInDim S4x32x4096x4352 ![0, 1, 2, 3] bcast_S4x32x4096x1_S4x32x4096x4352_0_1_2_3 (broadcastInDim S4x32x4096x1 ![0, 1, 2] bcast_S4x32x4096_S4x32x4096x1_0_1_2 (Host.reduceAdd (exps m c) (constant S_ .f32 0x00000000#32) reducesTo_S4x32x4096x4352_S4x32x4096_d3 h_S_)))

/-- The result from the weights and the values. -/
theorem res_eq : Cert.ReferenceIdeal.Value.res_main_v31 m c =
    truncf .bf16 (pad S17408x4096 ![0, 0] ![1024, 0] ![0, 0] (shapeCast _ (transpose S4x4096x32x128 [0, 3, 1, 2] (Host.dotGeneral dot_S4x4352x32x128_S4x32x4096x4352_S4x32x128x4096_1_3_3_2_02_01 none (values m c) (weights m c)) transposes_S4x32x128x4096_S4x4096x32x128_0_3_1_2) shapeCasts_S4x4096x32x128_S16384x4096) (sitofp .f32 (constantI S_ 32 0#32)) pads_S16384x4096_S17408x4096_010240_000 h_S_) bitsLt_bf16_f32 := by
  unfold Cert.ReferenceIdeal.Value.res_main_v31 weights exps tops scores scored keys rotaries values
  rfl

/-- The largest of finitely many real numbers, from minus infinity, is real. -/
theorem bot_bits : Ideal.ofBits .f32 0xFF800000#32 = (⊥ : EReal) := by
  simp [Ideal.ofBits, Ideal.ieee]

/-- The result at an entry of a latent row, where every score of the row is real. -/
theorem res_at (R : Fin 17408) (C : Fin 4096) (hR : R.val < 16384) (t : ℕ → ℝ) (v : ℕ → EReal)
    (ht : ∀ j : Fin 4352, scores m c (ix4 ⟨R.val / 4096, by omega⟩ ⟨C.val / 128, by omega⟩ ⟨R.val % 4096, by omega⟩ j) = ((t j.val : ℝ) : EReal))
    (hv : ∀ j : Fin 4352, values m c (ix4 ⟨R.val / 4096, by omega⟩ j ⟨C.val / 128, by omega⟩ ⟨C.val % 128, by omega⟩) = v j.val) :
    (Cert.ReferenceIdeal.Value.res_main_v31 m c : FVec Ideal S17408x4096 .bf16) (ix2 R C) = attn t v 4352 := by
  obtain ⟨M, hM⟩ := fold_max_real 4351
    (fun j => scores m c (ix4 ⟨R.val / 4096, by omega⟩ ⟨C.val / 128, by omega⟩ ⟨R.val % 4096, by omega⟩ j)) fun j => ⟨_, ht j⟩
  rw [res_eq]
  refine (laid_at (values m c) (weights m c) R C hR).trans ?_
  rw [← plain_eq_attn t v 4351
    (fun j => scores m c (ix4 ⟨R.val / 4096, by omega⟩ ⟨C.val / 128, by omega⟩ ⟨R.val % 4096, by omega⟩ j))
    (fun j => values m c (ix4 ⟨R.val / 4096, by omega⟩ j ⟨C.val / 128, by omega⟩ ⟨C.val % 128, by omega⟩)) (M : EReal) M rfl ht hv]
  have htop : ∀ j : Fin 4352, tops m c (ix4 ⟨R.val / 4096, by omega⟩ ⟨C.val / 128, by omega⟩ ⟨R.val % 4096, by omega⟩ j) = (M : EReal) := fun j =>
    (top_at (scores m c) _ _ _ j).trans (by rw [bot_bits, max_eq_right bot_le]; exact hM)
  have hexp : ∀ j : Fin 4352, exps m c (ix4 ⟨R.val / 4096, by omega⟩ ⟨C.val / 128, by omega⟩ ⟨R.val % 4096, by omega⟩ j)
      = Ideal.exp (scores m c (ix4 ⟨R.val / 4096, by omega⟩ ⟨C.val / 128, by omega⟩ ⟨R.val % 4096, by omega⟩ j) - (M : EReal)) := fun j =>
    (exp_sub_at (scores m c) (tops m c) _).trans (by rw [htop j])
  refine Finset.sum_congr rfl fun j _ => congrArg (_ * ·) ?_
  refine (normed_at (exps m c) _ _ _ j).trans ?_
  rw [hexp j, zero_add, Finset.sum_congr rfl fun i _ => hexp i]

/-- The result at an entry of a latent row, where the arguments that the scores read are finite: the attention of the specification. -/
theorem res_spec (R : Fin 17408) (C : Fin 4096) (hR : R.val < 16384)
    (A0 : FVec Ideal S4x4096x32x192 .f32) (A2 : FVec Ideal S4x4096x32x256 .f32) (A3 : FVec Ideal S4x256x32x256 .f32)
    (A4 : FVec Ideal S4x4096x64 .f32) (A5 : FVec Ideal S4x256x64 .f32)
    (h0 : m ((c.tc : Thread nD τ).loc main_arg0) = A0) (h2 : m ((c.tc : Thread nD τ).loc main_arg2) = A2)
    (h3 : m ((c.tc : Thread nD τ).loc main_arg3) = A3) (h4 : m ((c.tc : Thread nD τ).loc main_arg4) = A4)
    (h5 : m ((c.tc : Thread nD τ).loc main_arg5) = A5)
    (fq : ∀ b r h l, qrow A0 b r h l = ((qrow A0 b r h l).toReal : EReal))
    (fk : ∀ b h j l, l < 128 → kvrow A2 A3 b h j l = ((kvrow A2 A3 b h j l).toReal : EReal))
    (fr : ∀ b j l, krow A4 A5 b j l = ((krow A4 A5 b j l).toReal : EReal)) :
    (Cert.ReferenceIdeal.Value.res_main_v31 m c : FVec Ideal S17408x4096 .bf16) (ix2 R C)
      = spec A0 A2 A3 A4 A5 ⟨R.val / 4096, by omega⟩ ⟨R.val % 4096, by omega⟩ ⟨C.val / 128, by omega⟩ (C.val % 128) := by
  have hkey : ∀ (b : Fin 4) (j : Fin 4352) (h : Fin 32) (d : Fin 128), keys m c (ix4 b j h d) = kvrow A2 A3 b h j.val d.val := by
    intro b j h d
    have hd := d.isLt
    unfold keys kvrow
    pointwise
    rw [dif_pos (show d.val < 256 by omega), h2, h3]
  have hval : ∀ (b : Fin 4) (j : Fin 4352) (h : Fin 32) (d : Fin 128), values m c (ix4 b j h d) = kvrow A2 A3 b h j.val (128 + d.val) := by
    intro b j h d
    have hd := d.isLt
    unfold values kvrow
    pointwise
    rw [dif_pos (show 128 + d.val < 256 by omega), h2, h3]
  have hrot : ∀ (b : Fin 4) (j : Fin 4352) (d : Fin 64), rotaries m c (ix3 b j d) = krow A4 A5 b j.val d.val := by
    intro b j d
    unfold rotaries krow
    pointwise
    rw [h4, h5]
  unfold spec
  refine res_at m c R C hR _ _ (fun j => ?_) (fun j => hval _ j _ _)
  refine (scored_at (m ((c.tc : Thread nD τ).loc main_arg0)) (keys m c) (rotaries m c) _ _ _ j).trans ?_
  unfold score
  refine split_score (fun l => (qrow A0 ⟨R.val / 4096, by omega⟩ ⟨R.val % 4096, by omega⟩ ⟨C.val / 128, by omega⟩ l).toReal)
    (fun l => (kvrow A2 A3 ⟨R.val / 4096, by omega⟩ ⟨C.val / 128, by omega⟩ j.val l).toReal)
    (fun l => (krow A4 A5 ⟨R.val / 4096, by omega⟩ j.val l).toReal) _ _ _ _ (fun d => ?_) (fun d => ?_) (fun d => ?_) (fun d => ?_)
  · rw [← fq, h0]
    unfold qrow
    rw [dif_pos (by omega)]
  · rw [hkey, ← fk _ _ _ _ d.isLt]
  · rw [hrot, ← fr]
  · rw [← fq, h0]
    unfold qrow
    rw [dif_pos (by omega)]

end Cert.ReferenceIdeal.Rows

end
-- ==== Proof.Finite.lean ====
/- What the precondition and the mask say. -/
module

public import proofs.«01_k».proof.Pre_finite
public import proofs.«01_k».proof.On_latent_rows
public import Idealize.ShloMosaic.Lib.ReduceAll
public import Idealize.ShloMosaic.Lib.Pointwise

@[expose] public section

set_option maxRecDepth 16384

noncomputable section

namespace Cert.Finite

open Idealize.ShloMosaic

/-- The pattern of infinity. -/
theorem bits_inf : Ideal.ofBits .f32 0x7F800000#32 = (⊤ : EReal) := by
  simp [Ideal.ofBits, Ideal.ieee]

/-- A number with a magnitude below infinity is real. -/
theorem real_of_abs_lt (x : EReal) (h : Ideal.cmp .olt (max x (-x)) ⊤ = 1#1) : ∃ r : ℝ, x = r := by
  induction x using EReal.rec with
  | bot => simp [Ideal.cmp] at h
  | coe r => exact ⟨r, rfl⟩
  | top => simp [Ideal.cmp] at h

/-- Both bits of a conjunction that is 1. -/
theorem and_both {a b : BitVec 1} (h : IntOp.andi a b = 1#1) : a = 1#1 ∧ b = 1#1 := by
  revert a b; decide

section
variable [Cert.Pre_finite.Facts]
open Cert.Pre_finite Cert.Pre_finite.Facts

/-- The test of a whole array: where it says 1, every entry is real. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : ∃ r : ℝ, x i = r := by
  have hi := Host.reduce_andi_all _ _ _ _ j h i
  refine real_of_abs_lt (x i) ?_
  rw [← bits_inf]
  exact hi

/-- Finite entries, from the precondition. -/
theorem of_pre (A0 : FVec Ideal S4x4096x32x192 .f32) (A1 : FVec Ideal S4x256x32x192 .f32) (A2 : FVec Ideal S4x4096x32x256 .f32)
    (A3 : FVec Ideal S4x256x32x256 .f32) (A4 : FVec Ideal S4x4096x64 .f32) (A5 : FVec Ideal S4x256x64 .f32)
    (h : Cert.Pre_finite.fn (F := Ideal) A0 A1 A2 A3 A4 A5 = fun _ => 1#1) :
    (∀ i, ∃ x : ℝ, A0 i = x) ∧ (∀ b j h (d : Fin 256), d.val < 128 → ∃ x : ℝ, A2 (ix4 b j h d) = x)
      ∧ (∀ b j h (d : Fin 256), d.val < 128 → ∃ x : ℝ, A3 (ix4 b j h d) = x) ∧ (∀ i, ∃ x : ℝ, A4 i = x) ∧ (∀ i, ∃ x : ℝ, A5 i = x) := by
  have h' := congrFun h (fun a => a.elim0)
  unfold Cert.Pre_finite.fn Cert.Pre_finite.fn_part1 at h'
  obtain ⟨h', h5⟩ := and_both h'
  obtain ⟨h', h4⟩ := and_both h'
  obtain ⟨h', h3⟩ := and_both h'
  obtain ⟨h0, h2⟩ := and_both h'
  refine ⟨real_of_all A0 _ _ _ _ h0, fun b j h d hd => ?_, fun b j h d hd => ?_, real_of_all A4 _ _ _ _ h4, real_of_all A5 _ _ _ _ h5⟩
  · obtain ⟨x, hx⟩ := real_of_all _ _ _ _ _ h2 (ix4 b j h ⟨d.val, hd⟩)
    refine ⟨x, ?_⟩
    rw [← hx]
    pointwise
  · obtain ⟨x, hx⟩ := real_of_all _ _ _ _ _ h3 (ix4 b j h ⟨d.val, hd⟩)
    refine ⟨x, ?_⟩
    rw [← hx]
    pointwise

end

section
variable [Cert.On_latent_rows.Facts]
open Cert.On_latent_rows

/-- The mask holds on latent rows only. -/
theorem of_mask (A0 : FVec Ideal S4x4096x32x192 .f32) (A1 : FVec Ideal S4x256x32x192 .f32) (A2 : FVec Ideal S4x4096x32x256 .f32)
    (A3 : FVec Ideal S4x256x32x256 .f32) (A4 : FVec Ideal S4x4096x64 .f32) (A5 : FVec Ideal S4x256x64 .f32)
    (R : Fin 17408) (C : Fin 4096) (h : Cert.On_latent_rows.fn (F := Ideal) A0 A1 A2 A3 A4 A5 (ix2 R C) = 1#1) : R.val < 16384 := by
  have h1 : IntOp.cmpi .slt (BitVec.ofNat 32 R.val) 16384#32 = 1#1 := h
  have h2 := IntOp.cmpi_slt.1 h1
  have hR := R.isLt
  rw [BitVec.toInt_eq_toNat_of_lt (by rw [BitVec.toNat_ofNat]; omega), BitVec.toNat_ofNat] at h2
  have h3 : (16384#32 : BitVec 32).toInt = 16384 := by decide
  omega

end

end Cert.Finite

end
-- ==== Proof.Rows.lean ====
/- The rows of the latent tokens and, below them, the rows of the context tokens. -/
module

public import Idealize.ShloMosaic.Lib.Claim
public import Idealize.ShloMosaic.Lib.Pointwise

@[expose] public section

noncomputable section

namespace Cert.Rows

open Idealize.ShloMosaic

/-- An entry of the joined rows: 16384 of the latent tokens, four batches of 4096, then 1024 of the context tokens, four of
    256. -/
def joined {K : ℕ} (a : FVec Ideal ⟨3, ![4, 4096, K]⟩ .f32) (b : FVec Ideal ⟨3, ![4, 256, K]⟩ .f32) (R : Fin 17408) (k : Fin K) : EReal :=
  if h : R.val < 16384 then a (ix3 ⟨R.val / 4096, by omega⟩ ⟨R.val % 4096, by omega⟩ k)
  else b (ix3 ⟨(R.val - 16384) / 256, by omega⟩ ⟨(R.val - 16384) % 256, by omega⟩ k)

/-- A product with the joined rows is one with the latent rows and one with the context rows. -/
theorem dot_joined {K : ℕ} (a : FVec Ideal ⟨3, ![4, 4096, K]⟩ .f32) (b : FVec Ideal ⟨3, ![4, 256, K]⟩ .f32) (w : Fin K → EReal) (R : Fin 17408) :
    (∑ k : Fin K, joined a b R k * w k) =
      if h : R.val < 16384 then ∑ k : Fin K, a (ix3 ⟨R.val / 4096, by omega⟩ ⟨R.val % 4096, by omega⟩ k) * w k
      else ∑ k : Fin K, b (ix3 ⟨(R.val - 16384) / 256, by omega⟩ ⟨(R.val - 16384) % 256, by omega⟩ k) * w k := by
  unfold joined
  split <;> rfl

end Cert.Rows

end
-- ==== Proof.Up.lean ====
/- The MLP's first call: the array it leaves is the squared positive part of the product of the rows with the layer's
   first weights, and so is the plain reference's. -/
module

public import proofs.«01_k».proof.Proof.Gen.Kernel2Ideal.Value
public import proofs.«01_k».proof.Proof.Gen.Reference2Ideal.Run
public import proofs.«01_k».proof.Proof.Rows
public import Idealize.ShloMosaic.Lib.Claim
public import Idealize.ShloMosaic.Lib.Pipeline.ValueKit
public import Idealize.ShloMosaic.Lib.Pointwise

@[expose] public section

set_option maxRecDepth 16384

noncomputable section

namespace Cert.Up

open Idealize.ShloMosaic Cert.Rows

/-- The squared positive part. -/
def relu2 (x : EReal) : EReal := max x 0 * max x 0

/-- The hidden rows of the joined rows. -/
def spec (a : FVec Ideal ⟨3, ![4, 4096, 4096]⟩ .f32) (b : FVec Ideal ⟨3, ![4, 256, 4096]⟩ .f32) (w : FVec Ideal ⟨3, ![4, 4096, 16384]⟩ .f32) :
    FVec Ideal ⟨2, ![17408, 16384]⟩ .bf16 := fun i => relu2 (∑ k : Fin 4096, joined a b (i 0) k * w (ix3 0 k (i 1)))

/-- The same with the latent rows and the context rows apart. -/
theorem spec_at (a : FVec Ideal ⟨3, ![4, 4096, 4096]⟩ .f32) (b : FVec Ideal ⟨3, ![4, 256, 4096]⟩ .f32) (w : FVec Ideal ⟨3, ![4, 4096, 16384]⟩ .f32)
    (R : Fin 17408) (C : Fin 16384) : spec a b w (ix2 R C) = relu2
      (if h : R.val < 16384 then ∑ k : Fin 4096, a (ix3 ⟨R.val / 4096, by omega⟩ ⟨R.val % 4096, by omega⟩ k) * w (ix3 0 k C)
        else ∑ k : Fin 4096, b (ix3 ⟨(R.val - 16384) / 256, by omega⟩ ⟨(R.val - 16384) % 256, by omega⟩ k) * w (ix3 0 k C)) :=
  congrArg relu2 (dot_joined a b (fun k => w (ix3 0 k C)) R)

end Cert.Up

namespace Cert.Kernel2Ideal.Up

open Idealize.ShloMosaic Idealize.ShloMosaic.TcCoe Idealize.SL.Sem Cert.Kernel2Ideal Cert.Kernel2Ideal.Gen Cert.Up Cert.Rows

/-- One block: the squared positive part of a row of the first block by a column of the second. -/
theorem pay_at (a : FVec Ideal S1024x4096 .bf16) (b : FVec Ideal S1x4096x1024 .bf16) (r : Fin 1024) (j : Fin 1024) :
    k0_pay1 (F := Ideal) a b (ix2 r j) = relu2 (∑ k : Fin 4096, a (ix2 r k) * b (ix3 0 k j)) := by
  unfold relu2
  pointwise [k0_pay1]

variable (m : (ℓ : Loc nD τ sig) → Buf (Elt Ideal) ℓ) (c : Dev nD)

/-- The arguments, and the rows and weights as the call reads them. -/
abbrev lat : FVec Ideal S4x4096x4096 .f32 := m ((c : Thread nD τ).loc main_arg0)
abbrev ctx : FVec Ideal S4x256x4096 .f32 := m ((c : Thread nD τ).loc main_arg1)
abbrev weights : FVec Ideal S4x4096x16384 .f32 := m ((c : Thread nD τ).loc main_arg2)
abbrev arrH : FVec Ideal S17408x4096 .bf16 := V m c main_v3
abbrev arrW : FVec Ideal S4x4096x16384 .bf16 := V m c main_v4

/-- The rows the call reads are the arguments' joined. -/
theorem arrH_at (R : Fin 17408) (k : Fin 4096) : arrH m c (ix2 R k) = joined (lat m c) (ctx m c) R k := by
  unfold arrH V joined
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise
  after_results_simp
  pointwise

/-- The weights the call reads are the argument's. -/
theorem arrW_eq (i : S4x4096x16384.Idx) : arrW m c i = weights m c i := by
  unfold arrW V
  simp only [hostOps0, List.flatten_cons, List.flatten_nil, List.append_nil, List.cons_append, List.nil_append]
  after_results_simp
  rfl

/-- The array the call leaves. -/
def result : FVec Ideal S17408x16384 .bf16 := spec (lat m c) (ctx m c) (weights m c)

/-- The block of every window at every grid point. -/
theorem idx : ∀ t : Fin cfg0.N, win0_0.index t = ![t.val / 16, 0] ∧ win0_1.index t = ![0, 0, t.val % 16] ∧ win0_2.index t = ![t.val / 16, t.val % 16] :=
  (by decide +kernel : ∀ t : Fin grid0.N, win0_0.index t = ![t.val / 16, 0] ∧ win0_1.index t = ![0, 0, t.val % 16] ∧ win0_2.index t = ![t.val / 16, t.val % 16])

/-- The staged rows. -/
theorem blk0_at (t : Fin cfg0.N) (r : Fin 1024) (k : Fin 4096) (R : Fin 17408) (hR : R.val = t.val / 16 * 1024 + r.val) :
    (iblk m c 0 t : FVec Ideal S1024x4096 .bf16) (ix2 r k) = joined (lat m c) (ctx m c) R k := by
  rw [← arrH_at]
  blk_ext [iblk, idx t]

/-- The staged weights. -/
theorem blk1_at (t : Fin cfg0.N) (k : Fin 4096) (j : Fin 1024) (C : Fin 16384) (hC : C.val = t.val % 16 * 1024 + j.val) :
    (iblk m c 1 t : FVec Ideal S1x4096x1024 .bf16) (ix3 0 k j) = weights m c (ix3 0 k C) := by
  rw [← arrW_eq]
  blk_ext [iblk, idx t]

/-- An entry of the block that a grid point writes. -/
theorem point (t : Fin cfg0.N) (y : S1024x1024.Idx) (i : S17408x16384.Idx) (h0 : (i 0 : ℕ) = t.val / 16 * 1024 + (y 0).val)
    (h1 : (i 1 : ℕ) = t.val % 16 * 1024 + (y 1).val) :
    k0_pay1 (F := Ideal) (iblk m c 0 t) (iblk m c 1 t) y = result m c i := by
  rw [show y = ix2 (y 0) (y 1) from eq_ix2 y]
  refine (pay_at _ _ (y 0) (y 1)).trans ?_
  unfold result spec
  congr 1
  refine Finset.sum_congr rfl fun k _ => ?_
  rw [blk0_at m c t (y 0) k (i 0) h0, blk1_at m c t k (y 1) (i 1) h1]

/-- The array after the run. -/
theorem final : (dats m 0 c).arrAt 2 cfg0.N = result m c := by
  refine (dats m 0 c).arrAt_eq_of_covers 2 _ (by decide +kernel) fun t hf y => ?_
  blk_simp
  rw [after0_2]
  frame_out
  exact point m c t y _ (by blk_simp [idx t]) (by blk_simp [idx t])

end Cert.Kernel2Ideal.Up

namespace Cert.Reference2Ideal.Up

open Idealize.ShloMosaic Idealize.ShloMosaic.TcCoe Idealize.SL.Sem Cert.Reference2Ideal Cert.Reference2Ideal.Gen Cert.Up Cert.Rows

/-- The reference's run leaves the hidden rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v13) = spec (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run _ _ _).mono (fun r h c => ⟨(h c).1.trans (funext fun i => ?_), (h c).2⟩) (Cert.Reference2Ideal.Value.run (F := Ideal) m ρ)
  obtain ⟨R, C, rfl⟩ : ∃ (R : Fin 17408) (C : Fin 16384), i = ix2 R C := ⟨i 0, i 1, eq_ix2 i⟩
  rw [spec_at]
  unfold relu2
  pointwise
  split <;> rfl

end Cert.Reference2Ideal.Up

end
-- ==== Proof.Down.lean ====
/- The MLP's second call: the array it leaves is the product of the hidden rows with the layer's second weights, and so
   is the plain reference's. -/
module

public import proofs.«01_k».proof.Proof.Gen.Kernel3Ideal.Value
public import proofs.«01_k».proof.Proof.Gen.Reference3Ideal.Run
public import proofs.«01_k».proof.Proof.Rows
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Down

open Idealize.ShloMosaic Cert.Rows

/-- The product of the joined rows with the first layer's weights. -/
def spec (a : FVec Ideal ⟨3, ![4, 4096, 16384]⟩ .f32) (b : FVec Ideal ⟨3, ![4, 256, 16384]⟩ .f32) (w : FVec Ideal ⟨3, ![4, 16384, 4096]⟩ .f32) :
    FVec Ideal ⟨2, ![17408, 4096]⟩ .f32 := fun i => ∑ k : Fin 16384, joined a b (i 0) k * w (ix3 0 k (i 1))

/-- The same with the latent rows and the context rows apart. -/
theorem spec_at (a : FVec Ideal ⟨3, ![4, 4096, 16384]⟩ .f32) (b : FVec Ideal ⟨3, ![4, 256, 16384]⟩ .f32) (w : FVec Ideal ⟨3, ![4, 16384, 4096]⟩ .f32)
    (R : Fin 17408) (C : Fin 4096) : spec a b w (ix2 R C) =
      if h : R.val < 16384 then ∑ k : Fin 16384, a (ix3 ⟨R.val / 4096, by omega⟩ ⟨R.val % 4096, by omega⟩ k) * w (ix3 0 k C)
        else ∑ k : Fin 16384, b (ix3 ⟨(R.val - 16384) / 256, by omega⟩ ⟨(R.val - 16384) % 256, by omega⟩ k) * w (ix3 0 k C) :=
  dot_joined a b (fun k => w (ix3 0 k C)) R

end Cert.Down

namespace Cert.Kernel3Ideal.Down

open Idealize.ShloMosaic Idealize.ShloMosaic.TcCoe Idealize.SL.Sem Cert.Kernel3Ideal Cert.Kernel3Ideal.Gen Cert.Down Cert.Rows

/-- A row of a staged block by a column of the staged weights. -/
def part (a : FVec Ideal S1024x4096 .bf16) (b : FVec Ideal S1x4096x1024 .bf16) (y : S1024x1024.Idx) : EReal :=
  ∑ k : Fin 4096, a (ix2 (y 0) k) * b (ix3 0 k (y 1))

/-- What the first span stores in the accumulator. -/
theorem pay1_at (a : FVec Ideal S1024x4096 .bf16) (b : FVec Ideal S1x4096x1024 .bf16) (y : S1024x1024.Idx) :
    k0_pay1 (F := Ideal) a b y = part a b y := by
  unfold part
  pointwise [k0_pay1]

/-- What a later span adds to the accumulator. -/
theorem pay2_at (s : FVec Ideal S1024x1024 .f32) (a : FVec Ideal S1024x4096 .bf16) (b : FVec Ideal S1x4096x1024 .bf16) (y : S1024x1024.Idx) :
    k0_pay2 (F := Ideal) s a b y = s y + part a b y := by
  unfold part
  pointwise [k0_pay2]

variable (m : (ℓ : Loc nD τ sig) → Buf (Elt Ideal) ℓ) (c : Dev nD)

/-- The arguments, and the rows and weights as the call reads them. -/
abbrev lat : FVec Ideal S4x4096x16384 .f32 := m ((c : Thread nD τ).loc main_arg0)
abbrev ctx : FVec Ideal S4x256x16384 .f32 := m ((c : Thread nD τ).loc main_arg1)
abbrev weights : FVec Ideal S4x16384x4096 .f32 := m ((c : Thread nD τ).loc main_arg2)
abbrev arrH : FVec Ideal S17408x16384 .bf16 := V m c main_v3
abbrev arrW : FVec Ideal S4x16384x4096 .bf16 := V m c main_v4

/-- The rows the call reads are the arguments' joined. -/
theorem arrH_at (R : Fin 17408) (k : Fin 16384) : arrH m c (ix2 R k) = joined (lat m c) (ctx m c) R k := by
  unfold arrH V joined
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise
  after_results_simp
  pointwise

/-- The weights the call reads are the argument's. -/
theorem arrW_eq (i : S4x16384x4096.Idx) : arrW m c i = weights m c i := by
  unfold arrW V
  simp only [hostOps0, List.flatten_cons, List.flatten_nil, List.append_nil, List.cons_append, List.nil_append]
  after_results_simp
  rfl

/-- The array the call leaves. -/
def result : FVec Ideal S17408x4096 .f32 := spec (lat m c) (ctx m c) (weights m c)

/-- The block of every window at every grid point. -/
theorem idx : ∀ t : Fin cfg0.N, win0_0.index t = ![t.val / 16, t.val % 4] ∧ win0_1.index t = ![0, t.val % 4, t.val / 4 % 4]
    ∧ win0_2.index t = ![t.val / 16, t.val / 4 % 4] :=
  (by decide +kernel : ∀ t : Fin grid0.N, win0_0.index t = ![t.val / 16, t.val % 4] ∧ win0_1.index t = ![0, t.val % 4, t.val / 4 % 4]
    ∧ win0_2.index t = ![t.val / 16, t.val / 4 % 4])

/-- The staged rows. -/
theorem blk0_at (t : Fin cfg0.N) (r : Fin 1024) (k : Fin 4096) (R : Fin 17408) (K : Fin 16384) (hR : R.val = t.val / 16 * 1024 + r.val)
    (hK : K.val = t.val % 4 * 4096 + k.val) : (iblk m c 0 t : FVec Ideal S1024x4096 .bf16) (ix2 r k) = joined (lat m c) (ctx m c) R K := by
  rw [← arrH_at]
  blk_ext [iblk, idx t]

/-- The staged weights. -/
theorem blk1_at (t : Fin cfg0.N) (k : Fin 4096) (j : Fin 1024) (K : Fin 16384) (C : Fin 4096) (hK : K.val = t.val % 4 * 4096 + k.val)
    (hC : C.val = t.val / 4 % 4 * 1024 + j.val) : (iblk m c 1 t : FVec Ideal S1x4096x1024 .bf16) (ix3 0 k j) = weights m c (ix3 0 K C) := by
  rw [← arrW_eq]
  blk_ext [iblk, idx t]

/-- What the first point of a block leaves in the accumulator. -/
theorem acc_first (t : Fin cfg0.N) (h : t.val % 4 = 0) (y : S1024x1024.Idx) :
    (outsAt0 m c t.val t.isLt).2 y = part (iblk m c 0 t) (iblk m c 1 t) y := by
  rw [outsAt0_A m c t h (by omega) (by omega)]
  frame_out
  exact pay1_at _ _ y

/-- What a later point leaves in the accumulator. -/
theorem acc_later (t : Fin cfg0.N) (h : ¬t.val % 4 = 0) (y : S1024x1024.Idx) :
    (outsAt0 m c t.val t.isLt).2 y = (outsAt0 m c (t.val - 1) (Nat.lt_of_le_of_lt (Nat.sub_le _ _) t.isLt)).2 y
      + part (iblk m c 0 t) (iblk m c 1 t) y := by
  by_cases h3 : t.val % 4 = 3
  · rw [outsAt0_C m c t h (by omega) h3]
    frame_out
    simp only [read_unread_whole]
    exact pay2_at _ _ _ y
  · rw [outsAt0_B m c t h (by omega) h3]
    frame_out
    simp only [read_unread_whole]
    exact pay2_at _ _ _ y

/-- The last point of a block stores the accumulator. -/
theorem out_acc (t : Fin cfg0.N) (h : t.val % 4 = 3) (y : S1024x1024.Idx) :
    (outsAt0 m c t.val t.isLt).1 y = (outsAt0 m c t.val t.isLt).2 y := by
  rw [outsAt0_C m c t (by omega) (by omega) h]
  frame_out

/-- The block written back, over the block's four spans. -/
theorem out_sum (t : Fin cfg0.N) (h : t.val % 4 = 3) (y : S1024x1024.Idx) : (outsAt0 m c t.val t.isLt).1 y
    = ∑ s : Fin 4, part (iblk m c 0 ⟨4 * (t.val / 4) + s.val, by have := t.isLt; omega⟩) (iblk m c 1 ⟨4 * (t.val / 4) + s.val, by have := t.isLt; omega⟩) y := by
  rw [out_acc m c t h, Pipeline.eq_sum_fin_of_reset_step_apply_of_flush (fun n h => (outsAt0 m c n h).2) 4 (fun _ => 0)
    (fun t y => part (iblk m c 0 t) (iblk m c 1 t) y)
    (fun t h y => (acc_first m c t h y).trans (zero_add _).symm) (fun t h y => acc_later m c t h y) t h y, zero_add]

/-- An entry of the block that the last point of a block writes. -/
theorem point (t : Fin cfg0.N) (h : t.val % 4 = 3) (y : S1024x1024.Idx) (i : S17408x4096.Idx) (h0 : (i 0 : ℕ) = t.val / 16 * 1024 + (y 0).val)
    (h1 : (i 1 : ℕ) = t.val / 4 % 4 * 1024 + (y 1).val) : (outsAt0 m c t.val t.isLt).1 y = result m c i := by
  rw [out_sum m c t h y]
  unfold result spec part
  refine Fin.sum_mul_add_congr fun s k hk => ?_
  rw [blk0_at m c _ (y 0) k (i 0) ⟨s.val * 4096 + k.val, hk⟩ (by dsimp only; omega) (by dsimp only; omega),
    blk1_at m c _ k (y 1) ⟨s.val * 4096 + k.val, hk⟩ (i 1) (by dsimp only; omega) (by dsimp only; omega)]

/-- The array after the run. -/
theorem final : (dats m 0 c).arrAt 2 cfg0.N = result m c := by
  refine (dats m 0 c).arrAt_eq_of_covers 2 _ (by decide +kernel) fun t hf y => ?_
  blk_simp
  rw [after0_2]
  exact point m c t ((flush0_2 t).mp hf) y _ (by blk_simp [idx t]) (by blk_simp [idx t])

end Cert.Kernel3Ideal.Down

namespace Cert.Reference3Ideal.Down

open Idealize.ShloMosaic Idealize.ShloMosaic.TcCoe Idealize.SL.Sem Cert.Reference3Ideal Cert.Reference3Ideal.Gen Cert.Down

/-- The reference's run leaves the same product. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v8) = spec (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run _ _ _).mono (fun r h c => ⟨(h c).1.trans (funext fun i => ?_), (h c).2⟩) (Cert.Reference3Ideal.Value.run (F := Ideal) m ρ)
  obtain ⟨R, C, rfl⟩ : ∃ (R : Fin 17408) (C : Fin 4096), i = ix2 R C := ⟨i 0, i 1, eq_ix2 i⟩
  rw [spec_at]
  pointwise

end Cert.Reference3Ideal.Down

end
-- ==== Proof.Gate.lean ====
/- The logarithm of a forget gate: as the kernel computes it and as a sum of logarithms. -/
module

public import Idealize.ShloMosaic.Lib.Claim
public import Idealize.ShloMosaic.Lib.Pointwise

@[expose] public section

noncomputable section

namespace Cert.Gate

open Idealize.ShloMosaic

/-- The kernel's logarithm of `lb + omlb * sigmoid z`: where the gate underflows to zero, the limit `z + log omlb`. -/
def stable (z omlb lb : EReal) : EReal :=
  if 0 < lb + omlb * Ideal.div (if 0 ≤ z then 1 else Ideal.exp (0 - FloatOps.absf (F := Ideal) (φ := .f32) z))
      (1 + Ideal.exp (0 - FloatOps.absf (F := Ideal) (φ := .f32) z)) then
    Ideal.log (lb + omlb * Ideal.div (if 0 ≤ z then 1 else Ideal.exp (0 - FloatOps.absf (F := Ideal) (φ := .f32) z))
      (1 + Ideal.exp (0 - FloatOps.absf (F := Ideal) (φ := .f32) z)))
  else z + Ideal.log omlb

/-- `log (e^x + e^y)`, from the larger of the two. -/
def logAdd (x y : EReal) : EReal := max x y + Ideal.log1p (Ideal.exp (-FloatOps.absf (F := Ideal) (φ := .f32) (x - y)))

/-- The gate's logarithm as the logarithm of a sum, `log sigmoid z` being `-log (e^(-z) + e^0)`. -/
def summed (z lb : EReal) : EReal := logAdd (Ideal.log lb) (Ideal.log1p (-lb) + -logAdd (-z) 0)

theorem absf_eq (x : EReal) : FloatOps.absf (F := Ideal) (φ := .f32) x = max x (-x) := rfl

theorem log_zero : Ideal.log (((0 : ℝ)) : EReal) = ⊥ := by rw [Ideal.log_coe, if_pos le_rfl]

theorem log_pos {x : ℝ} (h : 0 < x) : Ideal.log (x : EReal) = (Real.log x : ℝ) := by
  rw [Ideal.log_coe, if_neg (not_le.mpr h)]

theorem log1p_zero : Ideal.log1p 0 = 0 := by
  rw [Ideal.log1p, add_zero, ← EReal.coe_one, log_pos one_pos, Real.log_one, EReal.coe_zero]

theorem log1p_exp (x : ℝ) : Ideal.log1p (Ideal.exp (x : EReal)) = (Real.log (1 + Real.exp x) : ℝ) := by
  rw [Ideal.log1p, Ideal.exp_coe, ← EReal.coe_one, ← EReal.coe_add, log_pos (by positivity)]

theorem coe_max' (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- On reals, the logarithm of the sum of two exponentials. -/
theorem logAdd_real (x y : ℝ) : logAdd (x : EReal) (y : EReal) = (Real.log (Real.exp x + Real.exp y) : ℝ) := by
  have key : max x y + Real.log (1 + Real.exp (-max (x - y) (-(x - y)))) = Real.log (Real.exp x + Real.exp y) := by
    rcases le_total x y with h | h
    · rw [max_eq_right h, max_eq_right (by linarith)]
      rw [← Real.log_exp y, ← Real.log_mul (Real.exp_pos _).ne' (by positivity), Real.log_exp]
      congr 1
      rw [mul_add, mul_one, ← Real.exp_add]
      ring_nf
    · rw [max_eq_left h, max_eq_left (by linarith)]
      rw [← Real.log_exp x, ← Real.log_mul (Real.exp_pos _).ne' (by positivity), Real.log_exp]
      congr 1
      rw [mul_add, mul_one, ← Real.exp_add]
      ring_nf
  rw [logAdd, absf_eq, ← EReal.coe_sub, ← EReal.coe_neg, coe_max', coe_max', ← EReal.coe_neg, log1p_exp, ← EReal.coe_add, key]

theorem logAdd_bot_left (y : EReal) : logAdd ⊥ y = y := by
  have : (⊥ : EReal) - y = ⊥ := by rw [sub_eq_add_neg, EReal.bot_add]
  rw [logAdd, this, absf_eq, EReal.neg_bot, max_eq_right bot_le, max_eq_right bot_le, EReal.neg_top, Ideal.exp_bot, log1p_zero, add_zero]

theorem logAdd_bot_right (x : ℝ) : logAdd (x : EReal) ⊥ = x := by
  have : (x : EReal) - ⊥ = ⊤ := by rw [sub_eq_add_neg, EReal.neg_bot, EReal.coe_add_top]
  rw [logAdd, this, absf_eq, EReal.neg_top, max_eq_left bot_le, max_eq_left bot_le, EReal.neg_top, Ideal.exp_bot, log1p_zero, add_zero]

/-- Of two logarithms, the logarithm of the sum; zero included. -/
theorem logAdd_log {x y : ℝ} (hx : 0 ≤ x) (hy : 0 ≤ y) :
    logAdd (Ideal.log (x : EReal)) (Ideal.log (y : EReal)) = Ideal.log ((x + y : ℝ) : EReal) := by
  rcases hx.eq_or_lt with rfl | hx
  · rw [log_zero, logAdd_bot_left, zero_add]
  rcases hy.eq_or_lt with rfl | hy
  · rw [log_zero, log_pos hx, logAdd_bot_right, add_zero, log_pos hx]
  rw [log_pos hx, log_pos hy, logAdd_real, Real.exp_log hx, Real.exp_log hy, log_pos (by positivity)]

/-- The logarithm of a product of two nonnegative reals; zero included. -/
theorem log_mul {x y : ℝ} (hx : 0 ≤ x) (hy : 0 ≤ y) :
    Ideal.log (x : EReal) + Ideal.log (y : EReal) = Ideal.log ((x * y : ℝ) : EReal) := by
  rcases hx.eq_or_lt with rfl | hx
  · rw [log_zero, EReal.bot_add, zero_mul, log_zero]
  rcases hy.eq_or_lt with rfl | hy
  · rw [log_zero, EReal.add_bot, mul_zero, log_zero]
  rw [log_pos hx, log_pos hy, ← EReal.coe_add, ← Real.log_mul hx.ne' hy.ne', log_pos (by positivity)]

/-- The sigmoid of any extended real is a real in `[0, 1]`, zero at minus infinity alone; the two ways of computing it. -/
theorem sigmoid (z : EReal) : ∃ s : ℝ, 0 ≤ s ∧ (s = 0 → z = ⊥) ∧
    Ideal.div (if 0 ≤ z then 1 else Ideal.exp (0 - FloatOps.absf (F := Ideal) (φ := .f32) z))
      (1 + Ideal.exp (0 - FloatOps.absf (F := Ideal) (φ := .f32) z)) = (s : EReal) ∧
    -logAdd (-z) 0 = Ideal.log (s : EReal) := by
  induction z using EReal.rec with
  | bot =>
    refine ⟨0, le_rfl, fun _ => rfl, ?_, ?_⟩
    · rw [absf_eq, EReal.neg_bot, max_eq_right bot_le, zero_sub, EReal.neg_top, Ideal.exp_bot, add_zero, if_neg (by simp),
        Ideal.div, if_neg one_ne_zero, zero_mul, EReal.coe_zero]
    · have : (⊤ : EReal) - 0 = ⊤ := by simp
      rw [log_zero, EReal.neg_bot, logAdd, this, absf_eq, EReal.neg_top, max_eq_left bot_le, max_eq_left le_top, EReal.neg_top,
        Ideal.exp_bot, log1p_zero, add_zero, EReal.neg_top]
  | top =>
    refine ⟨1, zero_le_one, fun h => absurd h one_ne_zero, ?_, ?_⟩
    · rw [absf_eq, EReal.neg_top, max_eq_left bot_le, zero_sub, EReal.neg_top, Ideal.exp_bot, add_zero, if_pos le_top,
        Ideal.div, if_neg one_ne_zero, one_mul, ← EReal.coe_one, ← EReal.coe_inv, inv_one]
    · rw [EReal.neg_top, logAdd_bot_left, neg_zero, log_pos one_pos, Real.log_one, EReal.coe_zero]
  | coe r =>
    have hp : (0 : ℝ) < 1 + Real.exp (-r) := by positivity
    refine ⟨(1 + Real.exp (-r))⁻¹, by positivity, fun h => absurd h (by positivity), ?_, ?_⟩
    · have hq : ∀ x : ℝ, ((1 : EReal) + ((Real.exp x : ℝ) : EReal)) ≠ 0 := fun x => by
        have : (0 : ℝ) < 1 + Real.exp x := by positivity
        rw [← EReal.coe_one, ← EReal.coe_add]
        exact_mod_cast this.ne'
      rw [absf_eq, ← EReal.coe_neg, coe_max', zero_sub, ← EReal.coe_neg, Ideal.exp_coe, Ideal.div, if_neg (hq _), ← EReal.coe_one,
        ← EReal.coe_add, ← EReal.coe_inv]
      rcases le_or_gt 0 r with h | h
      · rw [if_pos (EReal.coe_nonneg.mpr h), ← EReal.coe_mul, one_mul, max_eq_left (by linarith)]
      · rw [if_neg (by rw [EReal.coe_nonneg]; exact not_le.mpr h), ← EReal.coe_mul, max_eq_right (by linarith), neg_neg]
        congr 1
        rw [← mul_eq_one_iff_eq_inv₀ hp.ne', mul_comm, ← mul_assoc, mul_inv_eq_one₀ (by positivity), add_mul, one_mul, ← Real.exp_add]
        simp [add_comm]
    · rw [← EReal.coe_neg, ← EReal.coe_zero, logAdd_real, Real.exp_zero, log_pos (by positivity), Real.log_inv, EReal.coe_neg, add_comm]

/-- The two ways of the gate's logarithm agree, for a lower bound in `[0, 1]` and any `z`. -/
theorem stable_eq (z : EReal) {l : ℝ} (h0 : 0 ≤ l) (h1 : l ≤ 1) : stable z (1 - (l : EReal)) (l : EReal) = summed z (l : EReal) := by
  obtain ⟨s, hs, hz, hk, hr⟩ := sigmoid z
  have h1' : 0 ≤ 1 - l := by linarith
  have e1 : (1 : EReal) - (l : EReal) = ((1 - l : ℝ) : EReal) := by rw [← EReal.coe_one, ← EReal.coe_sub]
  have e2 : Ideal.log1p (-(l : EReal)) = Ideal.log ((1 - l : ℝ) : EReal) := by
    rw [Ideal.log1p, ← sub_eq_add_neg, e1]
  have hs' : 0 ≤ (1 - l) * s := mul_nonneg h1' hs
  rw [summed, hr, e2, log_mul h1' hs, logAdd_log h0 hs', stable, hk, e1, ← EReal.coe_mul, ← EReal.coe_add]
  split
  · rfl
  · rename_i hn
    have hn' : l + (1 - l) * s ≤ 0 := by
      by_contra hc
      exact hn (EReal.coe_pos.mpr (not_le.mp hc))
    have hl : l = 0 := by linarith
    subst hl
    have : s = 0 := by linarith
    rw [hz this, EReal.bot_add, this, mul_zero, add_zero, log_zero]

end Cert.Gate

end
-- ==== Proof.Project.lean ====
/- The gated recurrence's input projection: the array the call leaves has five sections, each the product of the rows with
   its part of the first layer's weights, the first through silu, the third and fourth through the logarithm of a forget
   gate; and so is the plain reference's. -/
module

public import proofs.«01_k».proof.Proof.Gen.Kernel4Ideal.Value
public import proofs.«01_k».proof.Proof.Gen.Reference4Ideal.Run
public import proofs.«01_k».proof.Proof.Rows
public import proofs.«01_k».proof.Proof.Gate
public import Idealize.ShloMosaic.Lib.Claim
public import Idealize.ShloMosaic.Lib.Pipeline.ValueKit
public import Idealize.ShloMosaic.Lib.Pointwise

@[expose] public section

set_option maxRecDepth 100000

noncomputable section

namespace Cert.Project

open Idealize.ShloMosaic Cert.Rows Cert.Gate

/-- A section's function of the projected value: silu in the first, the gate's logarithm in the third (forward) and fourth
    (backward), nothing in the second and fifth. -/
def act (lb : FVec Ideal ⟨2, ![2, 4096]⟩ .f32) (s : Fin 5) (C : Fin 4096) (z : EReal) : EReal :=
  if s.val = 0 then z * Ideal.div 1 (1 + Ideal.exp (-z))
  else if s.val = 2 then summed z (lb (ix2 0 C))
  else if s.val = 3 then summed z (lb (ix2 1 C))
  else z

/-- The product of a joined row with a column of the first layer's weights. -/
def proj (a : FVec Ideal ⟨3, ![4, 4096, 4096]⟩ .f32) (b : FVec Ideal ⟨3, ![4, 256, 4096]⟩ .f32) (w : FVec Ideal ⟨3, ![2, 4096, 20480]⟩ .f32)
    (R : Fin 17408) (J : Fin 20480) : EReal := ∑ k : Fin 4096, joined a b R k * w (ix3 0 k J)

/-- The five sections of every row. -/
def spec (a : FVec Ideal ⟨3, ![4, 4096, 4096]⟩ .f32) (b : FVec Ideal ⟨3, ![4, 256, 4096]⟩ .f32) (w : FVec Ideal ⟨3, ![2, 4096, 20480]⟩ .f32)
    (lb : FVec Ideal ⟨2, ![2, 4096]⟩ .f32) : FVec Ideal ⟨3, ![5, 17408, 4096]⟩ .f32 := fun i =>
  act lb (i 0) (i 2) (proj a b w (i 1) ⟨(i 0).val * 4096 + (i 2).val, by
    have h0 : (i 0).val < 5 := (i 0).isLt
    have h2 : (i 2).val < 4096 := (i 2).isLt
    omega⟩)

end Cert.Project

namespace Cert.Kernel4Ideal.Project

open Idealize.ShloMosaic Idealize.ShloMosaic.TcCoe Idealize.SL.Sem Cert.Kernel4Ideal Cert.Kernel4Ideal.Gen Cert.Project Cert.Rows Cert.Gate

/-- One block's product: a row of the first block by a column of the second. -/
theorem dot_at (a : FVec Ideal S1024x4096 .bf16) (b : FVec Ideal S1x4096x1024 .bf16) (r : Fin 1024) (j : Fin 1024) :
    k0_pay2 (F := Ideal) a b (ix2 r j) = ∑ k : Fin 4096, a (ix2 r k) * b (ix3 0 k j) := by
  pointwise [k0_pay2]

/-- A block of the first section. -/
theorem silu_at (a : FVec Ideal S1024x4096 .bf16) (b : FVec Ideal S1x4096x1024 .bf16) (r : Fin 1024) (j : Fin 1024) :
    k0_pay3 (F := Ideal) a b (ix3 0 r j) = k0_pay2 (F := Ideal) a b (ix2 r j) * Ideal.div 1 (1 + Ideal.exp (-k0_pay2 (F := Ideal) a b (ix2 r j))) := by
  pointwise [k0_pay3]
  rw [zero_sub]

/-- A block of the second section or the fifth. -/
theorem plain_at (a : FVec Ideal S1024x4096 .bf16) (b : FVec Ideal S1x4096x1024 .bf16) (r : Fin 1024) (j : Fin 1024) :
    k0_pay4 (F := Ideal) a b (ix3 0 r j) = k0_pay2 (F := Ideal) a b (ix2 r j) := by
  pointwise [k0_pay4]

/-- A block of the third section or the fourth. -/
theorem gate_at (z : FVec Ideal S1024x1024 .f32) (omlb lb : FVec Ideal S1x1x1024 .f32) (r : Fin 1024) (j : Fin 1024) :
    k0_pay1 (F := Ideal) z omlb lb (ix3 0 r j) = stable (z (ix2 r j)) (omlb (ix3 0 0 j)) (lb (ix3 0 0 j)) := by
  unfold stable
  pointwise [k0_pay1]

variable (m : (ℓ : Loc nD τ sig) → Buf (Elt Ideal) ℓ) (c : Dev nD)

/-- The arguments, and the rows, weights and bounds as the call reads them. -/
abbrev lat : FVec Ideal S4x4096x4096 .f32 := m ((c : Thread nD τ).loc main_arg0)
abbrev ctx : FVec Ideal S4x256x4096 .f32 := m ((c : Thread nD τ).loc main_arg1)
abbrev weights : FVec Ideal S2x4096x20480 .f32 := m ((c : Thread nD τ).loc main_arg2)
abbrev lower : FVec Ideal S2x4096 .f32 := m ((c : Thread nD τ).loc main_arg3)
abbrev arrH : FVec Ideal S17408x4096 .bf16 := V m c main_v3
abbrev arrW : FVec Ideal S2x4096x20480 .bf16 := V m c main_v4
abbrev arrA : FVec Ideal S5x1x4096 .f32 := V m c main_v7
abbrev arrB : FVec Ideal S5x1x4096 .f32 := V m c main_v11

/-- The rows the call reads are the arguments' joined. -/
theorem arrH_at (R : Fin 17408) (k : Fin 4096) : arrH m c (ix2 R k) = joined (lat m c) (ctx m c) R k := by
  unfold arrH V joined
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise
  after_results_simp
  pointwise

/-- The weights the call reads are the argument's. -/
theorem arrW_eq (i : S2x4096x20480.Idx) : arrW m c i = weights m c i := by
  unfold arrW V
  simp only [hostOps0, List.flatten_cons, List.flatten_nil, List.append_nil, List.cons_append, List.nil_append]
  after_results_simp
  rfl

/-- The third and fourth rows of the bounds the call reads are the argument's two. -/
theorem arrA_at2 (C : Fin 4096) : arrA m c (ix3 2 0 C) = lower m c (ix2 0 C) := by
  unfold arrA V
  simp only [hostOps0, List.flatten_cons, List.flatten_nil, List.append_nil, List.cons_append, List.nil_append]
  after_results_simp
  pointwise
  after_results_simp

theorem arrA_at3 (C : Fin 4096) : arrA m c (ix3 3 0 C) = lower m c (ix2 1 C) := by
  unfold arrA V
  simp only [hostOps0, List.flatten_cons, List.flatten_nil, List.append_nil, List.cons_append, List.nil_append]
  after_results_simp
  pointwise
  after_results_simp

/-- The same rows of the other array are one minus the argument's two. -/
theorem arrB_at2 (C : Fin 4096) : arrB m c (ix3 2 0 C) = 1 - lower m c (ix2 0 C) := by
  unfold arrB V
  simp only [hostOps0, List.flatten_cons, List.flatten_nil, List.append_nil, List.cons_append, List.nil_append]
  after_results_simp
  pointwise
  after_results_simp
  pointwise

theorem arrB_at3 (C : Fin 4096) : arrB m c (ix3 3 0 C) = 1 - lower m c (ix2 1 C) := by
  unfold arrB V
  simp only [hostOps0, List.flatten_cons, List.flatten_nil, List.append_nil, List.cons_append, List.nil_append]
  after_results_simp
  pointwise
  after_results_simp
  pointwise

/-- The array the call leaves. -/
def result : FVec Ideal S5x17408x4096 .f32 := spec (lat m c) (ctx m c) (weights m c) (lower m c)

/-- The block of every window at every grid point. -/
theorem idx : ∀ t : Fin cfg0.N, win0_0.index t = ![t.val / 20, 0] ∧ win0_1.index t = ![0, 0, t.val % 20]
    ∧ win0_2.index t = ![t.val % 20 / 4, 0, t.val % 20 % 4] ∧ win0_3.index t = ![t.val % 20 / 4, 0, t.val % 20 % 4]
    ∧ win0_4.index t = ![t.val % 20 / 4, t.val / 20, t.val % 20 % 4] :=
  (by decide +kernel : ∀ t : Fin grid0.N, win0_0.index t = ![t.val / 20, 0] ∧ win0_1.index t = ![0, 0, t.val % 20]
    ∧ win0_2.index t = ![t.val % 20 / 4, 0, t.val % 20 % 4] ∧ win0_3.index t = ![t.val % 20 / 4, 0, t.val % 20 % 4]
    ∧ win0_4.index t = ![t.val % 20 / 4, t.val / 20, t.val % 20 % 4])

/-- The staged rows. -/
theorem blk0_at (t : Fin cfg0.N) (r : Fin 1024) (k : Fin 4096) (R : Fin 17408) (hR : R.val = t.val / 20 * 1024 + r.val) :
    (iblk m c 0 t : FVec Ideal S1024x4096 .bf16) (ix2 r k) = joined (lat m c) (ctx m c) R k := by
  rw [← arrH_at]
  blk_ext [iblk, idx t]

/-- The staged weights. -/
theorem blk1_at (t : Fin cfg0.N) (k : Fin 4096) (j : Fin 1024) (J : Fin 20480) (hJ : J.val = t.val % 20 * 1024 + j.val) :
    (iblk m c 1 t : FVec Ideal S1x4096x1024 .bf16) (ix3 0 k j) = weights m c (ix3 0 k J) := by
  rw [← arrW_eq]
  blk_ext [iblk, idx t]

/-- The staged bounds. -/
theorem blk2_at (t : Fin cfg0.N) (j : Fin 1024) (s : Fin 5) (C : Fin 4096) (hs : s.val = t.val % 20 / 4) (hC : C.val = t.val % 20 % 4 * 1024 + j.val) :
    (iblk m c 2 t : FVec Ideal S1x1x1024 .f32) (ix3 0 0 j) = arrA m c (ix3 s 0 C) := by
  blk_ext [iblk, idx t]

theorem blk3_at (t : Fin cfg0.N) (j : Fin 1024) (s : Fin 5) (C : Fin 4096) (hs : s.val = t.val % 20 / 4) (hC : C.val = t.val % 20 % 4 * 1024 + j.val) :
    (iblk m c 3 t : FVec Ideal S1x1x1024 .f32) (ix3 0 0 j) = arrB m c (ix3 s 0 C) := by
  blk_ext [iblk, idx t]

/-- The product at a grid point. -/
theorem dot_point (t : Fin cfg0.N) (r j : Fin 1024) (R : Fin 17408) (J : Fin 20480) (hR : R.val = t.val / 20 * 1024 + r.val)
    (hJ : J.val = t.val % 20 * 1024 + j.val) :
    k0_pay2 (F := Ideal) (iblk m c 0 t) (iblk m c 1 t) (ix2 r j) = proj (lat m c) (ctx m c) (weights m c) R J := by
  refine (dot_at _ _ r j).trans ?_
  unfold proj
  refine Finset.sum_congr rfl fun k _ => ?_
  rw [blk0_at m c t r k R hR, blk1_at m c t k j J hJ]

/-- The lower bounds are between zero and one. -/
def Bounds : Prop := ∀ i, 0 ≤ lower m c i ∧ lower m c i ≤ 1

/-- The gate's logarithm, from bounds between zero and one. -/
theorem gate_eq (h : Bounds m c) (z : EReal) (i : S2x4096.Idx) : stable z (1 - lower m c i) (lower m c i) = summed z (lower m c i) := by
  obtain ⟨h0, h1⟩ := h i
  have hb : (lower m c i : EReal) ≠ ⊥ := fun e => by rw [e] at h0; exact absurd h0 (by simp)
  have ht : (lower m c i : EReal) ≠ ⊤ := fun e => by
    rw [e, top_le_iff] at h1
    exact EReal.coe_ne_top 1 h1
  obtain ⟨l, hl⟩ : ∃ l : ℝ, (lower m c i : EReal) = (l : EReal) := ⟨_, (EReal.coe_toReal ht hb).symm⟩
  rw [hl] at h0 h1 ⊢
  exact stable_eq z (EReal.coe_nonneg.mp h0) (by rw [← EReal.coe_one] at h1; exact EReal.coe_le_coe_iff.mp h1)

/-- An index of a block of the result, from its row and column. -/
theorem eq_block (y : S1x1024x1024.Idx) : y = ix3 (0 : Fin 1) (y 1) (y 2) := by
  have e : y 0 = (0 : Fin 1) := Fin.ext (by have := (y 0).isLt; show (y 0 : ℕ) = 0; change (y 0 : ℕ) < 1 at this; omega)
  exact (eq_ix3 y).trans (by rw [e]; rfl)

/-- An entry of the block that a grid point of each case writes. -/
theorem point_A (t : Fin cfg0.N) (y : S1x1024x1024.Idx) (i : S5x17408x4096.Idx) (ht : t.val % 20 ≤ 3) (h0 : (i 0 : ℕ) = t.val % 20 / 4)
    (h1 : (i 1 : ℕ) = t.val / 20 * 1024 + (y 1).val) (h2 : (i 2 : ℕ) = t.val % 20 % 4 * 1024 + (y 2).val) :
    k0_pay3 (F := Ideal) (iblk m c 0 t) (iblk m c 1 t) y = result m c i := by
  obtain ⟨r, j, rfl⟩ : ∃ r j : Fin 1024, y = ix3 0 r j := ⟨y 1, y 2, eq_block y⟩
  have hJ : (i 0 : ℕ) * 4096 + (i 2 : ℕ) = t.val % 20 * 1024 + j.val := by
    have h2' : (i 2 : ℕ) = t.val % 20 % 4 * 1024 + j.val := h2
    omega
  have hb : (i 0 : ℕ) * 4096 + (i 2 : ℕ) < 20480 := by omega
  refine (silu_at _ _ r j).trans ?_
  unfold result spec act
  rw [if_pos (by omega), dot_point m c t r j (i 1) ⟨(i 0 : ℕ) * 4096 + (i 2 : ℕ), hb⟩ h1 hJ]

theorem point_B (t : Fin cfg0.N) (y : S1x1024x1024.Idx) (i : S5x17408x4096.Idx)
    (ht : t.val % 20 = 4 ∨ t.val % 20 = 5 ∨ t.val % 20 = 6 ∨ t.val % 20 = 7 ∨ t.val % 20 = 16 ∨ t.val % 20 = 17 ∨ t.val % 20 = 18 ∨ t.val % 20 = 19)
    (h0 : (i 0 : ℕ) = t.val % 20 / 4)
    (h1 : (i 1 : ℕ) = t.val / 20 * 1024 + (y 1).val) (h2 : (i 2 : ℕ) = t.val % 20 % 4 * 1024 + (y 2).val) :
    k0_pay4 (F := Ideal) (iblk m c 0 t) (iblk m c 1 t) y = result m c i := by
  obtain ⟨r, j, rfl⟩ : ∃ r j : Fin 1024, y = ix3 0 r j := ⟨y 1, y 2, eq_block y⟩
  have hJ : (i 0 : ℕ) * 4096 + (i 2 : ℕ) = t.val % 20 * 1024 + j.val := by
    have h2' : (i 2 : ℕ) = t.val % 20 % 4 * 1024 + j.val := h2
    omega
  have hb : (i 0 : ℕ) * 4096 + (i 2 : ℕ) < 20480 := by omega
  refine (plain_at _ _ r j).trans ?_
  unfold result spec act
  rw [if_neg (by omega), if_neg (by omega), if_neg (by omega),
    dot_point m c t r j (i 1) ⟨(i 0 : ℕ) * 4096 + (i 2 : ℕ), hb⟩ h1 hJ]

theorem point_C (h : Bounds m c) (t : Fin cfg0.N) (y : S1x1024x1024.Idx) (i : S5x17408x4096.Idx)
    (ht : 8 ≤ t.val % 20 ∧ t.val % 20 ≤ 15)
    (h0 : (i 0 : ℕ) = t.val % 20 / 4)
    (h1 : (i 1 : ℕ) = t.val / 20 * 1024 + (y 1).val) (h2 : (i 2 : ℕ) = t.val % 20 % 4 * 1024 + (y 2).val) :
    k0_pay1 (F := Ideal) (k0_pay2 (F := Ideal) (iblk m c 0 t) (iblk m c 1 t)) (iblk m c 3 t) (iblk m c 2 t) y = result m c i := by
  obtain ⟨r, j, rfl⟩ : ∃ r j : Fin 1024, y = ix3 0 r j := ⟨y 1, y 2, eq_block y⟩
  have hJ : (i 0 : ℕ) * 4096 + (i 2 : ℕ) = t.val % 20 * 1024 + j.val := by
    have h2' : (i 2 : ℕ) = t.val % 20 % 4 * 1024 + j.val := h2
    omega
  have hb : (i 0 : ℕ) * 4096 + (i 2 : ℕ) < 20480 := by omega
  refine (gate_at _ _ _ r j).trans ?_
  unfold result spec act
  rw [dot_point m c t r j (i 1) ⟨(i 0 : ℕ) * 4096 + (i 2 : ℕ), hb⟩ h1 hJ,
    if_neg (by omega)]
  rcases Nat.lt_or_ge (t.val % 20) 12 with hl | hl
  · rw [if_pos (by omega), blk2_at m c t j (2 : Fin 5) (i 2) (show 2 = _ by omega) h2, blk3_at m c t j (2 : Fin 5) (i 2) (show 2 = _ by omega) h2]
    refine (congrArg₂ (stable _) (arrB_at2 m c _) (arrA_at2 m c _)).trans ?_
    exact gate_eq m c h _ _
  · rw [if_neg (by omega), if_pos (by omega), blk2_at m c t j (3 : Fin 5) (i 2) (show 3 = _ by omega) h2, blk3_at m c t j (3 : Fin 5) (i 2) (show 3 = _ by omega) h2]
    refine (congrArg₂ (stable _) (arrB_at3 m c _) (arrA_at3 m c _)).trans ?_
    exact gate_eq m c h _ _

/-- The array after the run. -/
theorem final (h : Bounds m c) : (dats m 0 c).arrAt 4 cfg0.N = result m c := by
  refine (dats m 0 c).arrAt_eq_of_covers 4 _ (by decide +kernel) fun t hf y => ?_
  blk_simp
  rw [after0_4]
  by_cases h0 : t.val % 20 ≤ 3
  · rw [outsAt0_A m c t h0 (by omega) (by omega)]
    frame_out
    exact point_A m c t y _ h0 (by blk_simp [idx t]) (by blk_simp [idx t]) (by blk_simp [idx t])
  by_cases h1 : 8 ≤ t.val % 20 ∧ t.val % 20 ≤ 15
  · rw [outsAt0_C m c t h0 (by omega) h1]
    frame_out
    exact point_C m c h t y _ h1 (by blk_simp [idx t]) (by blk_simp [idx t]) (by blk_simp [idx t])
  · rw [outsAt0_B m c t h0 (by omega) h1]
    frame_out
    exact point_B m c t y _ (by omega) (by blk_simp [idx t]) (by blk_simp [idx t]) (by blk_simp [idx t])

end Cert.Kernel4Ideal.Project

namespace Cert.Reference4Ideal.Project

open Idealize.ShloMosaic Idealize.ShloMosaic.TcCoe Idealize.SL.Sem Cert.Reference4Ideal Cert.Reference4Ideal.Gen Cert.Reference4Ideal.Value
open Cert.Project Cert.Rows Cert.Gate

section
variable (V0 : Valuation τ sig (Elt Ideal))

abbrev lat : FVec Ideal S4x4096x4096 .f32 := V0 (Proc.devRef .tc main_arg0)
abbrev ctx : FVec Ideal S4x256x4096 .f32 := V0 (Proc.devRef .tc main_arg1)
abbrev weights : FVec Ideal S2x4096x20480 .f32 := V0 (Proc.devRef .tc main_arg2)
abbrev lower : FVec Ideal S2x4096 .f32 := V0 (Proc.devRef .tc main_arg3)

/-- The products of the latent rows and of the context rows. -/
abbrev latP : FVec Ideal S4x4096x20480 .f32 := res_main_v5 (F := Ideal) V0
abbrev ctxP : FVec Ideal S4x256x20480 .f32 := res_main_v69 (F := Ideal) V0

/-- Their entries. -/
theorem lat_at (b : Fin 4) (r : Fin 4096) (J : Fin 20480) :
    res_main_v5 (F := Ideal) V0 (ix3 b r J) = ∑ k : Fin 4096, lat V0 (ix3 b r k) * weights V0 (ix3 0 k J) := by
  pointwise [res_main_v5]

theorem ctx_at (b : Fin 4) (r : Fin 256) (J : Fin 20480) :
    res_main_v69 (F := Ideal) V0 (ix3 b r J) = ∑ k : Fin 4096, ctx V0 (ix3 b r k) * weights V0 (ix3 0 k J) := by
  pointwise [res_main_v69]

/-- A joined row's product, from the two. -/
theorem proj_at (R : Fin 17408) (J : Fin 20480) : proj (lat V0) (ctx V0) (weights V0) R J =
    if h : R.val < 16384 then res_main_v5 (F := Ideal) V0 (ix3 (⟨R.val / 4096, by omega⟩ : Fin 4) (⟨R.val % 4096, by omega⟩ : Fin 4096) J)
    else res_main_v69 (F := Ideal) V0 (ix3 (⟨(R.val - 16384) / 256, by omega⟩ : Fin 4) (⟨(R.val - 16384) % 256, by omega⟩ : Fin 256) J) := by
  unfold proj
  rw [dot_joined]
  split
  · rw [lat_at]
  · rw [ctx_at]

/-- The second summand of the gate, of the latent rows forward and backward and of the context rows. -/
theorem v19_at (b : Fin 4) (r : Fin 4096) (C : Fin 4096) : res_main_v19 (F := Ideal) V0 (ix3 b r C) =
    Ideal.log1p (-lower V0 (ix2 0 C)) + -logAdd (-latP V0 (ix3 b r (⟨8192 + C.val, by omega⟩ : Fin 20480))) 0 := by
  unfold logAdd
  pointwise [res_main_v19, res_main_call1_call0_v3, res_main_call1_call0_cst, res_main_call1_v0, res_main_v2]
  simp

theorem v41_at (b : Fin 4) (r : Fin 4096) (C : Fin 4096) : res_main_v41 (F := Ideal) V0 (ix3 b r C) =
    Ideal.log1p (-lower V0 (ix2 1 C)) + -logAdd (-latP V0 (ix3 b r (⟨12288 + C.val, by omega⟩ : Fin 20480))) 0 := by
  unfold logAdd
  pointwise [res_main_v41, res_main_call2_call0_v3, res_main_call2_call0_cst, res_main_call2_v0, res_main_v2]
  simp

theorem v83_at (b : Fin 4) (r : Fin 256) (C : Fin 4096) : res_main_v83 (F := Ideal) V0 (ix3 b r C) =
    Ideal.log1p (-lower V0 (ix2 0 C)) + -logAdd (-ctxP V0 (ix3 b r (⟨8192 + C.val, by omega⟩ : Fin 20480))) 0 := by
  unfold logAdd
  pointwise [res_main_v83, res_main_call4_call0_v3, res_main_call4_call0_cst, res_main_call4_v0, res_main_v2]
  simp

theorem v105_at (b : Fin 4) (r : Fin 256) (C : Fin 4096) : res_main_v105 (F := Ideal) V0 (ix3 b r C) =
    Ideal.log1p (-lower V0 (ix2 1 C)) + -logAdd (-ctxP V0 (ix3 b r (⟨12288 + C.val, by omega⟩ : Fin 20480))) 0 := by
  unfold logAdd
  pointwise [res_main_v105, res_main_call5_call0_v3, res_main_call5_call0_cst, res_main_call5_v0, res_main_v2]
  simp

/-- The reference's five sections. -/
theorem sec0 (R : Fin 17408) (C : Fin 4096) :
    res_main_v131 (F := Ideal) V0 (ix3 (0 : Fin 5) R C) = act (lower V0) 0 C (proj (lat V0) (ctx V0) (weights V0) R ⟨C.val, by omega⟩) := by
  show _ = proj _ _ _ _ _ * Ideal.div 1 (1 + Ideal.exp (-proj _ _ _ _ _))
  rw [proj_at]
  pointwise [res_main_v131, res_main_v6, res_main_v70]
  split <;> rfl

theorem sec1 (R : Fin 17408) (C : Fin 4096) :
    res_main_v131 (F := Ideal) V0 (ix3 (1 : Fin 5) R C) = act (lower V0) 1 C (proj (lat V0) (ctx V0) (weights V0) R ⟨4096 + C.val, by omega⟩) := by
  show _ = proj _ _ _ _ _
  rw [proj_at]
  pointwise [res_main_v131]

theorem sec2 (R : Fin 17408) (C : Fin 4096) :
    res_main_v131 (F := Ideal) V0 (ix3 (2 : Fin 5) R C) = act (lower V0) 2 C (proj (lat V0) (ctx V0) (weights V0) R ⟨8192 + C.val, by omega⟩) := by
  show _ = summed _ _
  rw [proj_at]
  pointwise [res_main_v131, res_main_v24, res_main_v88, res_main_v20, res_main_v84, res_main_v0]
  split
  · rw [if_neg (not_not.mpr rfl), v19_at]
    rfl
  · rw [if_neg (not_not.mpr rfl), v83_at]
    rfl

theorem sec3 (R : Fin 17408) (C : Fin 4096) :
    res_main_v131 (F := Ideal) V0 (ix3 (3 : Fin 5) R C) = act (lower V0) 3 C (proj (lat V0) (ctx V0) (weights V0) R ⟨12288 + C.val, by omega⟩) := by
  show _ = summed _ _
  rw [proj_at]
  pointwise [res_main_v131, res_main_v46, res_main_v110, res_main_v42, res_main_v106, res_main_v0]
  split
  · rw [if_neg (not_not.mpr rfl), v41_at]
    rfl
  · rw [if_neg (not_not.mpr rfl), v105_at]
    rfl

theorem sec4 (R : Fin 17408) (C : Fin 4096) :
    res_main_v131 (F := Ideal) V0 (ix3 (4 : Fin 5) R C) = act (lower V0) 4 C (proj (lat V0) (ctx V0) (weights V0) R ⟨16384 + C.val, by omega⟩) := by
  show _ = proj _ _ _ _ _
  rw [proj_at]
  pointwise [res_main_v131]

/-- The reference's array. -/
theorem res_eq : (res_main_v131 (F := Ideal) V0 : FVec Ideal S5x17408x4096 .f32) = spec (lat V0) (ctx V0) (weights V0) (lower V0) := by
  funext i
  obtain ⟨s, R, C, rfl⟩ : ∃ (s : Fin 5) (R : Fin 17408) (C : Fin 4096), i = ix3 s R C := ⟨i 0, i 1, i 2, eq_ix3 i⟩
  have hs := s.isLt
  rcases (by omega : s.val = 0 ∨ s.val = 1 ∨ s.val = 2 ∨ s.val = 3 ∨ s.val = 4) with h | h | h | h | h
  · obtain rfl : s = 0 := Fin.ext h
    exact (sec0 V0 R C).trans (congrArg (fun J => act (lower V0) 0 C (proj (lat V0) (ctx V0) (weights V0) R J)) (Fin.ext (show C.val = 0 * 4096 + C.val by omega)))
  · obtain rfl : s = 1 := Fin.ext h
    exact (sec1 V0 R C).trans (congrArg (fun J => act (lower V0) 1 C (proj (lat V0) (ctx V0) (weights V0) R J)) (Fin.ext (show 4096 + C.val = 1 * 4096 + C.val by omega)))
  · obtain rfl : s = 2 := Fin.ext h
    exact (sec2 V0 R C).trans (congrArg (fun J => act (lower V0) 2 C (proj (lat V0) (ctx V0) (weights V0) R J)) (Fin.ext (show 8192 + C.val = 2 * 4096 + C.val by omega)))
  · obtain rfl : s = 3 := Fin.ext h
    exact (sec3 V0 R C).trans (congrArg (fun J => act (lower V0) 3 C (proj (lat V0) (ctx V0) (weights V0) R J)) (Fin.ext (show 12288 + C.val = 3 * 4096 + C.val by omega)))
  · obtain rfl : s = 4 := Fin.ext h
    exact (sec4 V0 R C).trans (congrArg (fun J => act (lower V0) 4 C (proj (lat V0) (ctx V0) (weights V0) R J)) (Fin.ext (show 16384 + C.val = 4 * 4096 + C.val by omega)))

end

/-- The reference's run leaves the five sections. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v131) = spec (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun r h c => ⟨(h c).1.trans (res_eq _), (h c).2⟩) (Cert.Reference4Ideal.Value.run (F := Ideal) m ρ)

end Cert.Reference4Ideal.Project

end
-- ==== Proof.Bounds.lean ====
/- What the precondition on the lower bounds says. -/
module

public import proofs.«01_k».proof.Pre_bounds
public import Idealize.ShloMosaic.Lib.ReduceAll
public import Idealize.ShloMosaic.Lib.Pointwise

@[expose] public section

set_option maxRecDepth 16384

noncomputable section

namespace Cert.Bounds

open Idealize.ShloMosaic Cert.Pre_bounds Cert.Pre_bounds.Facts

/-- Both bits of a conjunction that is 1. -/
theorem and_both {a b : BitVec 1} (h : IntOp.andi a b = 1#1) : a = 1#1 ∧ b = 1#1 := by
  revert a b; decide

/-- The patterns of zero and one. -/
theorem bits_zero : constant (F := Ideal) S_ .f32 0x00000000#32 ix0 = (0 : EReal) := by pointwise
theorem bits_one : constant (F := Ideal) S_ .f32 0x3F800000#32 ix0 = (1 : EReal) := by pointwise

/-- The two comparisons, as order. -/
theorem le_of_oge {x y : EReal} (h : Ideal.cmp .oge x y = 1#1) : y ≤ x := by
  by_contra hn
  simp [Ideal.cmp, hn] at h

theorem le_of_ole {x y : EReal} (h : Ideal.cmp .ole x y = 1#1) : x ≤ y := by
  by_contra hn
  simp [Ideal.cmp, hn] at h

variable [Cert.Pre_bounds.Facts]

/-- Bounds between zero and one, from the precondition. -/
theorem of_pre (A0 : FVec Ideal S4x4096x4096 .f32) (A1 : FVec Ideal S4x256x4096 .f32) (A2 : FVec Ideal S2x4096x20480 .f32)
    (A3 : FVec Ideal S2x4096 .f32) (h : Cert.Pre_bounds.fn (F := Ideal) A0 A1 A2 A3 = fun _ => 1#1) (i : S2x4096.Idx) :
    0 ≤ A3 i ∧ A3 i ≤ 1 := by
  have h' := congrFun h ix0
  unfold Cert.Pre_bounds.fn at h'
  obtain ⟨h0, h1⟩ := and_both (Host.reduce_andi_all _ _ _ _ _ h' i)
  refine ⟨?_, ?_⟩
  · rw [← bits_zero]
    exact le_of_oge h0
  · rw [← bits_one]
    exact le_of_ole h1

end Cert.Bounds

end
-- ==== Proof.Out.lean ====
/- A mixer's output projection: the array the call leaves is the product of the mixed rows with the layer's output
   weights, and so is the plain reference's. -/
module

public import proofs.«01_k».proof.Proof.Gen.Kernel5Ideal.Value
public import proofs.«01_k».proof.Proof.Gen.Reference5Ideal.Run
public import proofs.«01_k».proof.Proof.Rows
public import Idealize.ShloMosaic.Lib.Claim
public import Idealize.ShloMosaic.Lib.Pipeline.ValueKit
public import Idealize.ShloMosaic.Lib.Pointwise

@[expose] public section

set_option maxRecDepth 16384

noncomputable section

namespace Cert.Out

open Idealize.ShloMosaic Cert.Rows

/-- The product of the joined rows with the first layer's weights. -/
def spec (a : FVec Ideal ⟨3, ![4, 4096, 4096]⟩ .f32) (b : FVec Ideal ⟨3, ![4, 256, 4096]⟩ .f32) (w : FVec Ideal ⟨3, ![2, 4096, 4096]⟩ .f32) :
    FVec Ideal ⟨2, ![17408, 4096]⟩ .f32 := fun i => ∑ k : Fin 4096, joined a b (i 0) k * w (ix3 0 k (i 1))

/-- The same with the latent rows and the context rows apart. -/
theorem spec_at (a : FVec Ideal ⟨3, ![4, 4096, 4096]⟩ .f32) (b : FVec Ideal ⟨3, ![4, 256, 4096]⟩ .f32) (w : FVec Ideal ⟨3, ![2, 4096, 4096]⟩ .f32)
    (R : Fin 17408) (C : Fin 4096) : spec a b w (ix2 R C) =
      if h : R.val < 16384 then ∑ k : Fin 4096, a (ix3 ⟨R.val / 4096, by omega⟩ ⟨R.val % 4096, by omega⟩ k) * w (ix3 0 k C)
        else ∑ k : Fin 4096, b (ix3 ⟨(R.val - 16384) / 256, by omega⟩ ⟨(R.val - 16384) % 256, by omega⟩ k) * w (ix3 0 k C) :=
  dot_joined a b (fun k => w (ix3 0 k C)) R

end Cert.Out

namespace Cert.Kernel5Ideal.Out

open Idealize.ShloMosaic Idealize.ShloMosaic.TcCoe Idealize.SL.Sem Cert.Kernel5Ideal Cert.Kernel5Ideal.Gen Cert.Out Cert.Rows

/-- One block: a row of the first block by a column of the second. -/
theorem pay_at (a : FVec Ideal S1024x4096 .bf16) (b : FVec Ideal S1x4096x1024 .bf16) (r : Fin 1024) (j : Fin 1024) :
    k0_pay1 (F := Ideal) a b (ix2 r j) = ∑ k : Fin 4096, a (ix2 r k) * b (ix3 0 k j) := by
  pointwise [k0_pay1]

variable (m : (ℓ : Loc nD τ sig) → Buf (Elt Ideal) ℓ) (c : Dev nD)

/-- The arguments, and the rows and weights as the call reads them. -/
abbrev lat : FVec Ideal S4x4096x4096 .f32 := m ((c : Thread nD τ).loc main_arg0)
abbrev ctx : FVec Ideal S4x256x4096 .f32 := m ((c : Thread nD τ).loc main_arg1)
abbrev weights : FVec Ideal S2x4096x4096 .f32 := m ((c : Thread nD τ).loc main_arg2)
abbrev arrH : FVec Ideal S17408x4096 .bf16 := V m c main_v3
abbrev arrW : FVec Ideal S2x4096x4096 .bf16 := V m c main_v4

/-- The rows the call reads are the arguments' joined. -/
theorem arrH_at (R : Fin 17408) (k : Fin 4096) : arrH m c (ix2 R k) = joined (lat m c) (ctx m c) R k := by
  unfold arrH V joined
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise
  after_results_simp
  pointwise

/-- The weights the call reads are the argument's. -/
theorem arrW_eq (i : S2x4096x4096.Idx) : arrW m c i = weights m c i := by
  unfold arrW V
  simp only [hostOps0, List.flatten_cons, List.flatten_nil, List.append_nil, List.cons_append, List.nil_append]
  after_results_simp
  rfl

/-- The array the call leaves. -/
def result : FVec Ideal S17408x4096 .f32 := spec (lat m c) (ctx m c) (weights m c)

/-- The block of every window at every grid point. -/
theorem idx : ∀ t : Fin cfg0.N, win0_0.index t = ![t.val / 4, 0] ∧ win0_1.index t = ![0, 0, t.val % 4] ∧ win0_2.index t = ![t.val / 4, t.val % 4] :=
  (by decide +kernel : ∀ t : Fin grid0.N, win0_0.index t = ![t.val / 4, 0] ∧ win0_1.index t = ![0, 0, t.val % 4] ∧ win0_2.index t = ![t.val / 4, t.val % 4])

/-- The staged rows. -/
theorem blk0_at (t : Fin cfg0.N) (r : Fin 1024) (k : Fin 4096) (R : Fin 17408) (hR : R.val = t.val / 4 * 1024 + r.val) :
    (iblk m c 0 t : FVec Ideal S1024x4096 .bf16) (ix2 r k) = joined (lat m c) (ctx m c) R k := by
  rw [← arrH_at]
  blk_ext [iblk, idx t]

/-- The staged weights. -/
theorem blk1_at (t : Fin cfg0.N) (k : Fin 4096) (j : Fin 1024) (C : Fin 4096) (hC : C.val = t.val % 4 * 1024 + j.val) :
    (iblk m c 1 t : FVec Ideal S1x4096x1024 .bf16) (ix3 0 k j) = weights m c (ix3 0 k C) := by
  rw [← arrW_eq]
  blk_ext [iblk, idx t]

/-- An entry of the block that a grid point writes. -/
theorem point (t : Fin cfg0.N) (y : S1024x1024.Idx) (i : S17408x4096.Idx) (h0 : (i 0 : ℕ) = t.val / 4 * 1024 + (y 0).val)
    (h1 : (i 1 : ℕ) = t.val % 4 * 1024 + (y 1).val) :
    k0_pay1 (F := Ideal) (iblk m c 0 t) (iblk m c 1 t) y = result m c i := by
  rw [show y = ix2 (y 0) (y 1) from eq_ix2 y]
  refine (pay_at _ _ (y 0) (y 1)).trans ?_
  unfold result spec
  refine Finset.sum_congr rfl fun k _ => ?_
  rw [blk0_at m c t (y 0) k (i 0) h0, blk1_at m c t k (y 1) (i 1) h1]

/-- The array after the run. -/
theorem final : (dats m 0 c).arrAt 2 cfg0.N = result m c := by
  refine (dats m 0 c).arrAt_eq_of_covers 2 _ (by decide +kernel) fun t hf y => ?_
  blk_simp
  rw [after0_2]
  frame_out
  exact point m c t y _ (by blk_simp [idx t]) (by blk_simp [idx t])

end Cert.Kernel5Ideal.Out

namespace Cert.Reference5Ideal.Out

open Idealize.ShloMosaic Idealize.ShloMosaic.TcCoe Idealize.SL.Sem Cert.Reference5Ideal Cert.Reference5Ideal.Gen Cert.Out

/-- The reference's run leaves the same product. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v8) = spec (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run _ _ _).mono (fun r h c => ⟨(h c).1.trans (funext fun i => ?_), (h c).2⟩) (Cert.Reference5Ideal.Value.run (F := Ideal) m ρ)
  obtain ⟨R, C, rfl⟩ : ∃ (R : Fin 17408) (C : Fin 4096), i = ix2 R C := ⟨i 0, i 1, eq_ix2 i⟩
  rw [spec_at]
  pointwise

end Cert.Reference5Ideal.Out

end
-- ==== Proof.Latents.lean ====
/- The down projection to the query and key latents: the array the call leaves is the product of the normed rows with
   the first 1536 columns of the layer's weights, and so is the plain reference's. -/
module

public import proofs.«01_k».proof.Proof.Gen.Kernel6Ideal.Value
public import proofs.«01_k».proof.Proof.Gen.Reference6Ideal.Run
public import proofs.«01_k».proof.Proof.Rows
public import Idealize.ShloMosaic.Lib.Claim
public import Idealize.ShloMosaic.Lib.Pipeline.ValueKit
public import Idealize.ShloMosaic.Lib.Pointwise

@[expose] public section

set_option maxRecDepth 100000

noncomputable section

namespace Cert.Latents

open Idealize.ShloMosaic Cert.Rows

/-- The product of the joined rows with the first 1536 columns of the first layer's weights. -/
def spec (a : FVec Ideal ⟨3, ![4, 4096, 4096]⟩ .f32) (b : FVec Ideal ⟨3, ![4, 256, 4096]⟩ .f32) (w : FVec Ideal ⟨3, ![2, 4096, 1600]⟩ .f32) :
    FVec Ideal ⟨2, ![17408, 1536]⟩ .f32 := fun i => ∑ k : Fin 4096, joined a b (i 0) k * w (ix3 0 k ⟨(i 1).val, Nat.lt_trans (i 1).isLt (by decide)⟩)

/-- The same with the latent rows and the context rows apart. -/
theorem spec_at (a : FVec Ideal ⟨3, ![4, 4096, 4096]⟩ .f32) (b : FVec Ideal ⟨3, ![4, 256, 4096]⟩ .f32) (w : FVec Ideal ⟨3, ![2, 4096, 1600]⟩ .f32)
    (R : Fin 17408) (C : Fin 1536) : spec a b w (ix2 R C) =
      if h : R.val < 16384 then ∑ k : Fin 4096, a (ix3 ⟨R.val / 4096, by omega⟩ ⟨R.val % 4096, by omega⟩ k) * w (ix3 0 k ⟨C.val, by omega⟩)
        else ∑ k : Fin 4096, b (ix3 ⟨(R.val - 16384) / 256, by omega⟩ ⟨(R.val - 16384) % 256, by omega⟩ k) * w (ix3 0 k ⟨C.val, by omega⟩) :=
  dot_joined a b (fun k => w (ix3 0 k ⟨C.val, by omega⟩)) R

end Cert.Latents

namespace Cert.Kernel6Ideal.Latents

open Idealize.ShloMosaic Idealize.ShloMosaic.TcCoe Idealize.SL.Sem Cert.Kernel6Ideal Cert.Kernel6Ideal.Gen Cert.Latents Cert.Rows

/-- One block: a row of the first block by a column of the second. -/
theorem pay_at (a : FVec Ideal S1024x4096 .bf16) (b : FVec Ideal S4096x512 .bf16) (r : Fin 1024) (j : Fin 512) :
    k0_pay1 (F := Ideal) a b (ix2 r j) = ∑ k : Fin 4096, a (ix2 r k) * b (ix2 k j) := by
  pointwise [k0_pay1]

variable (m : (ℓ : Loc nD τ sig) → Buf (Elt Ideal) ℓ) (c : Dev nD)

/-- The arguments, and the rows and weights as the call reads them. -/
abbrev lat : FVec Ideal S4x4096x4096 .f32 := m ((c : Thread nD τ).loc main_arg0)
abbrev ctx : FVec Ideal S4x256x4096 .f32 := m ((c : Thread nD τ).loc main_arg1)
abbrev weights : FVec Ideal S2x4096x1600 .f32 := m ((c : Thread nD τ).loc main_arg2)
abbrev arrH : FVec Ideal S17408x4096 .bf16 := V m c main_v3
abbrev arrW : FVec Ideal S4096x1536 .bf16 := V m c main_v7

/-- The rows the call reads are the arguments' joined. -/
theorem arrH_at (R : Fin 17408) (k : Fin 4096) : arrH m c (ix2 R k) = joined (lat m c) (ctx m c) R k := by
  unfold arrH V joined
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise
  after_results_simp
  pointwise

/-- The weights the call reads are the argument's. -/
theorem arrW_at (k : Fin 4096) (C : Fin 1536) : arrW m c (ix2 k C) = weights m c (ix3 0 k ⟨C.val, by omega⟩) := by
  unfold arrW V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise

/-- The array the call leaves. -/
def result : FVec Ideal S17408x1536 .f32 := spec (lat m c) (ctx m c) (weights m c)

/-- The block of every window at every grid point. -/
theorem idx : ∀ t : Fin cfg0.N, win0_0.index t = ![t.val / 3, 0] ∧ win0_1.index t = ![0, t.val % 3] ∧ win0_2.index t = ![t.val / 3, t.val % 3] :=
  (by decide +kernel : ∀ t : Fin grid0.N, win0_0.index t = ![t.val / 3, 0] ∧ win0_1.index t = ![0, t.val % 3] ∧ win0_2.index t = ![t.val / 3, t.val % 3])

/-- The staged rows. -/
theorem blk0_at (t : Fin cfg0.N) (r : Fin 1024) (k : Fin 4096) (R : Fin 17408) (hR : R.val = t.val / 3 * 1024 + r.val) :
    (iblk m c 0 t : FVec Ideal S1024x4096 .bf16) (ix2 r k) = joined (lat m c) (ctx m c) R k := by
  rw [← arrH_at]
  blk_ext [iblk, idx t]

/-- The staged weights. -/
theorem blk1_at (t : Fin cfg0.N) (k : Fin 4096) (j : Fin 512) (C : Fin 1536) (hC : C.val = t.val % 3 * 512 + j.val) :
    (iblk m c 1 t : FVec Ideal S4096x512 .bf16) (ix2 k j) = weights m c (ix3 0 k ⟨C.val, by omega⟩) := by
  rw [← arrW_at]
  blk_ext [iblk, idx t]

/-- An entry of the block that a grid point writes. -/
theorem point (t : Fin cfg0.N) (y : S1024x512.Idx) (i : S17408x1536.Idx) (h0 : (i 0 : ℕ) = t.val / 3 * 1024 + (y 0).val)
    (h1 : (i 1 : ℕ) = t.val % 3 * 512 + (y 1).val) :
    k0_pay1 (F := Ideal) (iblk m c 0 t) (iblk m c 1 t) y = result m c i := by
  rw [show y = ix2 (y 0) (y 1) from eq_ix2 y]
  refine (pay_at _ _ (y 0) (y 1)).trans ?_
  unfold result spec
  refine Finset.sum_congr rfl fun k _ => ?_
  rw [blk0_at m c t (y 0) k (i 0) h0, blk1_at m c t k (y 1) (i 1) h1]

/-- The array after the run. -/
theorem final : (dats m 0 c).arrAt 2 cfg0.N = result m c := by
  refine (dats m 0 c).arrAt_eq_of_covers 2 _ (by decide +kernel) fun t hf y => ?_
  blk_simp
  rw [after0_2]
  frame_out
  exact point m c t y _ (by blk_simp [idx t]) (by blk_simp [idx t])

end Cert.Kernel6Ideal.Latents

namespace Cert.Reference6Ideal.Latents

open Idealize.ShloMosaic Idealize.ShloMosaic.TcCoe Idealize.SL.Sem Cert.Reference6Ideal Cert.Reference6Ideal.Gen Cert.Latents

/-- The reference's run leaves the same product. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v10) = spec (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run _ _ _).mono (fun r h c => ⟨(h c).1.trans (funext fun i => ?_), (h c).2⟩) (Cert.Reference6Ideal.Value.run (F := Ideal) m ρ)
  obtain ⟨R, C, rfl⟩ : ∃ (R : Fin 17408) (C : Fin 1536), i = ix2 R C := ⟨i 0, i 1, eq_ix2 i⟩
  rw [spec_at]
  pointwise

end Cert.Reference6Ideal.Latents

end
-- ==== Proof.KeysValues.lean ====
/- The up projection to keys and values: the array the call leaves is the product of the normed latents with the layer's
   weights, and so is the plain reference's. -/
module

public import proofs.«01_k».proof.Proof.Gen.Kernel7Ideal.Value
public import proofs.«01_k».proof.Proof.Gen.Reference7Ideal.Run
public import proofs.«01_k».proof.Proof.Rows
public import Idealize.ShloMosaic.Lib.Claim
public import Idealize.ShloMosaic.Lib.Pipeline.ValueKit
public import Idealize.ShloMosaic.Lib.Pointwise

@[expose] public section

set_option maxRecDepth 16384

noncomputable section

namespace Cert.KeysValues

open Idealize.ShloMosaic Cert.Rows

/-- The product of the joined latents with the first layer's weights. -/
def spec (a : FVec Ideal ⟨3, ![4, 4096, 512]⟩ .f32) (b : FVec Ideal ⟨3, ![4, 256, 512]⟩ .f32) (w : FVec Ideal ⟨3, ![2, 512, 8192]⟩ .f32) :
    FVec Ideal ⟨2, ![17408, 8192]⟩ .bf16 := fun i => ∑ k : Fin 512, joined a b (i 0) k * w (ix3 0 k (i 1))

/-- The same with the latent rows and the context rows apart. -/
theorem spec_at (a : FVec Ideal ⟨3, ![4, 4096, 512]⟩ .f32) (b : FVec Ideal ⟨3, ![4, 256, 512]⟩ .f32) (w : FVec Ideal ⟨3, ![2, 512, 8192]⟩ .f32)
    (R : Fin 17408) (C : Fin 8192) : spec a b w (ix2 R C) =
      if h : R.val < 16384 then ∑ k : Fin 512, a (ix3 ⟨R.val / 4096, by omega⟩ ⟨R.val % 4096, by omega⟩ k) * w (ix3 0 k C)
        else ∑ k : Fin 512, b (ix3 ⟨(R.val - 16384) / 256, by omega⟩ ⟨(R.val - 16384) % 256, by omega⟩ k) * w (ix3 0 k C) :=
  dot_joined a b (fun k => w (ix3 0 k C)) R

end Cert.KeysValues

namespace Cert.Kernel7Ideal.KeysValues

open Idealize.ShloMosaic Idealize.ShloMosaic.TcCoe Idealize.SL.Sem Cert.Kernel7Ideal Cert.Kernel7Ideal.Gen Cert.KeysValues Cert.Rows

/-- One block: a row of the first block by a column of the second. -/
theorem pay_at (a : FVec Ideal S1024x512 .bf16) (b : FVec Ideal S512x1024 .bf16) (r : Fin 1024) (j : Fin 1024) :
    k0_pay1 (F := Ideal) a b (ix2 r j) = ∑ k : Fin 512, a (ix2 r k) * b (ix2 k j) := by
  pointwise [k0_pay1]

variable (m : (ℓ : Loc nD τ sig) → Buf (Elt Ideal) ℓ) (c : Dev nD)

/-- The arguments, and the rows and weights as the call reads them. -/
abbrev lat : FVec Ideal S4x4096x512 .f32 := m ((c : Thread nD τ).loc main_arg0)
abbrev ctx : FVec Ideal S4x256x512 .f32 := m ((c : Thread nD τ).loc main_arg1)
abbrev weights : FVec Ideal S2x512x8192 .f32 := m ((c : Thread nD τ).loc main_arg2)
abbrev arrH : FVec Ideal S17408x512 .bf16 := V m c main_v3
abbrev arrW : FVec Ideal S512x8192 .bf16 := V m c main_v6

/-- The rows the call reads are the arguments' joined. -/
theorem arrH_at (R : Fin 17408) (k : Fin 512) : arrH m c (ix2 R k) = joined (lat m c) (ctx m c) R k := by
  unfold arrH V joined
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise
  after_results_simp
  pointwise

/-- The weights the call reads are the argument's. -/
theorem arrW_at (k : Fin 512) (C : Fin 8192) : arrW m c (ix2 k C) = weights m c (ix3 0 k C) := by
  unfold arrW V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise

/-- The array the call leaves. -/
def result : FVec Ideal S17408x8192 .bf16 := spec (lat m c) (ctx m c) (weights m c)

/-- The block of every window at every grid point. -/
theorem idx : ∀ t : Fin cfg0.N, win0_0.index t = ![t.val / 8, 0] ∧ win0_1.index t = ![0, t.val % 8] ∧ win0_2.index t = ![t.val / 8, t.val % 8] :=
  (by decide +kernel : ∀ t : Fin grid0.N, win0_0.index t = ![t.val / 8, 0] ∧ win0_1.index t = ![0, t.val % 8] ∧ win0_2.index t = ![t.val / 8, t.val % 8])

/-- The staged rows. -/
theorem blk0_at (t : Fin cfg0.N) (r : Fin 1024) (k : Fin 512) (R : Fin 17408) (hR : R.val = t.val / 8 * 1024 + r.val) :
    (iblk m c 0 t : FVec Ideal S1024x512 .bf16) (ix2 r k) = joined (lat m c) (ctx m c) R k := by
  rw [← arrH_at]
  blk_ext [iblk, idx t]

/-- The staged weights. -/
theorem blk1_at (t : Fin cfg0.N) (k : Fin 512) (j : Fin 1024) (C : Fin 8192) (hC : C.val = t.val % 8 * 1024 + j.val) :
    (iblk m c 1 t : FVec Ideal S512x1024 .bf16) (ix2 k j) = weights m c (ix3 0 k C) := by
  rw [← arrW_at]
  blk_ext [iblk, idx t]

/-- An entry of the block that a grid point writes. -/
theorem point (t : Fin cfg0.N) (y : S1024x1024.Idx) (i : S17408x8192.Idx) (h0 : (i 0 : ℕ) = t.val / 8 * 1024 + (y 0).val)
    (h1 : (i 1 : ℕ) = t.val % 8 * 1024 + (y 1).val) :
    k0_pay1 (F := Ideal) (iblk m c 0 t) (iblk m c 1 t) y = result m c i := by
  rw [show y = ix2 (y 0) (y 1) from eq_ix2 y]
  refine (pay_at _ _ (y 0) (y 1)).trans ?_
  unfold result spec
  refine Finset.sum_congr rfl fun k _ => ?_
  rw [blk0_at m c t (y 0) k (i 0) h0, blk1_at m c t k (y 1) (i 1) h1]

/-- The array after the run. -/
theorem final : (dats m 0 c).arrAt 2 cfg0.N = result m c := by
  refine (dats m 0 c).arrAt_eq_of_covers 2 _ (by decide +kernel) fun t hf y => ?_
  blk_simp
  rw [after0_2]
  frame_out
  exact point m c t y _ (by blk_simp [idx t]) (by blk_simp [idx t])

end Cert.Kernel7Ideal.KeysValues

namespace Cert.Reference7Ideal.KeysValues

open Idealize.ShloMosaic Idealize.ShloMosaic.TcCoe Idealize.SL.Sem Cert.Reference7Ideal Cert.Reference7Ideal.Gen Cert.KeysValues

/-- The reference's run leaves the same product. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v9) = spec (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run _ _ _).mono (fun r h c => ⟨(h c).1.trans (funext fun i => ?_), (h c).2⟩) (Cert.Reference7Ideal.Value.run (F := Ideal) m ρ)
  obtain ⟨R, C, rfl⟩ : ∃ (R : Fin 17408) (C : Fin 8192), i = ix2 R C := ⟨i 0, i 1, eq_ix2 i⟩
  rw [spec_at]
  pointwise

end Cert.Reference7Ideal.KeysValues

end
-- ==== Proof.Rope.lean ====
/- The rotation of the rotary lanes: the angles of a token's position in the grid, the rotation as the plain reference writes
   it and as the kernel does, with a padding to 128 lanes. -/
module

public import Idealize.ShloMosaic.Lib.Claim
public import Idealize.ShloMosaic.Lib.Pointwise

@[expose] public section

set_option maxRecDepth 100000

noncomputable section

namespace Cert.Rope

open Idealize.ShloMosaic

/-- The sign of a word. -/
def sign (b : BitVec 32) : BitVec 32 := if b = 0 then 0 else if b.msb = true then -1 else 1

/-- A token's row in the grid of 64 columns: its number divided by 64, rounded down. -/
def row (t : ℕ) : BitVec 32 :=
  Scalar.select
    (IntOp.andi
      (IntOp.cmpi .ne (sign (BitVec.ofNat 32 t)) (sign 64#32))
      (IntOp.cmpi .ne (IntOp.remsi ArithUnit.host (BitVec.ofNat 32 t) 64#32) 0#32))
    (IntOp.subi (IntOp.divsi ArithUnit.host (BitVec.ofNat 32 t) 64#32) 1#32)
    (IntOp.divsi ArithUnit.host (BitVec.ofNat 32 t) 64#32)

/-- Its column: the remainder. -/
def col (t : ℕ) : BitVec 32 :=
  Scalar.select
    (IntOp.andi
      (IntOp.cmpi .ne (IntOp.cmpi .slt (IntOp.remsi ArithUnit.host (BitVec.ofNat 32 t) (Scalar.select (IntOp.cmpi .eq 64#32 0#32) (1#32) 64#32)) 0#32) (IntOp.cmpi .slt (Scalar.select (IntOp.cmpi .eq 64#32 0#32) (1#32) 64#32) 0#32))
      (IntOp.cmpi .ne (IntOp.remsi ArithUnit.host (BitVec.ofNat 32 t) (Scalar.select (IntOp.cmpi .eq 64#32 0#32) (1#32) 64#32)) 0#32))
    (IntOp.addi (IntOp.remsi ArithUnit.host (BitVec.ofNat 32 t) (Scalar.select (IntOp.cmpi .eq 64#32 0#32) (1#32) 64#32)) (Scalar.select (IntOp.cmpi .eq 64#32 0#32) (1#32) 64#32))
    (IntOp.remsi ArithUnit.host (BitVec.ofNat 32 t) (Scalar.select (IntOp.cmpi .eq 64#32 0#32) (1#32) 64#32))

/-- The frequency of a lane. -/
def freq (n : ℕ) : EReal :=
  Ideal.pow (Ideal.ofBits .f32 0x461C4000#32)
    (Ideal.div (-(Ideal.ofBits .f32 0x40000000#32 * FloatOps.sitofp (F := Ideal) .f32 (BitVec.ofNat 32 n))) (Ideal.ofBits .f32 0x42000000#32))

/-- The angle of a lane at a token: two groups of 16 lanes turn by the row, two by the column. -/
def angle (t l : ℕ) : EReal :=
  if _h1 : l < 16 then FloatOps.sitofp (F := Ideal) .f32 (row t) * freq l
  else if _h2 : l - 16 < 16 then FloatOps.sitofp (F := Ideal) .f32 (row t) * freq (l - 16)
  else if _h3 : l - 16 - 16 < 16 then FloatOps.sitofp (F := Ideal) .f32 (col t) * freq (l - 16 - 16)
  else FloatOps.sitofp (F := Ideal) .f32 (col t) * freq (l - 16 - 16 - 16)

/-- The lane's partner, negated for the first 16 of each 32. -/
def half (x : Fin 64 → EReal) (l : Fin 64) : EReal :=
  if h1 : l.val < 16 then -x ⟨16 + l.val, by omega⟩
  else if h2 : l.val - 16 < 16 then x ⟨l.val - 16, by omega⟩
  else if h3 : l.val - 16 - 16 < 16 then -x ⟨48 + (l.val - 16 - 16), by omega⟩
  else x ⟨32 + (l.val - 16 - 16 - 16), by omega⟩

/-- The rotation. -/
def rotated (x : Fin 64 → EReal) (t : ℕ) (l : Fin 64) : EReal := x l * Ideal.cos (angle t l) + half x l * Ideal.sin (angle t l)

/-- Whether a lane of 128 is among the first 16 of its 32, as the kernel computes it. -/
def mask (j : ℕ) : BitVec 1 :=
  IntOp.cmpi .slt
    (Scalar.select
      (IntOp.andi (IntOp.xori (IntOp.cmpi .slt (IntOp.remsi ArithUnit.vector (BitVec.ofNat 32 j) (Scalar.select (Scalar.cmpi .eq 32#32 0#32) 1#32 32#32)) 0#32) (Scalar.cmpi .slt (Scalar.select (Scalar.cmpi .eq 32#32 0#32) 1#32 32#32) 0#32)) (IntOp.cmpi .ne (IntOp.remsi ArithUnit.vector (BitVec.ofNat 32 j) (Scalar.select (Scalar.cmpi .eq 32#32 0#32) 1#32 32#32)) 0#32))
      (IntOp.addi (IntOp.remsi ArithUnit.vector (BitVec.ofNat 32 j) (Scalar.select (Scalar.cmpi .eq 32#32 0#32) 1#32 32#32)) (Scalar.select (Scalar.cmpi .eq 32#32 0#32) 1#32 32#32))
      (IntOp.remsi ArithUnit.vector (BitVec.ofNat 32 j) (Scalar.select (Scalar.cmpi .eq 32#32 0#32) 1#32 32#32)))
    16#32

theorem mask_eq : ∀ j : Fin 128, mask j.val = if j.val % 32 < 16 then 1#1 else 0#1 := by decide +kernel

/-- The kernel's partner of a lane: two rotations of all 128 lanes and a choice between them. -/
def turn (f : Fin 128 → EReal) (j : Fin 128) : EReal :=
  Scalar.select (mask j.val) (0 - f ⟨(j.val + 128 - 112) % 128, by omega⟩) (f ⟨(j.val + 128 - 16) % 128, by omega⟩)

/-- The 64 lanes padded with zeros. -/
def padded (x : Fin 64 → EReal) (j : Fin 128) : EReal := if h : j.val < 64 then x ⟨j.val, h⟩ else 0

/-- On the first 64 lanes the kernel's partner is the plain one. -/
theorem turn_padded (x : Fin 64 → EReal) (j : Fin 128) (h : j.val < 64) : turn (padded x) j = half x ⟨j.val, h⟩ := by
  unfold turn half padded
  rw [mask_eq]
  have hx : ∀ a b : Fin 64, a.val = b.val → x a = x b := fun a b hab => congrArg x (Fin.ext hab)
  by_cases h1 : j.val < 16
  · rw [if_pos (by omega), dif_pos h1, dif_pos (show (j.val + 128 - 112) % 128 < 64 by omega)]
    show 0 - x _ = -x _
    rw [zero_sub]
    exact congrArg _ (hx _ _ (by show (j.val + 128 - 112) % 128 = 16 + j.val; omega))
  by_cases h2 : j.val - 16 < 16
  · rw [if_neg (by omega), dif_neg h1, dif_pos h2]
    show dite _ _ _ = _
    rw [dif_pos (show (j.val + 128 - 16) % 128 < 64 by omega)]
    exact hx _ _ (by show (j.val + 128 - 16) % 128 = j.val - 16; omega)
  by_cases h3 : j.val - 16 - 16 < 16
  · rw [if_pos (by omega), dif_neg h1, dif_neg h2, dif_pos h3, dif_pos (show (j.val + 128 - 112) % 128 < 64 by omega)]
    show 0 - x _ = -x _
    rw [zero_sub]
    exact congrArg _ (hx _ _ (by show (j.val + 128 - 112) % 128 = 48 + (j.val - 16 - 16); omega))
  · rw [if_neg (by omega), dif_neg h1, dif_neg h2, dif_neg h3]
    show dite _ _ _ = _
    rw [dif_pos (show (j.val + 128 - 16) % 128 < 64 by omega)]
    exact hx _ _ (by show (j.val + 128 - 16) % 128 = 32 + (j.val - 16 - 16 - 16); omega)

/-- The kernel's tables: the angles' cosines and sines on the first 64 lanes of the latent rows, elsewhere one and zero. -/
def cosTable (R : ℕ) (j : Fin 128) : EReal := if _hR : R < 16384 then if _h : j.val < 64 then Ideal.cos (angle (R % 4096) j.val) else 1 else 1
def sinTable (R : ℕ) (j : Fin 128) : EReal := if _hR : R < 16384 then if _h : j.val < 64 then Ideal.sin (angle (R % 4096) j.val) else 0 else 0

/-- What the rotation leaves in the 128 lanes: the latent rows' 64 lanes rotated, the context rows' as they are, the padding zero. -/
def lanes (x : Fin 64 → EReal) (R : ℕ) (j : Fin 128) : EReal :=
  if h : j.val < 64 then if R < 16384 then rotated x (R % 4096) ⟨j.val, h⟩ else x ⟨j.val, h⟩ else 0

/-- The kernel's rotation of the padded lanes. -/
theorem lanes_eq (x : Fin 64 → EReal) (R : ℕ) (j : Fin 128) :
    padded x j * cosTable R j + turn (padded x) j * sinTable R j = lanes x R j := by
  unfold cosTable sinTable lanes
  by_cases h : j.val < 64
  · rw [turn_padded x j h, show padded x j = x ⟨j.val, h⟩ from dif_pos h]
    by_cases hR : R < 16384
    · simp only [dif_pos hR, dif_pos h, if_pos hR]
      rfl
    · simp only [dif_neg hR, dif_pos h, if_neg hR]
      rw [mul_one, mul_zero, add_zero]
  · rw [show padded x j = 0 from dif_neg h]
    by_cases hR : R < 16384
    · simp only [dif_pos hR, dif_neg h]
      rw [mul_one, mul_zero, add_zero]
    · simp only [dif_neg hR, dif_neg h]
      rw [mul_one, mul_zero, add_zero]

end Cert.Rope

end
-- ==== Proof.Queries.lean ====
/- The queries: the second layer's product of the joined rows, scaled, each head's last 64 columns rotated on the latent rows
   and padded to 128 lanes, in the array the call leaves and in the plain reference's. -/
module

public import proofs.«01_k».proof.Proof.Gen.Kernel8Ideal.Value
public import proofs.«01_k».proof.Proof.Gen.Reference8Ideal.Run
public import proofs.«01_k».proof.Proof.Rope
public import proofs.«01_k».proof.Proof.Rows
public import proofs.«01_k».proof.Proof.Softmax
public import Idealize.ShloMosaic.Lib.Claim
public import Idealize.ShloMosaic.Lib.IdealHost
public import Idealize.ShloMosaic.Lib.Pipeline.ValueKit
public import Idealize.ShloMosaic.Lib.Pointwise

@[expose] public section

set_option maxRecDepth 100000
set_option maxHeartbeats 4000000

noncomputable section

namespace Cert.Queries

open Idealize.ShloMosaic Cert.Rows Cert.Rope

/-- The factor that the queries carry. -/
def scale : EReal := Ideal.ofBits .f32 0x3DD53B95#32

theorem scale_eq : scale = ((13974421 / 134217728 : ℝ) : EReal) := by
  unfold scale
  simp [Ideal.ofBits, Ideal.ieee, -EReal.coe_mul]; norm_num

/-- An entry of a head's query before the rotation. -/
def query (a : FVec Ideal ⟨3, ![4, 4096, 1024]⟩ .f32) (b : FVec Ideal ⟨3, ![4, 256, 1024]⟩ .f32) (w : FVec Ideal ⟨3, ![2, 1024, 6144]⟩ .f32)
    (R : Fin 17408) (h : Fin 32) (e : Fin 192) : EReal :=
  (∑ k : Fin 1024, joined a b R k * w (ix3 0 k ⟨h.val * 192 + e.val, by omega⟩)) * scale

/-- The queries: of each head's 256 lanes the first 128 as they are, the others as the rotation leaves them. -/
def spec (a : FVec Ideal ⟨3, ![4, 4096, 1024]⟩ .f32) (b : FVec Ideal ⟨3, ![4, 256, 1024]⟩ .f32) (w : FVec Ideal ⟨3, ![2, 1024, 6144]⟩ .f32) :
    FVec Ideal ⟨2, ![17408, 8192]⟩ .bf16 := fun i =>
  if h : (i 1).val % 256 < 128 then query a b w (i 0) ⟨(i 1).val / 256, by have := (i 1).isLt; simp at this; omega⟩ ⟨(i 1).val % 256, by omega⟩
  else lanes (fun l => query a b w (i 0) ⟨(i 1).val / 256, by have := (i 1).isLt; simp at this; omega⟩ ⟨128 + l.val, by omega⟩) (i 0).val
    ⟨(i 1).val % 256 - 128, by omega⟩

/-- The same with the latent rows and the context rows apart. -/
theorem spec_at (a : FVec Ideal ⟨3, ![4, 4096, 1024]⟩ .f32) (b : FVec Ideal ⟨3, ![4, 256, 1024]⟩ .f32) (w : FVec Ideal ⟨3, ![2, 1024, 6144]⟩ .f32)
    (R : Fin 17408) (C : Fin 8192) : spec a b w (ix2 R C) =
      if hR : R.val < 16384 then
        if h : R.val / 4096 < 4 ∧ R.val % 4096 < 4096 ∧ C.val / 256 < 32 ∧ C.val % 256 < 192 then
          if h' : C.val % 256 < 128 then
            (∑ k : Fin 1024, a (ix3 ⟨R.val / 4096, by omega⟩ ⟨R.val % 4096, by omega⟩ k) * w (ix3 0 k ⟨C.val / 256 * 192 + C.val % 256, by omega⟩)) * scale
          else
            rotated (fun l => (∑ k : Fin 1024, a (ix3 ⟨R.val / 4096, by omega⟩ ⟨R.val % 4096, by omega⟩ k) *
              w (ix3 0 k ⟨C.val / 256 * 192 + (128 + l.val), by omega⟩)) * scale) (R.val % 4096) ⟨C.val % 256 - 128, by omega⟩
        else 0
      else if h : (R.val - 16384) / 256 < 4 ∧ (R.val - 16384) % 256 < 256 ∧ C.val / 256 < 32 ∧ C.val % 256 < 192 then
        (∑ k : Fin 1024, b (ix3 ⟨(R.val - 16384) / 256, by omega⟩ ⟨(R.val - 16384) % 256, by omega⟩ k) *
          w (ix3 0 k ⟨C.val / 256 * 192 + C.val % 256, by omega⟩)) * scale
      else 0 := by
  show (if h : C.val % 256 < 128 then query a b w R ⟨C.val / 256, by omega⟩ ⟨C.val % 256, by omega⟩
    else lanes (fun l => query a b w R ⟨C.val / 256, by omega⟩ ⟨128 + l.val, by omega⟩) R.val ⟨C.val % 256 - 128, by omega⟩) = _
  unfold lanes query joined
  by_cases hR : R.val < 16384
  · by_cases h : C.val % 256 < 192
    · have hc : R.val / 4096 < 4 ∧ R.val % 4096 < 4096 ∧ C.val / 256 < 32 ∧ C.val % 256 < 192 := ⟨by omega, by omega, by omega, h⟩
      by_cases h' : C.val % 256 < 128
      · simp only [dif_pos h', dif_pos hc, dif_pos hR]
      · simp only [dif_neg h', dif_pos hc, dif_pos hR, if_pos hR, dif_pos (show C.val % 256 - 128 < 64 by omega)]
    · have h' : ¬ C.val % 256 < 128 := by omega
      have hc : ¬ (R.val / 4096 < 4 ∧ R.val % 4096 < 4096 ∧ C.val / 256 < 32 ∧ C.val % 256 < 192) := fun hc => h hc.2.2.2
      simp only [dif_neg h', dif_neg hc, dif_pos hR, dif_neg (show ¬ C.val % 256 - 128 < 64 by omega)]
  · by_cases h : C.val % 256 < 192
    · have hc : (R.val - 16384) / 256 < 4 ∧ (R.val - 16384) % 256 < 256 ∧ C.val / 256 < 32 ∧ C.val % 256 < 192 := ⟨by omega, by omega, by omega, h⟩
      by_cases h' : C.val % 256 < 128
      · simp only [dif_pos h', dif_pos hc, dif_neg hR]
      · have he : 128 + (C.val % 256 - 128) = C.val % 256 := by omega
        simp only [dif_neg h', dif_pos hc, dif_neg hR, if_neg hR, dif_pos (show C.val % 256 - 128 < 64 by omega), he]
    · have h' : ¬ C.val % 256 < 128 := by omega
      have hc : ¬ ((R.val - 16384) / 256 < 4 ∧ (R.val - 16384) % 256 < 256 ∧ C.val / 256 < 32 ∧ C.val % 256 < 192) := fun hc => h hc.2.2.2
      simp only [dif_neg h', dif_neg hc, dif_neg hR, dif_neg (show ¬ C.val % 256 - 128 < 64 by omega)]

/-- The weights as the kernel reads them: scaled, each head's 192 columns padded to 256. -/
def wide (w : FVec Ideal ⟨3, ![2, 1024, 6144]⟩ .f32) (k : Fin 1024) (C : Fin 8192) : EReal :=
  if h : C.val / 256 < 32 ∧ C.val % 256 < 192 then w (ix3 0 k ⟨C.val / 256 * 192 + C.val % 256, by omega⟩) * scale else 0

variable (a : FVec Ideal ⟨3, ![4, 4096, 1024]⟩ .f32) (b : FVec Ideal ⟨3, ![4, 256, 1024]⟩ .f32) (w : FVec Ideal ⟨3, ![2, 1024, 6144]⟩ .f32)

/-- The product with the scaled weights is the scaled product. -/
theorem dot_wide (R : Fin 17408) (C : Fin 8192) :
    (∑ k : Fin 1024, joined a b R k * wide w k C) =
      if h : C.val % 256 < 192 then query a b w R ⟨C.val / 256, by omega⟩ ⟨C.val % 256, h⟩ else 0 := by
  by_cases h : C.val % 256 < 192
  · rw [dif_pos h]
    unfold query
    rw [scale_eq, mul_comm, Cert.Softmax.coe_mul_sum _ _ (by norm_num), ← scale_eq]
    refine Finset.sum_congr rfl fun k _ => ?_
    unfold wide
    rw [dif_pos (show C.val / 256 < 32 ∧ C.val % 256 < 192 from ⟨by omega, h⟩), ← mul_assoc, mul_comm]
  · rw [dif_neg h]
    refine Finset.sum_eq_zero fun k _ => ?_
    unfold wide
    rw [dif_neg (fun hc : C.val / 256 < 32 ∧ C.val % 256 < 192 => h hc.2), mul_zero]

/-- A plain lane. -/
theorem plain_lane (R : Fin 17408) (C : Fin 8192) (h : C.val % 256 < 128) :
    (∑ k : Fin 1024, joined a b R k * wide w k C) = spec a b w (ix2 R C) := by
  rw [dot_wide, dif_pos (show C.val % 256 < 192 by omega)]
  refine Eq.trans ?_ (dif_pos h).symm
  rfl

/-- A rotated lane. -/
theorem turned_lane (R : Fin 17408) (o : ℕ) (ho : o % 256 = 128) (hl : o + 128 ≤ 8192) (j : Fin 128) :
    (∑ k : Fin 1024, joined a b R k * wide w k ⟨o + j.val, by omega⟩) * cosTable R.val j +
      turn (fun j => ∑ k : Fin 1024, joined a b R k * wide w k ⟨o + j.val, by omega⟩) j * sinTable R.val j = spec a b w (ix2 R ⟨o + j.val, by omega⟩) := by
  have hp : (fun j : Fin 128 => ∑ k : Fin 1024, joined a b R k * wide w k ⟨o + j.val, by omega⟩) =
      padded fun l => query a b w R ⟨o / 256, by omega⟩ ⟨128 + l.val, by omega⟩ := by
    funext j
    rw [dot_wide]
    unfold padded
    have e1 : (o + j.val) / 256 = o / 256 := by omega
    have e2 : (o + j.val) % 256 = 128 + j.val := by omega
    by_cases h : j.val < 64
    · rw [dif_pos h, dif_pos (show (o + j.val) % 256 < 192 by omega)]
      simp only [e1, e2]
    · rw [dif_neg h, dif_neg (show ¬ (o + j.val) % 256 < 192 by omega)]
  rw [hp, show (∑ k : Fin 1024, joined a b R k * wide w k ⟨o + j.val, by omega⟩) = _ from congrFun hp j, lanes_eq]
  have hn : ¬ (o + j.val) % 256 < 128 := by omega
  refine Eq.trans ?_ (dif_neg hn).symm
  have e1 : (o + j.val) / 256 = o / 256 := by omega
  have e2 : (o + j.val) % 256 - 128 = j.val := by omega
  show _ = lanes (fun l => query a b w R ⟨(o + j.val) / 256, _⟩ ⟨128 + l.val, _⟩) R.val ⟨(o + j.val) % 256 - 128, _⟩
  simp only [e1, e2]

end Cert.Queries

namespace Cert.Kernel8Ideal.Queries

open Idealize.ShloMosaic Idealize.ShloMosaic.TcCoe Idealize.SL.Sem Cert.Kernel8Ideal Cert.Kernel8Ideal.Gen Cert.Queries Cert.Rope Cert.Rows

section Pieces

variable (a b : FVec Ideal S1024x1024 .bf16) (u v : FVec Ideal S1024x128 .f32) (r : Fin 1024) (j : Fin 128)

/-- The plain pieces of a block. -/
theorem plain0 : k0_pay6 (F := Ideal) a b (ix2 r j) = ∑ k : Fin 1024, a (ix2 r k) * b (ix2 k ⟨j.val, by omega⟩) := by pointwise [k0_pay6, k0_pay2]
theorem plain1 : k0_pay10 (F := Ideal) (k0_pay2 a b) (ix2 r j) = ∑ k : Fin 1024, a (ix2 r k) * b (ix2 k ⟨256 + j.val, by omega⟩) := by
  pointwise [k0_pay10, k0_pay2]
theorem plain2 : k0_pay12 (F := Ideal) (k0_pay2 a b) (ix2 r j) = ∑ k : Fin 1024, a (ix2 r k) * b (ix2 k ⟨512 + j.val, by omega⟩) := by
  pointwise [k0_pay12, k0_pay2]
theorem plain3 : k0_pay14 (F := Ideal) (k0_pay2 a b) (ix2 r j) = ∑ k : Fin 1024, a (ix2 r k) * b (ix2 k ⟨768 + j.val, by omega⟩) := by
  pointwise [k0_pay14, k0_pay2]

/-- The rotated pieces. -/
theorem turned0 : k0_pay9 (F := Ideal) (k0_pay3 u) (k0_pay4 v) k0_pay5 (k0_pay7 a b) (k0_pay8 a b) 16#32 (ix2 r j) =
    (∑ k : Fin 1024, a (ix2 r k) * b (ix2 k ⟨128 + j.val, by omega⟩)) * u (ix2 r j) +
      turn (fun j => ∑ k : Fin 1024, a (ix2 r k) * b (ix2 k ⟨128 + j.val, by omega⟩)) j * v (ix2 r j) := by
  unfold turn mask
  pointwise [k0_pay9, k0_pay8, k0_pay7, k0_pay5, k0_pay4, k0_pay3, k0_pay2]
theorem turned1 : k0_pay11 (F := Ideal) (k0_pay2 a b) (k0_pay3 u) (k0_pay4 v) k0_pay5 (ix2 r j) =
    (∑ k : Fin 1024, a (ix2 r k) * b (ix2 k ⟨384 + j.val, by omega⟩)) * u (ix2 r j) +
      turn (fun j => ∑ k : Fin 1024, a (ix2 r k) * b (ix2 k ⟨384 + j.val, by omega⟩)) j * v (ix2 r j) := by
  unfold turn mask
  pointwise [k0_pay11, k0_pay5, k0_pay4, k0_pay3, k0_pay2]
theorem turned2 : k0_pay13 (F := Ideal) (k0_pay2 a b) (k0_pay3 u) (k0_pay4 v) k0_pay5 (ix2 r j) =
    (∑ k : Fin 1024, a (ix2 r k) * b (ix2 k ⟨640 + j.val, by omega⟩)) * u (ix2 r j) +
      turn (fun j => ∑ k : Fin 1024, a (ix2 r k) * b (ix2 k ⟨640 + j.val, by omega⟩)) j * v (ix2 r j) := by
  unfold turn mask
  pointwise [k0_pay13, k0_pay5, k0_pay4, k0_pay3, k0_pay2]
theorem turned3 : k0_pay1 (F := Ideal) (k0_pay2 a b) (k0_pay3 u) (k0_pay4 v) k0_pay5 (ix2 r j) =
    (∑ k : Fin 1024, a (ix2 r k) * b (ix2 k ⟨896 + j.val, by omega⟩)) * u (ix2 r j) +
      turn (fun j => ∑ k : Fin 1024, a (ix2 r k) * b (ix2 k ⟨896 + j.val, by omega⟩)) j * v (ix2 r j) := by
  unfold turn mask
  pointwise [k0_pay1, k0_pay5, k0_pay4, k0_pay3, k0_pay2]

end Pieces

section Block

variable (p : FVec Ideal ⟨3, ![4, 4096, 1024]⟩ .f32) (q : FVec Ideal ⟨3, ![4, 256, 1024]⟩ .f32) (w : FVec Ideal ⟨3, ![2, 1024, 6144]⟩ .f32)
  (a b : FVec Ideal S1024x1024 .bf16) (u v : FVec Ideal S1024x128 .f32) (r : Fin 1024) (R : Fin 17408) (n : ℕ) (hn : n < 8)
  (ha : ∀ k : Fin 1024, a (ix2 r k) = joined p q R k) (hb : ∀ (k : Fin 1024) (C : Fin 1024), b (ix2 k C) = wide w k ⟨n * 1024 + C.val, by omega⟩)
  (hu : ∀ j : Fin 128, u (ix2 r j) = cosTable R.val j) (hv : ∀ j : Fin 128, v (ix2 r j) = sinTable R.val j)

include ha hb in
/-- A plain piece's entry is the specification's. -/
theorem plain_spec (o : ℕ) (ho : o % 256 = 0) (hl : o + 128 ≤ 1024) (j : Fin 128) (i : Fin 8192) (hi : i.val = n * 1024 + (o + j.val)) :
    (∑ k : Fin 1024, a (ix2 r k) * b (ix2 k ⟨o + j.val, by omega⟩)) = spec p q w (ix2 R i) := by
  rw [← plain_lane p q w R i (by omega)]
  exact Finset.sum_congr rfl fun k _ => by rw [ha, hb, show (⟨n * 1024 + (o + j.val), by omega⟩ : Fin 8192) = i from Fin.ext hi.symm]

include ha hb hu hv in
/-- A rotated piece's entry is the specification's. -/
theorem turned_spec (o : ℕ) (ho : o % 256 = 128) (hl : o + 128 ≤ 1024) (j : Fin 128) (i : Fin 8192) (hi : i.val = n * 1024 + (o + j.val)) :
    (∑ k : Fin 1024, a (ix2 r k) * b (ix2 k ⟨o + j.val, by omega⟩)) * u (ix2 r j) +
      turn (fun j => ∑ k : Fin 1024, a (ix2 r k) * b (ix2 k ⟨o + j.val, by omega⟩)) j * v (ix2 r j) = spec p q w (ix2 R i) := by
  have hlt : n * 1024 + o + j.val < 8192 := by omega
  obtain rfl : i = ⟨n * 1024 + o + j.val, hlt⟩ := Fin.ext (by show i.val = n * 1024 + o + j.val; omega)
  have hd : (fun j : Fin 128 => ∑ k : Fin 1024, a (ix2 r k) * b (ix2 k ⟨o + j.val, by omega⟩)) =
      fun j => ∑ k : Fin 1024, joined p q R k * wide w k ⟨n * 1024 + o + j.val, by omega⟩ := by
    funext j
    exact Finset.sum_congr rfl fun k _ => by
      rw [ha, hb, show (⟨n * 1024 + (o + j.val), by omega⟩ : Fin 8192) = ⟨n * 1024 + o + j.val, by omega⟩ from Fin.ext (by show n * 1024 + (o + j.val) = n * 1024 + o + j.val; omega)]
  rw [hd, congrFun hd j, hu, hv]
  exact turned_lane p q w R (n * 1024 + o) (by omega) (by omega) j

include ha hb hu hv in
/-- An entry of the block that the eight pieces fill. -/
theorem out_spec (C : Fin 1024) (i : Fin 8192) (hi : i.val = n * 1024 + C.val) : out0_4 (F := Ideal) a b u v (ix2 r C) = spec p q w (ix2 R i) := by
  unfold_out out0_4
  canon_tiles x h
  all_goals
    obtain ⟨r', j, rfl⟩ : ∃ (r' : Fin 1024) (j : Fin 128), x = ix2 r' j := ⟨x 0, x 1, eq_ix2 x⟩
    obtain rfl : r = r' := Fin.ext h0
    simp (disch := decide) only [View.ld_unit_lit', View.readAt_eq_ld]
  · exact (turned3 a b u v r j).trans (turned_spec p q w a b u v r R n hn ha hb hu hv 896 (by norm_num) (by norm_num) j i (by rw [hi]; exact congrArg _ h1))
  · exact (plain3 a b r j).trans (plain_spec p q w a b r R n hn ha hb 768 (by norm_num) (by norm_num) j i (by rw [hi]; exact congrArg _ h1))
  · exact (turned2 a b u v r j).trans (turned_spec p q w a b u v r R n hn ha hb hu hv 640 (by norm_num) (by norm_num) j i (by rw [hi]; exact congrArg _ h1))
  · exact (plain2 a b r j).trans (plain_spec p q w a b r R n hn ha hb 512 (by norm_num) (by norm_num) j i (by rw [hi]; exact congrArg _ h1))
  · exact (turned1 a b u v r j).trans (turned_spec p q w a b u v r R n hn ha hb hu hv 384 (by norm_num) (by norm_num) j i (by rw [hi]; exact congrArg _ h1))
  · exact (plain1 a b r j).trans (plain_spec p q w a b r R n hn ha hb 256 (by norm_num) (by norm_num) j i (by rw [hi]; exact congrArg _ h1))
  · exact (turned0 a b u v r j).trans (turned_spec p q w a b u v r R n hn ha hb hu hv 128 (by norm_num) (by norm_num) j i (by rw [hi]; exact congrArg _ h1))
  · refine (plain0 a b r j).trans (Eq.trans ?_ (plain_spec p q w a b r R n hn ha hb 0 (by norm_num) (by norm_num) j i (by rw [hi, zero_add]; exact congrArg _ h1)))
    simp only [zero_add]

end Block

variable (m : (ℓ : Loc nD τ sig) → Buf (Elt Ideal) ℓ) (c : Dev nD)

/-- The arguments, and the rows, the weights and the tables as the call reads them. -/
abbrev lat : FVec Ideal S4x4096x1024 .f32 := m ((c : Thread nD τ).loc main_arg0)
abbrev ctx : FVec Ideal S4x256x1024 .f32 := m ((c : Thread nD τ).loc main_arg1)
abbrev weights : FVec Ideal S2x1024x6144 .f32 := m ((c : Thread nD τ).loc main_arg2)
abbrev arrH : FVec Ideal S17408x1024 .bf16 := V m c main_v43
abbrev arrW : FVec Ideal S1024x8192 .bf16 := V m c main_v51
abbrev arrC : FVec Ideal S17408x128 .f32 := V m c main_v34
abbrev arrS : FVec Ideal S17408x128 .f32 := V m c main_v39

/-- The rows the call reads are the arguments' joined. -/
theorem arrH_at (R : Fin 17408) (k : Fin 1024) : arrH m c (ix2 R k) = joined (lat m c) (ctx m c) R k := by
  unfold arrH V joined
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.unary, StableHlo.TRef.nullary, StableHlo.TRef.ternary, StableHlo.TRef.toBuf, StableHlo.TRef.ofBuf, cast_eq]
  after_results_simp
  pointwise
  after_results_simp
  pointwise

/-- The weights the call reads are the argument's, scaled and padded. -/
theorem arrW_at (k : Fin 1024) (C : Fin 8192) : arrW m c (ix2 k C) = wide (weights m c) k C := by
  unfold arrW V wide scale
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.unary, StableHlo.TRef.nullary, StableHlo.TRef.ternary, StableHlo.TRef.toBuf, StableHlo.TRef.ofBuf, cast_eq]
  after_results_simp
  have z : (FloatOps.sitofp (F := Ideal) .f32 0#32 : EReal) = 0 := by show ((((0#32 : BitVec 32).toInt : ℝ)) : EReal) = 0; simp
  pointwise [z]

/-- The table of cosines. -/
theorem arrC_at (R : Fin 17408) (C : Fin 128) : arrC m c (ix2 R C) = cosTable R.val C := by
  unfold arrC V cosTable angle freq row col sign
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.unary, StableHlo.TRef.nullary, StableHlo.TRef.ternary, StableHlo.TRef.toBuf, StableHlo.TRef.ofBuf, cast_eq]
  after_results_simp
  pointwise [constantI, id_eq]
  after_results_simp
  pointwise [constantI, id_eq]

/-- The table of sines. -/
theorem arrS_at (R : Fin 17408) (C : Fin 128) : arrS m c (ix2 R C) = sinTable R.val C := by
  unfold arrS V sinTable angle freq row col sign
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.unary, StableHlo.TRef.nullary, StableHlo.TRef.ternary, StableHlo.TRef.toBuf, StableHlo.TRef.ofBuf, cast_eq]
  after_results_simp
  have z : (FloatOps.sitofp (F := Ideal) .f32 0#32 : EReal) = 0 := by show ((((0#32 : BitVec 32).toInt : ℝ)) : EReal) = 0; simp
  pointwise [z, constantI, id_eq]
  after_results_simp
  pointwise [z, constantI, id_eq]

/-- The array the call leaves. -/
def result : FVec Ideal S17408x8192 .bf16 := spec (lat m c) (ctx m c) (weights m c)

/-- The block of every window at every grid point. -/
theorem idx : ∀ t : Fin cfg0.N, win0_0.index t = ![t.val / 8, 0] ∧ win0_1.index t = ![0, t.val % 8] ∧ win0_2.index t = ![t.val / 8, 0] ∧
    win0_3.index t = ![t.val / 8, 0] ∧ win0_4.index t = ![t.val / 8, t.val % 8] :=
  (by decide +kernel : ∀ t : Fin grid0.N, win0_0.index t = ![t.val / 8, 0] ∧ win0_1.index t = ![0, t.val % 8] ∧ win0_2.index t = ![t.val / 8, 0] ∧
    win0_3.index t = ![t.val / 8, 0] ∧ win0_4.index t = ![t.val / 8, t.val % 8])

/-- The staged rows. -/
theorem blk0_at (t : Fin cfg0.N) (r : Fin 1024) (k : Fin 1024) (R : Fin 17408) (hR : R.val = t.val / 8 * 1024 + r.val) :
    (iblk m c 0 t : FVec Ideal S1024x1024 .bf16) (ix2 r k) = joined (lat m c) (ctx m c) R k := by
  rw [← arrH_at]
  blk_ext [iblk, idx t]

/-- The staged weights. -/
theorem blk1_at (t : Fin cfg0.N) (k : Fin 1024) (C : Fin 1024) :
    (iblk m c 1 t : FVec Ideal S1024x1024 .bf16) (ix2 k C) = wide (weights m c) k ⟨t.val % 8 * 1024 + C.val, by omega⟩ := by
  rw [← arrW_at]
  blk_ext [iblk, idx t]

/-- The staged tables. -/
theorem blk2_at (t : Fin cfg0.N) (r : Fin 1024) (j : Fin 128) (R : Fin 17408) (hR : R.val = t.val / 8 * 1024 + r.val) :
    (iblk m c 2 t : FVec Ideal S1024x128 .f32) (ix2 r j) = cosTable R.val j := by
  rw [← arrC_at m c]
  blk_ext [iblk, idx t]
theorem blk3_at (t : Fin cfg0.N) (r : Fin 1024) (j : Fin 128) (R : Fin 17408) (hR : R.val = t.val / 8 * 1024 + r.val) :
    (iblk m c 3 t : FVec Ideal S1024x128 .f32) (ix2 r j) = sinTable R.val j := by
  rw [← arrS_at m c]
  blk_ext [iblk, idx t]

/-- An entry of the block that a grid point writes. -/
theorem point (t : Fin cfg0.N) (y : S1024x1024.Idx) (i : S17408x8192.Idx) (h0 : (i 0 : ℕ) = t.val / 8 * 1024 + (y 0).val)
    (h1 : (i 1 : ℕ) = t.val % 8 * 1024 + (y 1).val) :
    out0_4 (F := Ideal) (iblk m c 0 t) (iblk m c 1 t) (iblk m c 2 t) (iblk m c 3 t) y = result m c i := by
  rw [show y = ix2 (y 0) (y 1) from eq_ix2 y, show i = ix2 (i 0) (i 1) from eq_ix2 i]
  exact out_spec (lat m c) (ctx m c) (weights m c) (iblk m c 0 t) (iblk m c 1 t) (iblk m c 2 t) (iblk m c 3 t) (y 0) (i 0) (t.val % 8) (by omega)
    (fun k => blk0_at m c t (y 0) k (i 0) h0) (blk1_at m c t) (fun j => blk2_at m c t (y 0) j (i 0) h0) (fun j => blk3_at m c t (y 0) j (i 0) h0)
    (y 1) (i 1) h1

/-- The array after the run. -/
theorem final : (dats m 0 c).arrAt 4 cfg0.N = result m c := by
  refine (dats m 0 c).arrAt_eq_of_covers 4 _ (by decide +kernel) fun t hf y => ?_
  blk_simp
  rw [after0_4]
  exact point m c t y _ (by blk_simp [idx t]) (by blk_simp [idx t])

end Cert.Kernel8Ideal.Queries

namespace Cert.Reference8Ideal.Queries

open Idealize.ShloMosaic Idealize.ShloMosaic.TcCoe Idealize.SL.Sem Cert.Reference8Ideal Cert.Reference8Ideal.Gen Cert.Queries Cert.Rope

/-- The reference's run leaves the same array. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v64) = spec (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run _ _ _).mono (fun r h c => ⟨(h c).1.trans (funext fun i => ?_), (h c).2⟩) (Cert.Reference8Ideal.Value.run (F := Ideal) m ρ)
  obtain ⟨R, C, rfl⟩ : ∃ (R : Fin 17408) (C : Fin 8192), i = ix2 R C := ⟨i 0, i 1, eq_ix2 i⟩
  rw [spec_at]
  have z : (FloatOps.sitofp (F := Ideal) .f32 0#32 : EReal) = 0 := by show ((((0#32 : BitVec 32).toInt : ℝ)) : EReal) = 0; simp
  unfold scale rotated half angle freq row col sign
  pointwise [Cert.Reference8Ideal.Value.res_main_v64, z, constantI, id_eq]

end Cert.Reference8Ideal.Queries

end
-- ==== Proof.RopeKey.lean ====
/- The rotary part of the keys: the last 64 columns of the down projection, rotated on the latent rows and padded to 128 lanes,
   in the array the call leaves and in the plain reference's. -/
module

public import proofs.«01_k».proof.Proof.Gen.Kernel9Ideal.Value
public import proofs.«01_k».proof.Proof.Gen.Reference9Ideal.Run
public import proofs.«01_k».proof.Proof.Rope
public import proofs.«01_k».proof.Proof.Rows
public import Idealize.ShloMosaic.Lib.Claim
public import Idealize.ShloMosaic.Lib.IdealHost
public import Idealize.ShloMosaic.Lib.Pipeline.ValueKit
public import Idealize.ShloMosaic.Lib.Pointwise

@[expose] public section

set_option maxRecDepth 100000
set_option maxHeartbeats 4000000

noncomputable section

namespace Cert.RopeKey

open Idealize.ShloMosaic Cert.Rows Cert.Rope

/-- The product of the joined rows with the last 64 columns of the first layer's weights, as the rotation leaves it. -/
def spec (a : FVec Ideal ⟨3, ![4, 4096, 4096]⟩ .f32) (b : FVec Ideal ⟨3, ![4, 256, 4096]⟩ .f32) (w : FVec Ideal ⟨3, ![2, 4096, 1600]⟩ .f32) :
    FVec Ideal ⟨2, ![17408, 128]⟩ .f32 := fun i =>
  lanes (fun l => ∑ k : Fin 4096, joined a b (i 0) k * w (ix3 0 k ⟨1536 + l.val, by omega⟩)) (i 0).val (i 1)

/-- The same with the latent rows and the context rows apart. -/
theorem spec_at (a : FVec Ideal ⟨3, ![4, 4096, 4096]⟩ .f32) (b : FVec Ideal ⟨3, ![4, 256, 4096]⟩ .f32) (w : FVec Ideal ⟨3, ![2, 4096, 1600]⟩ .f32)
    (R : Fin 17408) (C : Fin 128) : spec a b w (ix2 R C) =
      if h : C.val < 64 then
        if hR : R.val < 16384 then
          rotated (fun l => ∑ k : Fin 4096, a (ix3 ⟨R.val / 4096, by omega⟩ ⟨R.val % 4096, by omega⟩ k) * w (ix3 0 k ⟨1536 + l.val, by omega⟩))
            (R.val % 4096) ⟨C.val, h⟩
        else ∑ k : Fin 4096, b (ix3 ⟨(R.val - 16384) / 256, by omega⟩ ⟨(R.val - 16384) % 256, by omega⟩ k) * w (ix3 0 k ⟨1536 + C.val, by omega⟩)
      else 0 := by
  show lanes (fun l => ∑ k : Fin 4096, joined a b R k * w (ix3 0 k ⟨1536 + l.val, by omega⟩)) R.val C = _
  unfold lanes joined
  by_cases hR : R.val < 16384
  · simp only [dif_pos hR, if_pos hR]
  · simp only [dif_neg hR, if_neg hR]

end Cert.RopeKey

namespace Cert.Kernel9Ideal.RopeKey

open Idealize.ShloMosaic Idealize.ShloMosaic.TcCoe Idealize.SL.Sem Cert.Kernel9Ideal Cert.Kernel9Ideal.Gen Cert.RopeKey Cert.Rope Cert.Rows

/-- One block: the product and its partner, each by its table. -/
theorem pay_at (a : FVec Ideal S1024x4096 .bf16) (b : FVec Ideal S4096x128 .bf16) (u v : FVec Ideal S1024x128 .f32) (r : Fin 1024) (j : Fin 128) :
    k0_pay1 (F := Ideal) a b u v (ix2 r j) =
      (∑ k : Fin 4096, a (ix2 r k) * b (ix2 k j)) * u (ix2 r j) + turn (fun j => ∑ k : Fin 4096, a (ix2 r k) * b (ix2 k j)) j * v (ix2 r j) := by
  unfold turn mask
  pointwise [k0_pay1]

variable (m : (ℓ : Loc nD τ sig) → Buf (Elt Ideal) ℓ) (c : Dev nD)

/-- The arguments, and the rows, the weights and the tables as the call reads them. -/
abbrev lat : FVec Ideal S4x4096x4096 .f32 := m ((c : Thread nD τ).loc main_arg0)
abbrev ctx : FVec Ideal S4x256x4096 .f32 := m ((c : Thread nD τ).loc main_arg1)
abbrev weights : FVec Ideal S2x4096x1600 .f32 := m ((c : Thread nD τ).loc main_arg2)
abbrev arrH : FVec Ideal S17408x4096 .bf16 := V m c main_v43
abbrev arrW : FVec Ideal S4096x128 .bf16 := V m c main_v50
abbrev arrC : FVec Ideal S17408x128 .f32 := V m c main_v34
abbrev arrS : FVec Ideal S17408x128 .f32 := V m c main_v39

/-- The rows the call reads are the arguments' joined. -/
theorem arrH_at (R : Fin 17408) (k : Fin 4096) : arrH m c (ix2 R k) = joined (lat m c) (ctx m c) R k := by
  unfold arrH V joined
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.unary, StableHlo.TRef.nullary, StableHlo.TRef.ternary, StableHlo.TRef.toBuf, StableHlo.TRef.ofBuf, cast_eq]
  after_results_simp
  pointwise
  after_results_simp
  pointwise

/-- The weights the call reads are the argument's last 64 columns, padded. -/
theorem arrW_at (k : Fin 4096) (C : Fin 128) :
    arrW m c (ix2 k C) = if h : C.val < 64 then weights m c (ix3 0 k ⟨1536 + C.val, by omega⟩) else 0 := by
  unfold arrW V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.unary, StableHlo.TRef.nullary, StableHlo.TRef.ternary, StableHlo.TRef.toBuf, StableHlo.TRef.ofBuf, cast_eq]
  after_results_simp
  have z : (FloatOps.sitofp (F := Ideal) .f32 0#32 : EReal) = 0 := by show ((((0#32 : BitVec 32).toInt : ℝ)) : EReal) = 0; simp
  pointwise [z]

/-- The table of cosines. -/
theorem arrC_at (R : Fin 17408) (C : Fin 128) : arrC m c (ix2 R C) = cosTable R.val C := by
  unfold arrC V cosTable angle freq row col sign
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.unary, StableHlo.TRef.nullary, StableHlo.TRef.ternary, StableHlo.TRef.toBuf, StableHlo.TRef.ofBuf, cast_eq]
  after_results_simp
  pointwise [constantI, id_eq]
  after_results_simp
  pointwise [constantI, id_eq]

/-- The table of sines. -/
theorem arrS_at (R : Fin 17408) (C : Fin 128) : arrS m c (ix2 R C) = sinTable R.val C := by
  unfold arrS V sinTable angle freq row col sign
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.unary, StableHlo.TRef.nullary, StableHlo.TRef.ternary, StableHlo.TRef.toBuf, StableHlo.TRef.ofBuf, cast_eq]
  after_results_simp
  have z : (FloatOps.sitofp (F := Ideal) .f32 0#32 : EReal) = 0 := by show ((((0#32 : BitVec 32).toInt : ℝ)) : EReal) = 0; simp
  pointwise [z, constantI, id_eq]
  after_results_simp
  pointwise [z, constantI, id_eq]

/-- The array the call leaves. -/
def result : FVec Ideal S17408x128 .f32 := spec (lat m c) (ctx m c) (weights m c)

/-- The block of every window at every grid point. -/
theorem idx : ∀ t : Fin cfg0.N, win0_0.index t = ![t.val, 0] ∧ win0_1.index t = ![0, 0] ∧ win0_2.index t = ![t.val, 0] ∧
    win0_3.index t = ![t.val, 0] ∧ win0_4.index t = ![t.val, 0] :=
  (by decide +kernel : ∀ t : Fin grid0.N, win0_0.index t = ![t.val, 0] ∧ win0_1.index t = ![0, 0] ∧ win0_2.index t = ![t.val, 0] ∧
    win0_3.index t = ![t.val, 0] ∧ win0_4.index t = ![t.val, 0])

/-- The staged rows. -/
theorem blk0_at (t : Fin cfg0.N) (r : Fin 1024) (k : Fin 4096) (R : Fin 17408) (hR : R.val = t.val * 1024 + r.val) :
    (iblk m c 0 t : FVec Ideal S1024x4096 .bf16) (ix2 r k) = joined (lat m c) (ctx m c) R k := by
  rw [← arrH_at]
  blk_ext [iblk, idx t]

/-- The staged weights. -/
theorem blk1_at (t : Fin cfg0.N) (k : Fin 4096) (j : Fin 128) :
    (iblk m c 1 t : FVec Ideal S4096x128 .bf16) (ix2 k j) = if h : j.val < 64 then weights m c (ix3 0 k ⟨1536 + j.val, by omega⟩) else 0 := by
  rw [← arrW_at]
  blk_ext [iblk, idx t]

/-- The staged tables. -/
theorem blk2_at (t : Fin cfg0.N) (r : Fin 1024) (j : Fin 128) (R : Fin 17408) (hR : R.val = t.val * 1024 + r.val) :
    (iblk m c 2 t : FVec Ideal S1024x128 .f32) (ix2 r j) = cosTable R.val j := by
  rw [← arrC_at m c]
  blk_ext [iblk, idx t]
theorem blk3_at (t : Fin cfg0.N) (r : Fin 1024) (j : Fin 128) (R : Fin 17408) (hR : R.val = t.val * 1024 + r.val) :
    (iblk m c 3 t : FVec Ideal S1024x128 .f32) (ix2 r j) = sinTable R.val j := by
  rw [← arrS_at m c]
  blk_ext [iblk, idx t]

/-- The products with the padded weights are the padded products. -/
theorem dot_padded (R : Fin 17408) (r : Fin 1024) (a : FVec Ideal S1024x4096 .bf16) (b : FVec Ideal S4096x128 .bf16)
    (ha : ∀ k : Fin 4096, a (ix2 r k) = joined (lat m c) (ctx m c) R k)
    (hb : ∀ (k : Fin 4096) (j : Fin 128), b (ix2 k j) = if h : j.val < 64 then weights m c (ix3 0 k ⟨1536 + j.val, by omega⟩) else 0) :
    (fun j : Fin 128 => ∑ k : Fin 4096, a (ix2 r k) * b (ix2 k j)) =
      padded fun l => ∑ k : Fin 4096, joined (lat m c) (ctx m c) R k * weights m c (ix3 0 k ⟨1536 + l.val, by omega⟩) := by
  funext j
  unfold padded
  by_cases h : j.val < 64
  · rw [dif_pos h]
    exact Finset.sum_congr rfl fun k _ => by rw [ha k, hb k j, dif_pos h]
  · rw [dif_neg h]
    exact Finset.sum_eq_zero fun k _ => by rw [hb k j, dif_neg h, mul_zero]

/-- An entry of the block that a grid point writes. -/
theorem point (t : Fin cfg0.N) (y : S1024x128.Idx) (i : S17408x128.Idx) (h0 : (i 0 : ℕ) = t.val * 1024 + (y 0).val) (h1 : (i 1 : ℕ) = (y 1).val) :
    k0_pay1 (F := Ideal) (iblk m c 0 t) (iblk m c 1 t) (iblk m c 2 t) (iblk m c 3 t) y = result m c i := by
  rw [show y = ix2 (y 0) (y 1) from eq_ix2 y]
  refine (pay_at _ _ _ _ (y 0) (y 1)).trans ?_
  have hj : i 1 = y 1 := Fin.ext h1
  have hd := dot_padded m c (i 0) (y 0) (iblk m c 0 t) (iblk m c 1 t) (fun k => blk0_at m c t (y 0) k (i 0) h0) (blk1_at m c t)
  rw [blk2_at m c t (y 0) (y 1) (i 0) h0, blk3_at m c t (y 0) (y 1) (i 0) h0, hd, congrFun hd (y 1)]
  refine (lanes_eq _ _ _).trans ?_
  rw [← hj]
  rfl

/-- The array after the run. -/
theorem final : (dats m 0 c).arrAt 4 cfg0.N = result m c := by
  refine (dats m 0 c).arrAt_eq_of_covers 4 _ (by decide +kernel) fun t hf y => ?_
  blk_simp
  rw [after0_4]
  frame_out
  exact point m c t y _ (by blk_simp [idx t]) (by blk_simp [idx t])

end Cert.Kernel9Ideal.RopeKey

namespace Cert.Reference9Ideal.RopeKey

open Idealize.ShloMosaic Idealize.ShloMosaic.TcCoe Idealize.SL.Sem Cert.Reference9Ideal Cert.Reference9Ideal.Gen Cert.RopeKey Cert.Rope

/-- The reference's run leaves the same array. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v54) = spec (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run _ _ _).mono (fun r h c => ⟨(h c).1.trans (funext fun i => ?_), (h c).2⟩) (Cert.Reference9Ideal.Value.run (F := Ideal) m ρ)
  obtain ⟨R, C, rfl⟩ : ∃ (R : Fin 17408) (C : Fin 128), i = ix2 R C := ⟨i 0, i 1, eq_ix2 i⟩
  rw [spec_at]
  have z : (FloatOps.sitofp (F := Ideal) .f32 0#32 : EReal) = 0 := by show ((((0#32 : BitVec 32).toInt : ℝ)) : EReal) = 0; simp
  unfold rotated half angle freq row col sign
  pointwise [Cert.Reference9Ideal.Value.res_main_v54, z, constantI, id_eq]

end Cert.Reference9Ideal.RopeKey

end
-- ==== Proof.Norms.lean ====
/- The norms of the two latents: each row divided by its root mean square and multiplied by a gain, in the two arrays the
   call leaves and in the plain reference's. -/
module

public import proofs.«01_k».proof.Proof.Gen.Kernel10Ideal.Value
public import proofs.«01_k».proof.Proof.Gen.Reference10Ideal.Run
public import proofs.«01_k».proof.Proof.Rows
public import Idealize.ShloMosaic.Lib.Claim
public import Idealize.ShloMosaic.Lib.Pipeline.ValueKit
public import Idealize.ShloMosaic.Lib.Pointwise

@[expose] public section

set_option maxRecDepth 100000
set_option maxHeartbeats 2000000

noncomputable section

namespace Cert.Norms

open Idealize.ShloMosaic Cert.Rows

/-- A row divided by its root mean square, the constant 1e-6 added to the mean. -/
def scaled {N : ℕ} (n : EReal) (x : Fin N → EReal) (C : Fin N) : EReal :=
  x C * Ideal.rsqrt (Ideal.div (∑ k, x k * x k) n + Ideal.ofBits .f32 0x358637BD#32)

/-- The first 1024 columns of the joined rows, normed, by the first layer's first gain. -/
def queries (a : FVec Ideal ⟨3, ![4, 4096, 1536]⟩ .f32) (b : FVec Ideal ⟨3, ![4, 256, 1536]⟩ .f32) (g : FVec Ideal ⟨2, ![2, 1024]⟩ .f32) : FVec Ideal ⟨2, ![17408, 1024]⟩ .f32 := fun i =>
  scaled (Ideal.ofBits .f32 0x44800000#32) (fun k : Fin 1024 => joined a b (i 0) ⟨k.val, by omega⟩) (i 1) * g (ix2 0 (i 1))

/-- The same with the latent rows and the context rows apart. -/
theorem queries_at (a : FVec Ideal ⟨3, ![4, 4096, 1536]⟩ .f32) (b : FVec Ideal ⟨3, ![4, 256, 1536]⟩ .f32) (g : FVec Ideal ⟨2, ![2, 1024]⟩ .f32) (R : Fin 17408) (C : Fin 1024) : queries a b g (ix2 R C) =
      if h : R.val < 16384 then
        scaled (Ideal.ofBits .f32 0x44800000#32) (fun k : Fin 1024 => a (ix3 ⟨R.val / 4096, by omega⟩ ⟨R.val % 4096, by omega⟩ ⟨k.val, by omega⟩)) C * g (ix2 0 C)
      else
        scaled (Ideal.ofBits .f32 0x44800000#32) (fun k : Fin 1024 => b (ix3 ⟨(R.val - 16384) / 256, by omega⟩ ⟨(R.val - 16384) % 256, by omega⟩ ⟨k.val, by omega⟩)) C *
          g (ix2 0 C) := by
  show scaled _ (fun k : Fin 1024 => joined a b R ⟨k.val, by omega⟩) C * g (ix2 0 C) = _
  unfold joined
  split <;> rfl

/-- The last 512 columns of the joined rows, normed, by the first layer's second gain. -/
def keys (a : FVec Ideal ⟨3, ![4, 4096, 1536]⟩ .f32) (b : FVec Ideal ⟨3, ![4, 256, 1536]⟩ .f32) (g : FVec Ideal ⟨2, ![2, 512]⟩ .f32) : FVec Ideal ⟨2, ![17408, 512]⟩ .f32 := fun i =>
  scaled (Ideal.ofBits .f32 0x44000000#32) (fun k : Fin 512 => joined a b (i 0) ⟨1024 + k.val, by omega⟩) (i 1) * g (ix2 0 (i 1))

/-- The same with the latent rows and the context rows apart. -/
theorem keys_at (a : FVec Ideal ⟨3, ![4, 4096, 1536]⟩ .f32) (b : FVec Ideal ⟨3, ![4, 256, 1536]⟩ .f32) (g : FVec Ideal ⟨2, ![2, 512]⟩ .f32) (R : Fin 17408) (C : Fin 512) : keys a b g (ix2 R C) =
      if h : R.val < 16384 then
        scaled (Ideal.ofBits .f32 0x44000000#32) (fun k : Fin 512 => a (ix3 ⟨R.val / 4096, by omega⟩ ⟨R.val % 4096, by omega⟩ ⟨1024 + k.val, by omega⟩)) C * g (ix2 0 C)
      else
        scaled (Ideal.ofBits .f32 0x44000000#32) (fun k : Fin 512 => b (ix3 ⟨(R.val - 16384) / 256, by omega⟩ ⟨(R.val - 16384) % 256, by omega⟩ ⟨1024 + k.val, by omega⟩)) C *
          g (ix2 0 C) := by
  show scaled _ (fun k : Fin 512 => joined a b R ⟨1024 + k.val, by omega⟩) C * g (ix2 0 C) = _
  unfold joined
  split <;> rfl

end Cert.Norms

namespace Cert.Kernel10Ideal.Norms

open Idealize.ShloMosaic Idealize.ShloMosaic.TcCoe Idealize.SL.Sem Cert.Kernel10Ideal Cert.Kernel10Ideal.Gen Cert.Norms Cert.Rows

/-- One block of the first result. -/
theorem pay2_at (a : FVec Ideal S512x1536 .f32) (g : FVec Ideal S1x1024 .f32) (r : Fin 512) (j : Fin 1024) :
    k0_pay2 (F := Ideal) a g (ix2 r j) = scaled (Ideal.ofBits .f32 0x44800000#32) (fun k : Fin 1024 => a (ix2 r ⟨k.val, by omega⟩)) j * g (ix2 0 j) := by
  unfold scaled
  pointwise [k0_pay2, k0_pay1]

/-- One block of the second result. -/
theorem pay3_at (a : FVec Ideal S512x1536 .f32) (g : FVec Ideal S1x512 .f32) (r : Fin 512) (j : Fin 512) :
    k0_pay3 (F := Ideal) a g (ix2 r j) = scaled (Ideal.ofBits .f32 0x44000000#32) (fun k : Fin 512 => a (ix2 r ⟨1024 + k.val, by omega⟩)) j * g (ix2 0 j) := by
  unfold scaled
  pointwise [k0_pay3, k0_pay1]

variable (m : (ℓ : Loc nD τ sig) → Buf (Elt Ideal) ℓ) (c : Dev nD)

/-- The arguments, and the rows and gains as the call reads them. -/
abbrev lat : FVec Ideal S4x4096x1536 .f32 := m ((c : Thread nD τ).loc main_arg0)
abbrev ctx : FVec Ideal S4x256x1536 .f32 := m ((c : Thread nD τ).loc main_arg1)
abbrev gainQ : FVec Ideal S2x1024 .f32 := m ((c : Thread nD τ).loc main_arg2)
abbrev gainK : FVec Ideal S2x512 .f32 := m ((c : Thread nD τ).loc main_arg3)
abbrev arrC : FVec Ideal S17408x1536 .f32 := V m c main_v2
abbrev arrQ : FVec Ideal S1x1024 .f32 := V m c main_v7
abbrev arrK : FVec Ideal S1x512 .f32 := V m c main_v8

/-- The rows the call reads are the arguments' joined. -/
theorem arrC_at (R : Fin 17408) (k : Fin 1536) : arrC m c (ix2 R k) = joined (lat m c) (ctx m c) R k := by
  unfold arrC V joined
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise

/-- The first gain the call reads is the argument's. -/
theorem arrQ_at (j : Fin 1024) : arrQ m c (ix2 0 j) = gainQ m c (ix2 0 j) := by
  unfold arrQ V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise

/-- The second gain the call reads is the argument's. -/
theorem arrK_at (j : Fin 512) : arrK m c (ix2 0 j) = gainK m c (ix2 0 j) := by
  unfold arrK V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise

/-- The arrays the call leaves. -/
def resultQ : FVec Ideal S17408x1024 .f32 := queries (lat m c) (ctx m c) (gainQ m c)
def resultK : FVec Ideal S17408x512 .f32 := keys (lat m c) (ctx m c) (gainK m c)

/-- The block of every window at every grid point. -/
theorem idx : ∀ t : Fin cfg0.N, win0_0.index t = ![t.val, 0] ∧ win0_1.index t = ![0, 0] ∧ win0_2.index t = ![0, 0] ∧
    win0_3.index t = ![t.val, 0] ∧ win0_4.index t = ![t.val, 0] :=
  (by decide +kernel : ∀ t : Fin grid0.N, win0_0.index t = ![t.val, 0] ∧ win0_1.index t = ![0, 0] ∧ win0_2.index t = ![0, 0] ∧
    win0_3.index t = ![t.val, 0] ∧ win0_4.index t = ![t.val, 0])

/-- The staged rows. -/
theorem blk0_at (t : Fin cfg0.N) (r : Fin 512) (k : Fin 1536) (R : Fin 17408) (hR : R.val = t.val * 512 + r.val) :
    (iblk m c 0 t : FVec Ideal S512x1536 .f32) (ix2 r k) = joined (lat m c) (ctx m c) R k := by
  rw [← arrC_at]
  blk_ext [iblk, idx t]

/-- The staged gains. -/
theorem blk1_at (t : Fin cfg0.N) (j : Fin 1024) : (iblk m c 1 t : FVec Ideal S1x1024 .f32) (ix2 0 j) = gainQ m c (ix2 0 j) := by
  rw [← arrQ_at]
  blk_ext [iblk, idx t]
theorem blk2_at (t : Fin cfg0.N) (j : Fin 512) : (iblk m c 2 t : FVec Ideal S1x512 .f32) (ix2 0 j) = gainK m c (ix2 0 j) := by
  rw [← arrK_at]
  blk_ext [iblk, idx t]

/-- An entry of the first block that a grid point writes. -/
theorem pointQ (t : Fin cfg0.N) (y : S512x1024.Idx) (i : S17408x1024.Idx) (h0 : (i 0 : ℕ) = t.val * 512 + (y 0).val) (h1 : (i 1 : ℕ) = (y 1).val) :
    k0_pay2 (F := Ideal) (iblk m c 0 t) (iblk m c 1 t) y = resultQ m c i := by
  rw [show y = ix2 (y 0) (y 1) from eq_ix2 y]
  refine (pay2_at _ _ (y 0) (y 1)).trans ?_
  have hx : (fun k : Fin 1024 => (iblk m c 0 t : FVec Ideal S512x1536 .f32) (ix2 (y 0) ⟨k.val, by omega⟩)) =
      fun k => joined (lat m c) (ctx m c) (i 0) ⟨k.val, by omega⟩ :=
    funext fun k => blk0_at m c t (y 0) _ (i 0) h0
  have hj : y 1 = i 1 := Fin.ext h1.symm
  rw [hx, blk1_at m c t (y 1), hj]
  rfl

/-- The first array after the run. -/
theorem finalQ : (dats m 0 c).arrAt 3 cfg0.N = resultQ m c := by
  refine (dats m 0 c).arrAt_eq_of_covers 3 _ (by decide +kernel) fun t hf y => ?_
  blk_simp
  rw [after0_3]
  frame_out
  exact pointQ m c t y _ (by blk_simp [idx t]) (by blk_simp [idx t])

/-- An entry of the second block that a grid point writes. -/
theorem pointK (t : Fin cfg0.N) (y : S512x512.Idx) (i : S17408x512.Idx) (h0 : (i 0 : ℕ) = t.val * 512 + (y 0).val) (h1 : (i 1 : ℕ) = (y 1).val) :
    k0_pay3 (F := Ideal) (iblk m c 0 t) (iblk m c 2 t) y = resultK m c i := by
  rw [show y = ix2 (y 0) (y 1) from eq_ix2 y]
  refine (pay3_at _ _ (y 0) (y 1)).trans ?_
  have hx : (fun k : Fin 512 => (iblk m c 0 t : FVec Ideal S512x1536 .f32) (ix2 (y 0) ⟨1024 + k.val, by omega⟩)) =
      fun k => joined (lat m c) (ctx m c) (i 0) ⟨1024 + k.val, by omega⟩ :=
    funext fun k => blk0_at m c t (y 0) _ (i 0) h0
  have hj : y 1 = i 1 := Fin.ext h1.symm
  rw [hx, blk2_at m c t (y 1), hj]
  rfl

/-- The second array after the run. -/
theorem finalK : (dats m 0 c).arrAt 4 cfg0.N = resultK m c := by
  refine (dats m 0 c).arrAt_eq_of_covers 4 _ (by decide +kernel) fun t hf y => ?_
  blk_simp
  rw [after0_4]
  frame_out
  exact pointK m c t y _ (by blk_simp [idx t]) (by blk_simp [idx t])

end Cert.Kernel10Ideal.Norms

namespace Cert.Reference10Ideal.Norms

open Idealize.ShloMosaic Idealize.ShloMosaic.TcCoe Idealize.SL.Sem Cert.Reference10Ideal Cert.Reference10Ideal.Gen Cert.Norms

/-- The reference's run leaves the same two arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v69) = queries (m ((c : Thread nD τ).loc main_arg0)) (m ((c : Thread nD τ).loc main_arg1)) (m ((c : Thread nD τ).loc main_arg2))
      ∧ r.2.mem ((c : Thread nD τ).loc main_v71) = keys (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run _ _ _).mono (fun r h c => ⟨(h c).1.trans (funext fun i => ?_), (h c).2.1.trans (funext fun i => ?_), (h c).2.2⟩)
    (Cert.Reference10Ideal.Value.run (F := Ideal) m ρ)
  · obtain ⟨R, C, rfl⟩ : ∃ (R : Fin 17408) (C : Fin 1024), i = ix2 R C := ⟨i 0, i 1, eq_ix2 i⟩
    rw [queries_at]
    unfold scaled
    pointwise
  · obtain ⟨R, C, rfl⟩ : ∃ (R : Fin 17408) (C : Fin 512), i = ix2 R C := ⟨i 0, i 1, eq_ix2 i⟩
    rw [keys_at]
    unfold scaled
    pointwise

end Cert.Reference10Ideal.Norms

end
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Final
public import proofs.«01_k».proof.Proof.Reference
public import proofs.«01_k».proof.Proof.Finite
public import proofs.«01_k».proof.Proof.Up
public import proofs.«01_k».proof.Proof.Down
public import proofs.«01_k».proof.Proof.Project
public import proofs.«01_k».proof.Proof.Bounds
public import proofs.«01_k».proof.Proof.Out
public import proofs.«01_k».proof.Proof.Latents
public import proofs.«01_k».proof.Proof.KeysValues
public import proofs.«01_k».proof.Proof.Queries
public import proofs.«01_k».proof.Proof.RopeKey
public import proofs.«01_k».proof.Proof.Norms
public import Idealize.ShloMosaic.Adequacy
public import Idealize.ShloMosaic.Init

@[expose] public section

noncomputable section

namespace Cert.Proof

open Idealize.ShloMosaic Idealize.ShloMosaic.TcCoe Idealize.SL.Sem

/-- The shape facts of the precondition. -/
instance preFacts : Cert.Pre_finite.Facts where
  bcast_S_S4x4096x32x192 := by decide
  reducesTo_S4x4096x32x192_S_d0_1_2_3 := by decide
  h_S_ := by decide
  slices_S4x4096x32x256_S4x4096x32x128_0_0_0_0 := by decide
  bcast_S_S4x4096x32x128 := by decide
  reducesTo_S4x4096x32x128_S_d0_1_2_3 := by decide
  slices_S4x256x32x256_S4x256x32x128_0_0_0_0 := by decide
  bcast_S_S4x256x32x128 := by decide
  reducesTo_S4x256x32x128_S_d0_1_2_3 := by decide
  bcast_S_S4x4096x64 := by decide
  reducesTo_S4x4096x64_S_d0_1_2 := by decide
  bcast_S_S4x256x64 := by decide
  reducesTo_S4x256x64_S_d0_1_2 := by decide

/-- The shape fact of the mask. -/
instance maskFacts : Cert.On_latent_rows.Facts where
  bcast_S_S17408x4096 := by decide

/-- The shape facts of the precondition on the lower bounds. -/
instance boundsFacts : Cert.Pre_bounds.Facts where
  bcast_S_S2x4096 := by decide
  reducesTo_S2x4096_S_d0_1 := by decide
  h_S_ := by decide

/-- The kernel runs, leaves its arguments and ends with its counters at zero. -/
theorem frame_kernel : Cert.quiescent_Kernel := fun m ρ _ => Cert.Kernel.Gen.frame m ρ

/-- The same over the extended reals. -/
theorem frame_kernelIdeal : Cert.quiescent_KernelIdeal := fun m ρ _ => Cert.KernelIdeal.Gen.frame m ρ

/-- The same under the precondition of the value claim. -/
theorem frame_kernelIdeal_pre : Cert.quiescent_KernelIdeal_pre_finite := fun m ρ _ => Cert.KernelIdeal.Gen.frame m ρ

/-- The reference runs, leaves its arguments and ends with its counters at zero. -/
theorem frame_reference : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- The same under the precondition of the value claim. -/
theorem frame_reference_pre : Cert.quiescent_ReferenceIdeal_pre_finite := fun m ρ _ =>
  (θ_run _ _ _).mono (fun r h => ⟨fun c => (h c).2, sem_eq_zero_of_no_sems (by decide) r.2⟩) (Cert.ReferenceIdeal.Value.run (F := Ideal) m ρ)

section
open Cert.KernelIdeal Cert.KernelIdeal.Block

/-- The precondition makes the arguments that the scores read finite. -/
theorem finite_args (m : (ℓ : Loc nD τ sig) → Buf (Elt Ideal) ℓ) (h : Cert.Pre_KernelIdeal_finite m) (c : Dev nD) : FiniteArgs m c :=
  Cert.Finite.of_pre (arg0 m c) (arg1 m c) (arg2 m c) (arg3 m c) (arg4 m c) (arg5 m c) (h c)

/-- An entry of the result on a latent row, from its row and column. -/
theorem result_ix2 (m : (ℓ : Loc nD τ sig) → Buf (Elt Ideal) ℓ) (c : Dev nD) (R : Fin 17408) (C : Fin 4096) (hR : R.val < 16384) :
    result m c (ix2 R C) = Cert.Spec.spec (arg0 m c) (arg2 m c) (arg3 m c) (arg4 m c) (arg5 m c) ⟨R.val / 4096, by omega⟩ ⟨R.val % 4096, by omega⟩
      ⟨C.val / 128, by omega⟩ (C.val % 128) := by
  show Cert.Spec.spec _ _ _ _ _ ⟨R.val / 4096 % 4, _⟩ ⟨R.val % 4096, _⟩ ⟨C.val / 128 % 32, _⟩ (C.val % 128) = _
  congr 1
  · exact Fin.ext (Nat.mod_eq_of_lt (by omega))
  · exact Fin.ext (Nat.mod_eq_of_lt (by omega))

end

/-- On the latent rows the kernel and the plain attention leave the same array. -/
theorem value : Cert.algebraic_KernelIdeal_ReferenceIdeal_on_latent_rows_pre_finite := by
  intro m g m' g' hpre hagree
  refine ⟨fun c => Cert.KernelIdeal.Block.result m c, ?_, ?_⟩
  · refine (θ_run _ _ _).mono (fun r h c => ⟨fun i hi => ?_, (h c).2⟩) (Cert.KernelIdeal.Value.run_blocks (F := Ideal) m g)
    have hR : (i 0).val < 16384 := by
      rw [show i = ix2 (i 0) (i 1) from eq_ix2 i] at hi
      exact Cert.Finite.of_mask _ _ _ _ _ _ (i 0) (i 1) hi
    have hv := (h c).1.trans (Cert.KernelIdeal.Block.final (finite_args m hpre c))
    exact (congrFun hv i).trans (if_pos hR)
  · refine (θ_run _ _ _).mono (fun r h c => ⟨fun i hi => ?_, (h c).2⟩) (Cert.ReferenceIdeal.Value.run (F := Ideal) m' g')
    have hf := finite_args m hpre c
    obtain ⟨h0, -, h2, h3, h4, h5⟩ := hagree c
    rw [show i = ix2 (i 0) (i 1) from eq_ix2 i] at hi ⊢
    have hR : (i 0).val < 16384 := Cert.Finite.of_mask _ _ _ _ _ _ (i 0) (i 1) hi
    refine (congrFun (h c).1 _).trans ?_
    refine (Cert.ReferenceIdeal.Rows.res_spec m' c (i 0) (i 1) hR _ _ _ _ _ h0 h2 h3 h4 h5 hf.q hf.kv hf.k).trans ?_
    exact (result_ix2 m c (i 0) (i 1) hR).symm

/-- The MLP's first call runs, leaves its arguments and ends with its counters at zero. -/
theorem frame_kernel2 : Cert.quiescent_Kernel2 := fun m ρ _ => Cert.Kernel2.Gen.frame m ρ

/-- The same over the extended reals. -/
theorem frame_kernel2Ideal : Cert.quiescent_Kernel2Ideal := fun m ρ _ => Cert.Kernel2Ideal.Gen.frame m ρ

/-- Its reference runs, leaves its arguments and ends with its counters at zero. -/
theorem frame_reference2 : Cert.quiescent_Reference2Ideal := fun m ρ _ =>
  (θ_run _ _ _).mono (fun r h => ⟨fun c => (h c).2, sem_eq_zero_of_no_sems (by decide) r.2⟩) (Cert.Reference2Ideal.Value.run (F := Ideal) m ρ)

/-- The MLP's first call and its reference leave the same array. -/
theorem value2 : Cert.algebraic_Kernel2Ideal_Reference2Ideal := by
  intro m g m' g' _ hagree
  refine ⟨fun c => Cert.Kernel2Ideal.Up.result m c, ?_, ?_⟩
  · exact (θ_run _ _ _).mono (fun r h c => ⟨(h c).1.trans (Cert.Kernel2Ideal.Up.final m c), (h c).2⟩)
      (Cert.Kernel2Ideal.Value.run_blocks (F := Ideal) m g)
  · refine (θ_run _ _ _).mono (fun r h c => ⟨(h c).1.trans ?_, (h c).2⟩) (Cert.Reference2Ideal.Up.run m' g')
    obtain ⟨h0, h1, h2⟩ := hagree c
    rw [h0, h1, h2]
    rfl

/-- The MLP's second call runs, leaves its arguments and ends with its counters at zero. -/
theorem frame_kernel3 : Cert.quiescent_Kernel3 := fun m ρ _ => Cert.Kernel3.Gen.frame m ρ

/-- The same over the extended reals. -/
theorem frame_kernel3Ideal : Cert.quiescent_Kernel3Ideal := fun m ρ _ => Cert.Kernel3Ideal.Gen.frame m ρ

/-- Its reference runs, leaves its arguments and ends with its counters at zero. -/
theorem frame_reference3 : Cert.quiescent_Reference3Ideal := fun m ρ _ =>
  (θ_run _ _ _).mono (fun r h => ⟨fun c => (h c).2, sem_eq_zero_of_no_sems (by decide) r.2⟩) (Cert.Reference3Ideal.Value.run (F := Ideal) m ρ)

/-- The MLP's second call and its reference leave the same array. -/
theorem value3 : Cert.algebraic_Kernel3Ideal_Reference3Ideal := by
  intro m g m' g' _ hagree
  refine ⟨fun c => Cert.Kernel3Ideal.Down.result m c, ?_, ?_⟩
  · exact (θ_run _ _ _).mono (fun r h c => ⟨(h c).1.trans (Cert.Kernel3Ideal.Down.final m c), (h c).2⟩)
      (Cert.Kernel3Ideal.Value.run_blocks (F := Ideal) m g)
  · refine (θ_run _ _ _).mono (fun r h c => ⟨(h c).1.trans ?_, (h c).2⟩) (Cert.Reference3Ideal.Down.run m' g')
    obtain ⟨h0, h1, h2⟩ := hagree c
    rw [h0, h1, h2]
    rfl

/-- The recurrence's input projection runs, leaves its arguments and ends with its counters at zero. -/
theorem frame_kernel4 : Cert.quiescent_Kernel4 := fun m ρ _ => Cert.Kernel4.Gen.frame m ρ

/-- The same over the extended reals. -/
theorem frame_kernel4Ideal : Cert.quiescent_Kernel4Ideal := fun m ρ _ => Cert.Kernel4Ideal.Gen.frame m ρ

/-- The same under the precondition of the value claim. -/
theorem frame_kernel4Ideal_pre : Cert.quiescent_Kernel4Ideal_pre_bounds := fun m ρ _ => Cert.Kernel4Ideal.Gen.frame m ρ

/-- Its reference runs, leaves its arguments and ends with its counters at zero. -/
theorem frame_reference4 : Cert.quiescent_Reference4Ideal := fun m ρ _ =>
  (θ_run _ _ _).mono (fun r h => ⟨fun c => (h c).2, sem_eq_zero_of_no_sems (by decide) r.2⟩) (Cert.Reference4Ideal.Value.run (F := Ideal) m ρ)

/-- The same under the precondition of the value claim. -/
theorem frame_reference4_pre : Cert.quiescent_Reference4Ideal_pre_bounds := fun m ρ _ =>
  (θ_run _ _ _).mono (fun r h => ⟨fun c => (h c).2, sem_eq_zero_of_no_sems (by decide) r.2⟩) (Cert.Reference4Ideal.Value.run (F := Ideal) m ρ)

/-- The recurrence's input projection and its reference leave the same array. -/
theorem value4 : Cert.algebraic_Kernel4Ideal_Reference4Ideal_pre_bounds := by
  intro m g m' g' hpre hagree
  refine ⟨fun c => Cert.Kernel4Ideal.Project.result m c, ?_, ?_⟩
  · exact (θ_run _ _ _).mono (fun r h c => ⟨(h c).1.trans (Cert.Kernel4Ideal.Project.final m c (Cert.Bounds.of_pre _ _ _ _ (hpre c))), (h c).2⟩)
      (Cert.Kernel4Ideal.Value.run_blocks (F := Ideal) m g)
  · refine (θ_run _ _ _).mono (fun r h c => ⟨(h c).1.trans ?_, (h c).2⟩) (Cert.Reference4Ideal.Project.run m' g')
    obtain ⟨h0, h1, h2, h3⟩ := hagree c
    rw [h0, h1, h2, h3]
    rfl

/-- A mixer's output projection runs, leaves its arguments and ends with its counters at zero. -/
theorem frame_kernel5 : Cert.quiescent_Kernel5 := fun m ρ _ => Cert.Kernel5.Gen.frame m ρ

/-- The same over the extended reals. -/
theorem frame_kernel5Ideal : Cert.quiescent_Kernel5Ideal := fun m ρ _ => Cert.Kernel5Ideal.Gen.frame m ρ

/-- Its reference runs, leaves its arguments and ends with its counters at zero. -/
theorem frame_reference5 : Cert.quiescent_Reference5Ideal := fun m ρ _ =>
  (θ_run _ _ _).mono (fun r h => ⟨fun c => (h c).2, sem_eq_zero_of_no_sems (by decide) r.2⟩) (Cert.Reference5Ideal.Value.run (F := Ideal) m ρ)

/-- A mixer's output projection and its reference leave the same array. -/
theorem value5 : Cert.algebraic_Kernel5Ideal_Reference5Ideal := by
  intro m g m' g' _ hagree
  refine ⟨fun c => Cert.Kernel5Ideal.Out.result m c, ?_, ?_⟩
  · exact (θ_run _ _ _).mono (fun r h c => ⟨(h c).1.trans (Cert.Kernel5Ideal.Out.final m c), (h c).2⟩)
      (Cert.Kernel5Ideal.Value.run_blocks (F := Ideal) m g)
  · refine (θ_run _ _ _).mono (fun r h c => ⟨(h c).1.trans ?_, (h c).2⟩) (Cert.Reference5Ideal.Out.run m' g')
    obtain ⟨h0, h1, h2⟩ := hagree c
    rw [h0, h1, h2]
    rfl

/-- The down-projection to the latents runs, leaves its arguments and ends with its counters at zero. -/
theorem frame_kernel6 : Cert.quiescent_Kernel6 := fun m ρ _ => Cert.Kernel6.Gen.frame m ρ

/-- The same over the extended reals. -/
theorem frame_kernel6Ideal : Cert.quiescent_Kernel6Ideal := fun m ρ _ => Cert.Kernel6Ideal.Gen.frame m ρ

/-- Its reference runs, leaves its arguments and ends with its counters at zero. -/
theorem frame_reference6 : Cert.quiescent_Reference6Ideal := fun m ρ _ =>
  (θ_run _ _ _).mono (fun r h => ⟨fun c => (h c).2, sem_eq_zero_of_no_sems (by decide) r.2⟩) (Cert.Reference6Ideal.Value.run (F := Ideal) m ρ)

/-- The down-projection to the latents and its reference leave the same array. -/
theorem value6 : Cert.algebraic_Kernel6Ideal_Reference6Ideal := by
  intro m g m' g' _ hagree
  refine ⟨fun c => Cert.Kernel6Ideal.Latents.result m c, ?_, ?_⟩
  · exact (θ_run _ _ _).mono (fun r h c => ⟨(h c).1.trans (Cert.Kernel6Ideal.Latents.final m c), (h c).2⟩)
      (Cert.Kernel6Ideal.Value.run_blocks (F := Ideal) m g)
  · refine (θ_run _ _ _).mono (fun r h c => ⟨(h c).1.trans ?_, (h c).2⟩) (Cert.Reference6Ideal.Latents.run m' g')
    obtain ⟨h0, h1, h2⟩ := hagree c
    rw [h0, h1, h2]
    rfl

/-- The projection to the keys and values runs, leaves its arguments and ends with its counters at zero. -/
theorem frame_kernel7 : Cert.quiescent_Kernel7 := fun m ρ _ => Cert.Kernel7.Gen.frame m ρ

/-- The same over the extended reals. -/
theorem frame_kernel7Ideal : Cert.quiescent_Kernel7Ideal := fun m ρ _ => Cert.Kernel7Ideal.Gen.frame m ρ

/-- Its reference runs, leaves its arguments and ends with its counters at zero. -/
theorem frame_reference7 : Cert.quiescent_Reference7Ideal := fun m ρ _ =>
  (θ_run _ _ _).mono (fun r h => ⟨fun c => (h c).2, sem_eq_zero_of_no_sems (by decide) r.2⟩) (Cert.Reference7Ideal.Value.run (F := Ideal) m ρ)

/-- The projection to the keys and values and its reference leave the same array. -/
theorem value7 : Cert.algebraic_Kernel7Ideal_Reference7Ideal := by
  intro m g m' g' _ hagree
  refine ⟨fun c => Cert.Kernel7Ideal.KeysValues.result m c, ?_, ?_⟩
  · exact (θ_run _ _ _).mono (fun r h c => ⟨(h c).1.trans (Cert.Kernel7Ideal.KeysValues.final m c), (h c).2⟩)
      (Cert.Kernel7Ideal.Value.run_blocks (F := Ideal) m g)
  · refine (θ_run _ _ _).mono (fun r h c => ⟨(h c).1.trans ?_, (h c).2⟩) (Cert.Reference7Ideal.KeysValues.run m' g')
    obtain ⟨h0, h1, h2⟩ := hagree c
    rw [h0, h1, h2]
    rfl

/-- The projection of the queries runs, leaves its arguments and ends with its counters at zero. -/
theorem frame_kernel8 : Cert.quiescent_Kernel8 := fun m ρ _ => Cert.Kernel8.Gen.frame m ρ

/-- The same over the extended reals. -/
theorem frame_kernel8Ideal : Cert.quiescent_Kernel8Ideal := fun m ρ _ => Cert.Kernel8Ideal.Gen.frame m ρ

/-- Its reference runs, leaves its arguments and ends with its counters at zero. -/
theorem frame_reference8 : Cert.quiescent_Reference8Ideal := fun m ρ _ =>
  (θ_run _ _ _).mono (fun r h => ⟨fun c => (h c).2, sem_eq_zero_of_no_sems (by decide) r.2⟩) (Cert.Reference8Ideal.Value.run (F := Ideal) m ρ)

/-- The projection of the queries and its reference leave the same array. -/
theorem value8 : Cert.algebraic_Kernel8Ideal_Reference8Ideal := by
  intro m g m' g' _ hagree
  refine ⟨fun c => Cert.Kernel8Ideal.Queries.result m c, ?_, ?_⟩
  · exact (θ_run _ _ _).mono (fun r h c => ⟨(h c).1.trans (Cert.Kernel8Ideal.Queries.final m c), (h c).2⟩)
      (Cert.Kernel8Ideal.Value.run_blocks (F := Ideal) m g)
  · refine (θ_run _ _ _).mono (fun r h c => ⟨(h c).1.trans ?_, (h c).2⟩) (Cert.Reference8Ideal.Queries.run m' g')
    obtain ⟨h0, h1, h2⟩ := hagree c
    rw [h0, h1, h2]
    rfl

/-- The projection of the rotary key runs, leaves its arguments and ends with its counters at zero. -/
theorem frame_kernel9 : Cert.quiescent_Kernel9 := fun m ρ _ => Cert.Kernel9.Gen.frame m ρ

/-- The same over the extended reals. -/
theorem frame_kernel9Ideal : Cert.quiescent_Kernel9Ideal := fun m ρ _ => Cert.Kernel9Ideal.Gen.frame m ρ

/-- Its reference runs, leaves its arguments and ends with its counters at zero. -/
theorem frame_reference9 : Cert.quiescent_Reference9Ideal := fun m ρ _ =>
  (θ_run _ _ _).mono (fun r h => ⟨fun c => (h c).2, sem_eq_zero_of_no_sems (by decide) r.2⟩) (Cert.Reference9Ideal.Value.run (F := Ideal) m ρ)

/-- The projection of the rotary key and its reference leave the same array. -/
theorem value9 : Cert.algebraic_Kernel9Ideal_Reference9Ideal := by
  intro m g m' g' _ hagree
  refine ⟨fun c => Cert.Kernel9Ideal.RopeKey.result m c, ?_, ?_⟩
  · exact (θ_run _ _ _).mono (fun r h c => ⟨(h c).1.trans (Cert.Kernel9Ideal.RopeKey.final m c), (h c).2⟩)
      (Cert.Kernel9Ideal.Value.run_blocks (F := Ideal) m g)
  · refine (θ_run _ _ _).mono (fun r h c => ⟨(h c).1.trans ?_, (h c).2⟩) (Cert.Reference9Ideal.RopeKey.run m' g')
    obtain ⟨h0, h1, h2⟩ := hagree c
    rw [h0, h1, h2]
    rfl

/-- The norms of the latents run, leave their arguments and end with their counters at zero. -/
theorem frame_kernel10 : Cert.quiescent_Kernel10 := fun m ρ _ => Cert.Kernel10.Gen.frame m ρ

/-- The same over the extended reals. -/
theorem frame_kernel10Ideal : Cert.quiescent_Kernel10Ideal := fun m ρ _ => Cert.Kernel10Ideal.Gen.frame m ρ

/-- Their reference runs, leaves its arguments and ends with its counters at zero. -/
theorem frame_reference10 : Cert.quiescent_Reference10Ideal := fun m ρ _ =>
  (θ_run _ _ _).mono (fun r h => ⟨fun c => (h c).2.2, sem_eq_zero_of_no_sems (by decide) r.2⟩) (Cert.Reference10Ideal.Value.run (F := Ideal) m ρ)

/-- The norms of the latents and their reference leave the same two arrays. -/
theorem value10 : Cert.algebraic_Kernel10Ideal_Reference10Ideal := by
  intro m g m' g' _ hagree
  refine ⟨fun c => Cert.Kernel10Ideal.Norms.resultQ m c, fun c => Cert.Kernel10Ideal.Norms.resultK m c, ?_, ?_⟩
  · exact (θ_run _ _ _).mono (fun r h c => ⟨(h c).1.trans (Cert.Kernel10Ideal.Norms.finalQ m c), (h c).2.1.trans (Cert.Kernel10Ideal.Norms.finalK m c), (h c).2.2⟩)
      (Cert.Kernel10Ideal.Value.run_blocks (F := Ideal) m g)
  · refine (θ_run _ _ _).mono (fun r h c => ⟨(h c).1.trans ?_, (h c).2.1.trans ?_, (h c).2.2⟩) (Cert.Reference10Ideal.Norms.run m' g')
    · obtain ⟨h0, h1, h2, h3⟩ := hagree c
      rw [h0, h1, h2]
      rfl
    · obtain ⟨h0, h1, h2, h3⟩ := hagree c
      rw [h0, h1, h3]
      rfl

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  preFacts, boundsFacts, maskFacts,
  frame_kernel, frame_kernelIdeal, frame_kernelIdeal_pre, frame_reference, frame_reference_pre,
  frame_kernel2, frame_kernel2Ideal, frame_reference2,
  frame_kernel3, frame_kernel3Ideal, frame_reference3,
  frame_kernel4, frame_kernel4Ideal, frame_kernel4Ideal_pre, frame_reference4, frame_reference4_pre,
  frame_kernel5, frame_kernel5Ideal, frame_reference5,
  frame_kernel6, frame_kernel6Ideal, frame_reference6,
  frame_kernel7, frame_kernel7Ideal, frame_reference7,
  frame_kernel8, frame_kernel8Ideal, frame_reference8,
  frame_kernel9, frame_kernel9Ideal, frame_reference9,
  frame_kernel10, frame_kernel10Ideal, frame_reference10,
  trivial, value, trivial, value2, trivial, value3, trivial, value4, trivial, value5, trivial, value6, trivial, value7,
  trivial, value8, trivial, value9, trivial, value10⟩

end Cert.Proof

end
